-- ==== Defs.lean ====
def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradReferenceIdeal (m : (ℓ : Loc Cert.DgradReferenceIdeal.nD Cert.DgradReferenceIdeal.τ Cert.DgradReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2)
      ∧ r.2.mem ((c.tc : Thread Cert.Dgrad.nD Cert.Dgrad.τ).loc Cert.Dgrad.main_arg3) = m ((c.tc : Thread Cert.Dgrad.nD Cert.Dgrad.τ).loc Cert.Dgrad.main_arg3)
      ∧ r.2.mem ((c.tc : Thread Cert.Dgrad.nD Cert.Dgrad.τ).loc Cert.Dgrad.main_arg4) = m ((c.tc : Thread Cert.Dgrad.nD Cert.Dgrad.τ).loc Cert.Dgrad.main_arg4))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
      ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
      ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4))
      ∧ r.2.sem = fun _ => 0)

def quiescent_DgradReferenceIdeal [hDgradReferenceIdeal : Cert.DgradReferenceIdeal.Facts] : Prop :=
  ∀ (m : (ℓ : Loc Cert.DgradReferenceIdeal.nD Cert.DgradReferenceIdeal.τ Cert.DgradReferenceIdeal.sig) → Buf (Elt Ideal) ℓ) (g : Dev Cert.DgradReferenceIdeal.nD → PrngReg), Pre_DgradReferenceIdeal m →
    θ_run (Cert.DgradReferenceIdeal.defs (F := Ideal)) (onTc (τ := Cert.DgradReferenceIdeal.τ) (Cert.DgradReferenceIdeal.main (F := Ideal))) ⟨m, fun _ => 0, g⟩ (fun r => (∀ c : Dev Cert.DgradReferenceIdeal.nD,
      r.2.mem ((c.tc : Thread Cert.DgradReferenceIdeal.nD Cert.DgradReferenceIdeal.τ).loc Cert.DgradReferenceIdeal.main_arg0) = m ((c.tc : Thread Cert.DgradReferenceIdeal.nD Cert.DgradReferenceIdeal.τ).loc Cert.DgradReferenceIdeal.main_arg0)
      ∧ r.2.mem ((c.tc : Thread Cert.DgradReferenceIdeal.nD Cert.DgradReferenceIdeal.τ).loc Cert.DgradReferenceIdeal.main_arg1) = m ((c.tc : Thread Cert.DgradReferenceIdeal.nD Cert.DgradReferenceIdeal.τ).loc Cert.DgradReferenceIdeal.main_arg1)
      ∧ r.2.mem ((c.tc : Thread Cert.DgradReferenceIdeal.nD Cert.DgradReferenceIdeal.τ).loc Cert.DgradReferenceIdeal.main_arg2) = m ((c.tc : Thread Cert.DgradReferenceIdeal.nD Cert.DgradReferenceIdeal.τ).loc Cert.DgradReferenceIdeal.main_arg2)
      ∧ r.2.mem ((c.tc : Thread Cert.DgradReferenceIdeal.nD Cert.DgradReferenceIdeal.τ).loc Cert.DgradReferenceIdeal.main_arg3) = m ((c.tc : Thread Cert.DgradReferenceIdeal.nD Cert.DgradReferenceIdeal.τ).loc Cert.DgradReferenceIdeal.main_arg3)
      ∧ r.2.mem ((c.tc : Thread Cert.DgradReferenceIdeal.nD Cert.DgradReferenceIdeal.τ).loc Cert.DgradReferenceIdeal.main_arg4) = m ((c.tc : Thread Cert.DgradReferenceIdeal.nD Cert.DgradReferenceIdeal.τ).loc Cert.DgradReferenceIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Dgrad_DgradIdeal : Prop :=
  True

def algebraic_DgradIdeal_DgradReferenceIdeal [hDgradIdeal : Cert.DgradIdeal.Facts] [hDgradReferenceIdeal : Cert.DgradReferenceIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradReferenceIdeal.nD Cert.DgradReferenceIdeal.τ Cert.DgradReferenceIdeal.sig) → Buf (Elt Ideal) ℓ) (g' : Dev Cert.DgradReferenceIdeal.nD → PrngReg), Pre_DgradIdeal m →
    (∀ c : Dev Cert.DgradIdeal.nD,
      m' ((c.tc : Thread Cert.DgradReferenceIdeal.nD Cert.DgradReferenceIdeal.τ).loc Cert.DgradReferenceIdeal.main_arg0) = m ((c.tc : Thread Cert.DgradIdeal.nD Cert.DgradIdeal.τ).loc Cert.DgradIdeal.main_arg0)
      ∧ m' ((c.tc : Thread Cert.DgradReferenceIdeal.nD Cert.DgradReferenceIdeal.τ).loc Cert.DgradReferenceIdeal.main_arg1) = m ((c.tc : Thread Cert.DgradIdeal.nD Cert.DgradIdeal.τ).loc Cert.DgradIdeal.main_arg1)
      ∧ m' ((c.tc : Thread Cert.DgradReferenceIdeal.nD Cert.DgradReferenceIdeal.τ).loc Cert.DgradReferenceIdeal.main_arg2) = m ((c.tc : Thread Cert.DgradIdeal.nD Cert.DgradIdeal.τ).loc Cert.DgradIdeal.main_arg2)
      ∧ m' ((c.tc : Thread Cert.DgradReferenceIdeal.nD Cert.DgradReferenceIdeal.τ).loc Cert.DgradReferenceIdeal.main_arg3) = m ((c.tc : Thread Cert.DgradIdeal.nD Cert.DgradIdeal.τ).loc Cert.DgradIdeal.main_arg3)
      ∧ m' ((c.tc : Thread Cert.DgradReferenceIdeal.nD Cert.DgradReferenceIdeal.τ).loc Cert.DgradReferenceIdeal.main_arg4) = m ((c.tc : Thread Cert.DgradIdeal.nD Cert.DgradIdeal.τ).loc Cert.DgradIdeal.main_arg4)) →
    ∃ (v0 : (c : Dev Cert.DgradIdeal.nD) → Buf (Elt Ideal) ((c.tc : Thread Cert.DgradIdeal.nD Cert.DgradIdeal.τ).loc Cert.DgradIdeal.main_v0_0)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v0_0) = v0 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
          ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
          ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4))
      ∧ θ_run (Cert.DgradReferenceIdeal.defs (F := Ideal)) (onTc (τ := Cert.DgradReferenceIdeal.τ) (Cert.DgradReferenceIdeal.main (F := Ideal))) ⟨m', fun _ => 0, g'⟩ (fun r => ∀ c : Dev Cert.DgradReferenceIdeal.nD,
          r.2.mem ((c.tc : Thread Cert.DgradReferenceIdeal.nD Cert.DgradReferenceIdeal.τ).loc Cert.DgradReferenceIdeal.main_v0) = v0 c
          ∧ r.2.mem ((c.tc : Thread Cert.DgradReferenceIdeal.nD Cert.DgradReferenceIdeal.τ).loc Cert.DgradReferenceIdeal.main_arg0) = m' ((c.tc : Thread Cert.DgradReferenceIdeal.nD Cert.DgradReferenceIdeal.τ).loc Cert.DgradReferenceIdeal.main_arg0)
          ∧ r.2.mem ((c.tc : Thread Cert.DgradReferenceIdeal.nD Cert.DgradReferenceIdeal.τ).loc Cert.DgradReferenceIdeal.main_arg1) = m' ((c.tc : Thread Cert.DgradReferenceIdeal.nD Cert.DgradReferenceIdeal.τ).loc Cert.DgradReferenceIdeal.main_arg1)
          ∧ r.2.mem ((c.tc : Thread Cert.DgradReferenceIdeal.nD Cert.DgradReferenceIdeal.τ).loc Cert.DgradReferenceIdeal.main_arg2) = m' ((c.tc : Thread Cert.DgradReferenceIdeal.nD Cert.DgradReferenceIdeal.τ).loc Cert.DgradReferenceIdeal.main_arg2)
          ∧ r.2.mem ((c.tc : Thread Cert.DgradReferenceIdeal.nD Cert.DgradReferenceIdeal.τ).loc Cert.DgradReferenceIdeal.main_arg3) = m' ((c.tc : Thread Cert.DgradReferenceIdeal.nD Cert.DgradReferenceIdeal.τ).loc Cert.DgradReferenceIdeal.main_arg3)
          ∧ r.2.mem ((c.tc : Thread Cert.DgradReferenceIdeal.nD Cert.DgradReferenceIdeal.τ).loc Cert.DgradReferenceIdeal.main_arg4) = m' ((c.tc : Thread Cert.DgradReferenceIdeal.nD Cert.DgradReferenceIdeal.τ).loc Cert.DgradReferenceIdeal.main_arg4))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hDgrad : Cert.Dgrad.Facts) (hDgradIdeal : Cert.DgradIdeal.Facts) (hDgradReferenceIdeal : Cert.DgradReferenceIdeal.Facts) (hKernel : Cert.Kernel.Facts) (hKernelIdeal : Cert.KernelIdeal.Facts) (hReferenceIdeal : Cert.ReferenceIdeal.Facts),
    quiescent_Dgrad (hDgrad := hDgrad)
    ∧ quiescent_DgradIdeal (hDgradIdeal := hDgradIdeal)
    ∧ quiescent_DgradReferenceIdeal (hDgradReferenceIdeal := hDgradReferenceIdeal)
    ∧ quiescent_Kernel (hKernel := hKernel)
    ∧ quiescent_KernelIdeal (hKernelIdeal := hKernelIdeal)
    ∧ quiescent_ReferenceIdeal (hReferenceIdeal := hReferenceIdeal)
    ∧ preserves_Dgrad_DgradIdeal
    ∧ algebraic_DgradIdeal_DgradReferenceIdeal (hDgradIdeal := hDgradIdeal) (hDgradReferenceIdeal := hDgradReferenceIdeal)
    ∧ preserves_Kernel_KernelIdeal
    ∧ algebraic_KernelIdeal_ReferenceIdeal (hKernelIdeal := hKernelIdeal) (hReferenceIdeal := hReferenceIdeal)
-- ==== Dgrad.lean ====
abbrev S12288x4096 : Shape := ⟨2, ![12288, 4096]⟩
abbrev S1x4096 : Shape := ⟨2, ![1, 4096]⟩
abbrev S4096x11008 : Shape := ⟨2, ![4096, 11008]⟩
abbrev S32x86 : Shape := ⟨2, ![32, 86]⟩
abbrev S12288x11008 : Shape := ⟨2, ![12288, 11008]⟩
abbrev S96x4096 : Shape := ⟨2, ![96, 4096]⟩
abbrev S12288x86 : Shape := ⟨2, ![12288, 86]⟩
abbrev S96x11008 : Shape := ⟨2, ![96, 11008]⟩
abbrev S4096x12288 : Shape := ⟨2, ![4096, 12288]⟩
abbrev S128x5504 : Shape := ⟨2, ![128, 5504]⟩
abbrev S128x4096 : Shape := ⟨2, ![128, 4096]⟩
abbrev S512x512 : Shape := ⟨2, ![512, 512]⟩
abbrev S1x512 : Shape := ⟨2, ![1, 512]⟩
abbrev S1x2048 : Shape := ⟨2, ![1, 2048]⟩
abbrev S512x11008 : Shape := ⟨2, ![512, 11008]⟩
abbrev S128x2048 : Shape := ⟨2, ![128, 2048]⟩
abbrev S8x4096 : Shape := ⟨2, ![8, 4096]⟩
abbrev S128x86 : Shape := ⟨2, ![128, 86]⟩
abbrev S8x11008 : Shape := ⟨2, ![8, 11008]⟩
abbrev S2048x128 : Shape := ⟨2, ![2048, 128]⟩
abbrev S2x512x11008 : Shape := ⟨3, ![2, 512, 11008]⟩
abbrev S8x512x512 : Shape := ⟨3, ![8, 512, 512]⟩
abbrev S3x512x128 : Shape := ⟨3, ![3, 512, 128]⟩
abbrev S2x512x128 : Shape := ⟨3, ![2, 512, 128]⟩
abbrev S8x128 : Shape := ⟨2, ![8, 128]⟩
abbrev S1x512x512 : Shape := ⟨3, ![1, 512, 512]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S1x128 : Shape := ⟨2, ![1, 128]⟩
abbrev S1x64x128 : Shape := ⟨3, ![1, 64, 128]⟩
abbrev S64x128 : Shape := ⟨2, ![64, 128]⟩
abbrev S64x1 : Shape := ⟨2, ![64, 1]⟩
abbrev S64 : Shape := ⟨1, ![64]⟩
abbrev S64x512 : Shape := ⟨2, ![64, 512]⟩
abbrev S1x64x512 : Shape := ⟨3, ![1, 64, 512]⟩
abbrev S1x512x256 : Shape := ⟨3, ![1, 512, 256]⟩
abbrev S512x256 : Shape := ⟨2, ![512, 256]⟩
abbrev S1x1 : Shape := ⟨2, ![1, 1]⟩
abbrev S128x256 : Shape := ⟨2, ![128, 256]⟩
abbrev S512 : Shape := ⟨1, ![512]⟩

abbrev nBuf : Space → Nat
  | .hbm => 14
  | .vmem => 35
  | .smem => 1
  | _ => 0

abbrev bufTy : (tb : Table) → Fin (tcTables nBuf tb) → BufTy
  | .hbm, ⟨0, _⟩ => ⟨S12288x4096, .bf16⟩
  | .hbm, ⟨1, _⟩ => ⟨S1x4096, .f32⟩
  | .hbm, ⟨2, _⟩ => ⟨S4096x11008, .fp8e4m3⟩
  | .hbm, ⟨3, _⟩ => ⟨S32x86, .f32⟩
  | .hbm, ⟨4, _⟩ => ⟨S12288x11008, .bf16⟩
  | .hbm, ⟨5, _⟩ => ⟨S12288x4096, .bf16⟩
  | .hbm, ⟨6, _⟩ => ⟨S1x4096, .f32⟩
  | .hbm, ⟨7, _⟩ => ⟨S12288x4096, .fp8e4m3⟩
  | .hbm, ⟨8, _⟩ => ⟨S96x4096, .f32⟩
  | .hbm, ⟨9, _⟩ => ⟨S12288x11008, .fp8e5m2⟩
  | .hbm, ⟨10, _⟩ => ⟨S12288x86, .f32⟩
  | .hbm, ⟨11, _⟩ => ⟨S12288x11008, .fp8e5m2⟩
  | .hbm, ⟨12, _⟩ => ⟨S96x11008, .f32⟩
  | .hbm, ⟨13, _⟩ => ⟨S4096x12288, .bf16⟩
  | .local _ .vmem, ⟨0, _⟩ => ⟨S128x5504, .bf16⟩
  | .local _ .vmem, ⟨1, _⟩ => ⟨S128x5504, .bf16⟩
  | .local _ .vmem, ⟨2, _⟩ => ⟨S128x4096, .bf16⟩
  | .local _ .vmem, ⟨3, _⟩ => ⟨S128x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x2048, .f32⟩
  | .local _ .vmem, ⟨11, _⟩ => ⟨S1x2048, .f32⟩
  | .local _ .vmem, ⟨12, _⟩ => ⟨S512x11008, .fp8e4m3⟩
  | .local _ .vmem, ⟨13, _⟩ => ⟨S512x11008, .fp8e4m3⟩
  | .local _ .vmem, ⟨14, _⟩ => ⟨S512x512, .bf16⟩
  | .local _ .vmem, ⟨15, _⟩ => ⟨S512x512, .bf16⟩
  | .local _ .vmem, ⟨16, _⟩ => ⟨S1x4096, .f32⟩
  | .local _ .vmem, ⟨17, _⟩ => ⟨S128x2048, .fp8e4m3⟩
  | .local _ .vmem, ⟨18, _⟩ => ⟨S128x2048, .fp8e4m3⟩
  | .local _ .vmem, ⟨19, _⟩ => ⟨S8x4096, .f32⟩
  | .local _ .vmem, ⟨20, _⟩ => ⟨S8x4096, .f32⟩
  | .local _ .vmem, ⟨21, _⟩ => ⟨S128x5504, .fp8e5m2⟩
  | .local _ .vmem, ⟨22, _⟩ => ⟨S128x5504, .fp8e5m2⟩
  | .local _ .vmem, ⟨23, _⟩ => ⟨S128x86, .f32⟩
  | .local _ .vmem, ⟨24, _⟩ => ⟨S128x86, .f32⟩
  | .local _ .vmem, ⟨25, _⟩ => ⟨S128x5504, .fp8e5m2⟩
  | .local _ .vmem, ⟨26, _⟩ => ⟨S128x5504, .fp8e5m2⟩
  | .local _ .vmem, ⟨27, _⟩ => ⟨S8x11008, .f32⟩
  | .local _ .vmem, ⟨28, _⟩ => ⟨S8x11008, .f32⟩
  | .local _ .vmem, ⟨29, _⟩ => ⟨S2048x128, .bf16⟩
  | .local _ .vmem, ⟨30, _⟩ => ⟨S2048x128, .bf16⟩
  | .local _ .vmem, ⟨31, _⟩ => ⟨S2x512x11008, .bf16⟩
  | .local _ .vmem, ⟨32, _⟩ => ⟨S8x512x512, .f32⟩
  | .local _ .vmem, ⟨33, _⟩ => ⟨S3x512x128, .f32⟩
  | .local _ .vmem, ⟨34, _⟩ => ⟨S2x512x128, .f32⟩
  | .local _ .smem, ⟨0, _⟩ => ⟨S32x86, .f32⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![26, 8], ![false, false]⟩

def k0_mult1 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32_0 : BitVec 32 := 2#32
  let v4 : BitVec 32 := Scalar.divsi v2 c2_i32_0
  let c128_i32 : BitVec 32 := 128#32
  let v8 : BitVec 32 := Scalar.muli v4 c128_i32
  v8
def k0_cond1 (i : grid0.Coords) : BitVec 1 :=
  let arg0 : BitVec 32 := BitVec.ofNat 32 (i 0).val
  let c0_i32 : BitVec 32 := 0#32
  let v21 : BitVec 1 := Scalar.cmpi .eq arg0 c0_i32
  let arg1 : BitVec 32 := BitVec.ofNat 32 (i 1).val
  let c0_i32_7 : BitVec 32 := 0#32
  let v22 : BitVec 1 := Scalar.cmpi .eq arg1 c0_i32_7
  let v23 : BitVec 1 := Scalar.andi v21 v22
  let v24 : BitVec 32 := Scalar.extui v23
  let c0_i32_8 : BitVec 32 := 0#32
  let v25 : BitVec 1 := Scalar.cmpi .ne v24 c0_i32_8
  v25

@[reducible] def k0_t1_loop : Scf.Loop 32 :=
  let c0_i32_31 : BitVec 32 := 0#32
  let c8_i32_32 : BitVec 32 := 8#32
  let v54 : BitVec 32 := Scalar.addi c0_i32_31 c8_i32_32
  let c1_i32_33 : BitVec 32 := 1#32
  ⟨c0_i32_31, v54, c1_i32_33⟩
def k0_off1 (k0_t1 : Fin k0_t1_loop.trips) : Fin 3 → Nat :=
  let c0_i32_31 : BitVec 32 := 0#32
  let c1_i32_33 : BitVec 32 := 1#32
  let arg23 : BitVec 32 := Scf.iv c0_i32_31 c1_i32_33 k0_t1
  let v56 : Index := Scalar.indexCast arg23
  let c0_36 : Index := 0#32
  let c0_37 : Index := 0#32
  ![v56.toNat, 0, 0]
def k0_cond4 (i : grid0.Coords) : BitVec 1 :=
  let arg0 : BitVec 32 := BitVec.ofNat 32 (i 0).val
  let c0_i32_11 : BitVec 32 := 0#32
  let v29 : BitVec 1 := Scalar.cmpi .eq arg0 c0_i32_11
  let v30 : BitVec 32 := Scalar.extui v29
  let c0_i32_12 : BitVec 32 := 0#32
  let v31 : BitVec 1 := Scalar.cmpi .ne v30 c0_i32_12
  v31

def k0_off2 (i : grid0.Coords) : Fin 3 → Nat :=
  let arg0 : BitVec 32 := BitVec.ofNat 32 (i 0).val
  let c3_i32 : BitVec 32 := 3#32
  let v13 : BitVec 32 := Scalar.remsi arg0 c3_i32
  let v178 : Index := Scalar.indexCast v13
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32_0 : BitVec 32 := 2#32
  let v4 : BitVec 32 := Scalar.divsi v2 c2_i32_0
  let c128_i32 : BitVec 32 := 128#32
  let v8 : BitVec 32 := Scalar.muli v4 c128_i32
  let v9 : BitVec 32 := v8
  let v179 : Index := Scalar.indexCast v9
  let c0_53 : Index := 0#32
  ![v178.toNat, v179.toNat, 0]
def k0_mult2 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32 : BitVec 32 := 5504#32
  let v216 : BitVec 32 := Scalar.muli v3 c5504_i32
  let c0_i32_67 : BitVec 32 := 0#32
  let v217 : BitVec 32 := Scalar.addi v216 c0_i32_67
  v217
def k0_off3 (i : grid0.Coords) (c0_i32_67 : BitVec 32) : Fin 3 → Nat :=
  let arg0 : BitVec 32 := BitVec.ofNat 32 (i 0).val
  let c2_i32_1 : BitVec 32 := 2#32
  let v10 : BitVec 32 := Scalar.remsi arg0 c2_i32_1
  let v223 : Index := Scalar.indexCast v10
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32_0 : BitVec 32 := 2#32
  let v4 : BitVec 32 := Scalar.divsi v2 c2_i32_0
  let c128_i32 : BitVec 32 := 128#32
  let v8 : BitVec 32 := Scalar.muli v4 c128_i32
  let v9 : BitVec 32 := v8
  let v224 : Index := Scalar.indexCast v9
  let c2_i32 : BitVec 32 := 2#32
  let v3 : BitVec 32 := Scalar.remsi v2 c2_i32
  let c5504_i32 : BitVec 32 := 5504#32
  let v216 : BitVec 32 := Scalar.muli v3 c5504_i32
  let v217 : BitVec 32 := Scalar.addi v216 c0_i32_67
  let v218 : BitVec 32 := v217
  let v225 : Index := Scalar.indexCast v218
  ![v223.toNat, v224.toNat, v225.toNat]
def k0_off4 (i : grid0.Coords) (c0_i32_67 : BitVec 32) : Fin 2 → Nat :=
  let c0_79 : Index := 0#32
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32 : BitVec 32 := 5504#32
  let v216 : BitVec 32 := Scalar.muli v3 c5504_i32
  let v217 : BitVec 32 := Scalar.addi v216 c0_i32_67
  let v218 : BitVec 32 := v217
  let v262 : Index := Scalar.indexCast v218
  ![0, v262.toNat]
def k0_mult3 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_94 : BitVec 32 := 5504#32
  let v301 : BitVec 32 := Scalar.muli v3 c5504_i32_94
  let c128_i32_95 : BitVec 32 := 128#32
  let v302 : BitVec 32 := Scalar.addi v301 c128_i32_95
  v302
def k0_mult4 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_122 : BitVec 32 := 5504#32
  let v386 : BitVec 32 := Scalar.muli v3 c5504_i32_122
  let c256_i32 : BitVec 32 := 256#32
  let v387 : BitVec 32 := Scalar.addi v386 c256_i32
  v387
def k0_mult5 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_149 : BitVec 32 := 5504#32
  let v471 : BitVec 32 := Scalar.muli v3 c5504_i32_149
  let c384_i32 : BitVec 32 := 384#32
  let v472 : BitVec 32 := Scalar.addi v471 c384_i32
  v472
def k0_mult6 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_176 : BitVec 32 := 5504#32
  let v556 : BitVec 32 := Scalar.muli v3 c5504_i32_176
  let c512_i32 : BitVec 32 := 512#32
  let v557 : BitVec 32 := Scalar.addi v556 c512_i32
  v557
def k0_mult7 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_203 : BitVec 32 := 5504#32
  let v641 : BitVec 32 := Scalar.muli v3 c5504_i32_203
  let c640_i32 : BitVec 32 := 640#32
  let v642 : BitVec 32 := Scalar.addi v641 c640_i32
  v642
def k0_mult8 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_230 : BitVec 32 := 5504#32
  let v726 : BitVec 32 := Scalar.muli v3 c5504_i32_230
  let c768_i32 : BitVec 32 := 768#32
  let v727 : BitVec 32 := Scalar.addi v726 c768_i32
  v727
def k0_mult9 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_257 : BitVec 32 := 5504#32
  let v811 : BitVec 32 := Scalar.muli v3 c5504_i32_257
  let c896_i32 : BitVec 32 := 896#32
  let v812 : BitVec 32 := Scalar.addi v811 c896_i32
  v812
def k0_mult10 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_284 : BitVec 32 := 5504#32
  let v896 : BitVec 32 := Scalar.muli v3 c5504_i32_284
  let c1024_i32 : BitVec 32 := 1024#32
  let v897 : BitVec 32 := Scalar.addi v896 c1024_i32
  v897
def k0_mult11 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_311 : BitVec 32 := 5504#32
  let v981 : BitVec 32 := Scalar.muli v3 c5504_i32_311
  let c1152_i32 : BitVec 32 := 1152#32
  let v982 : BitVec 32 := Scalar.addi v981 c1152_i32
  v982
def k0_mult12 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_338 : BitVec 32 := 5504#32
  let v1066 : BitVec 32 := Scalar.muli v3 c5504_i32_338
  let c1280_i32 : BitVec 32 := 1280#32
  let v1067 : BitVec 32 := Scalar.addi v1066 c1280_i32
  v1067
def k0_mult13 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_365 : BitVec 32 := 5504#32
  let v1151 : BitVec 32 := Scalar.muli v3 c5504_i32_365
  let c1408_i32 : BitVec 32 := 1408#32
  let v1152 : BitVec 32 := Scalar.addi v1151 c1408_i32
  v1152
def k0_mult14 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_392 : BitVec 32 := 5504#32
  let v1236 : BitVec 32 := Scalar.muli v3 c5504_i32_392
  let c1536_i32 : BitVec 32 := 1536#32
  let v1237 : BitVec 32 := Scalar.addi v1236 c1536_i32
  v1237
def k0_mult15 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_419 : BitVec 32 := 5504#32
  let v1321 : BitVec 32 := Scalar.muli v3 c5504_i32_419
  let c1664_i32 : BitVec 32 := 1664#32
  let v1322 : BitVec 32 := Scalar.addi v1321 c1664_i32
  v1322
def k0_mult16 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_446 : BitVec 32 := 5504#32
  let v1406 : BitVec 32 := Scalar.muli v3 c5504_i32_446
  let c1792_i32 : BitVec 32 := 1792#32
  let v1407 : BitVec 32 := Scalar.addi v1406 c1792_i32
  v1407
def k0_mult17 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_473 : BitVec 32 := 5504#32
  let v1491 : BitVec 32 := Scalar.muli v3 c5504_i32_473
  let c1920_i32 : BitVec 32 := 1920#32
  let v1492 : BitVec 32 := Scalar.addi v1491 c1920_i32
  v1492
def k0_mult18 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_500 : BitVec 32 := 5504#32
  let v1576 : BitVec 32 := Scalar.muli v3 c5504_i32_500
  let c2048_i32 : BitVec 32 := 2048#32
  let v1577 : BitVec 32 := Scalar.addi v1576 c2048_i32
  v1577
def k0_mult19 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_527 : BitVec 32 := 5504#32
  let v1661 : BitVec 32 := Scalar.muli v3 c5504_i32_527
  let c2176_i32 : BitVec 32 := 2176#32
  let v1662 : BitVec 32 := Scalar.addi v1661 c2176_i32
  v1662
def k0_mult20 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_554 : BitVec 32 := 5504#32
  let v1746 : BitVec 32 := Scalar.muli v3 c5504_i32_554
  let c2304_i32 : BitVec 32 := 2304#32
  let v1747 : BitVec 32 := Scalar.addi v1746 c2304_i32
  v1747
def k0_mult21 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_581 : BitVec 32 := 5504#32
  let v1831 : BitVec 32 := Scalar.muli v3 c5504_i32_581
  let c2432_i32 : BitVec 32 := 2432#32
  let v1832 : BitVec 32 := Scalar.addi v1831 c2432_i32
  v1832
def k0_mult22 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_608 : BitVec 32 := 5504#32
  let v1916 : BitVec 32 := Scalar.muli v3 c5504_i32_608
  let c2560_i32 : BitVec 32 := 2560#32
  let v1917 : BitVec 32 := Scalar.addi v1916 c2560_i32
  v1917
def k0_mult23 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_635 : BitVec 32 := 5504#32
  let v2001 : BitVec 32 := Scalar.muli v3 c5504_i32_635
  let c2688_i32 : BitVec 32 := 2688#32
  let v2002 : BitVec 32 := Scalar.addi v2001 c2688_i32
  v2002
def k0_mult24 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_662 : BitVec 32 := 5504#32
  let v2086 : BitVec 32 := Scalar.muli v3 c5504_i32_662
  let c2816_i32 : BitVec 32 := 2816#32
  let v2087 : BitVec 32 := Scalar.addi v2086 c2816_i32
  v2087
def k0_mult25 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_689 : BitVec 32 := 5504#32
  let v2171 : BitVec 32 := Scalar.muli v3 c5504_i32_689
  let c2944_i32 : BitVec 32 := 2944#32
  let v2172 : BitVec 32 := Scalar.addi v2171 c2944_i32
  v2172
def k0_mult26 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_716 : BitVec 32 := 5504#32
  let v2256 : BitVec 32 := Scalar.muli v3 c5504_i32_716
  let c3072_i32 : BitVec 32 := 3072#32
  let v2257 : BitVec 32 := Scalar.addi v2256 c3072_i32
  v2257
def k0_mult27 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_743 : BitVec 32 := 5504#32
  let v2341 : BitVec 32 := Scalar.muli v3 c5504_i32_743
  let c3200_i32 : BitVec 32 := 3200#32
  let v2342 : BitVec 32 := Scalar.addi v2341 c3200_i32
  v2342
def k0_mult28 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_770 : BitVec 32 := 5504#32
  let v2426 : BitVec 32 := Scalar.muli v3 c5504_i32_770
  let c3328_i32 : BitVec 32 := 3328#32
  let v2427 : BitVec 32 := Scalar.addi v2426 c3328_i32
  v2427
def k0_mult29 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_797 : BitVec 32 := 5504#32
  let v2511 : BitVec 32 := Scalar.muli v3 c5504_i32_797
  let c3456_i32 : BitVec 32 := 3456#32
  let v2512 : BitVec 32 := Scalar.addi v2511 c3456_i32
  v2512
def k0_mult30 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_824 : BitVec 32 := 5504#32
  let v2596 : BitVec 32 := Scalar.muli v3 c5504_i32_824
  let c3584_i32 : BitVec 32 := 3584#32
  let v2597 : BitVec 32 := Scalar.addi v2596 c3584_i32
  v2597
def k0_mult31 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_851 : BitVec 32 := 5504#32
  let v2681 : BitVec 32 := Scalar.muli v3 c5504_i32_851
  let c3712_i32 : BitVec 32 := 3712#32
  let v2682 : BitVec 32 := Scalar.addi v2681 c3712_i32
  v2682
def k0_mult32 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_878 : BitVec 32 := 5504#32
  let v2766 : BitVec 32 := Scalar.muli v3 c5504_i32_878
  let c3840_i32 : BitVec 32 := 3840#32
  let v2767 : BitVec 32 := Scalar.addi v2766 c3840_i32
  v2767
def k0_mult33 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_905 : BitVec 32 := 5504#32
  let v2851 : BitVec 32 := Scalar.muli v3 c5504_i32_905
  let c3968_i32 : BitVec 32 := 3968#32
  let v2852 : BitVec 32 := Scalar.addi v2851 c3968_i32
  v2852
def k0_mult34 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_931 : BitVec 32 := 5504#32
  let v2936 : BitVec 32 := Scalar.muli v3 c5504_i32_931
  let c4096_i32 : BitVec 32 := 4096#32
  let v2937 : BitVec 32 := Scalar.addi v2936 c4096_i32
  v2937
def k0_mult35 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_957 : BitVec 32 := 5504#32
  let v3021 : BitVec 32 := Scalar.muli v3 c5504_i32_957
  let c4224_i32 : BitVec 32 := 4224#32
  let v3022 : BitVec 32 := Scalar.addi v3021 c4224_i32
  v3022
def k0_mult36 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_983 : BitVec 32 := 5504#32
  let v3106 : BitVec 32 := Scalar.muli v3 c5504_i32_983
  let c4352_i32 : BitVec 32 := 4352#32
  let v3107 : BitVec 32 := Scalar.addi v3106 c4352_i32
  v3107
def k0_mult37 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1009 : BitVec 32 := 5504#32
  let v3191 : BitVec 32 := Scalar.muli v3 c5504_i32_1009
  let c4480_i32 : BitVec 32 := 4480#32
  let v3192 : BitVec 32 := Scalar.addi v3191 c4480_i32
  v3192
def k0_mult38 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1035 : BitVec 32 := 5504#32
  let v3276 : BitVec 32 := Scalar.muli v3 c5504_i32_1035
  let c4608_i32 : BitVec 32 := 4608#32
  let v3277 : BitVec 32 := Scalar.addi v3276 c4608_i32
  v3277
def k0_mult39 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1061 : BitVec 32 := 5504#32
  let v3361 : BitVec 32 := Scalar.muli v3 c5504_i32_1061
  let c4736_i32 : BitVec 32 := 4736#32
  let v3362 : BitVec 32 := Scalar.addi v3361 c4736_i32
  v3362
def k0_mult40 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1087 : BitVec 32 := 5504#32
  let v3446 : BitVec 32 := Scalar.muli v3 c5504_i32_1087
  let c4864_i32 : BitVec 32 := 4864#32
  let v3447 : BitVec 32 := Scalar.addi v3446 c4864_i32
  v3447
def k0_mult41 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1113 : BitVec 32 := 5504#32
  let v3531 : BitVec 32 := Scalar.muli v3 c5504_i32_1113
  let c4992_i32 : BitVec 32 := 4992#32
  let v3532 : BitVec 32 := Scalar.addi v3531 c4992_i32
  v3532
def k0_mult42 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1139 : BitVec 32 := 5504#32
  let v3616 : BitVec 32 := Scalar.muli v3 c5504_i32_1139
  let c5120_i32 : BitVec 32 := 5120#32
  let v3617 : BitVec 32 := Scalar.addi v3616 c5120_i32
  v3617
def k0_mult43 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1165 : BitVec 32 := 5504#32
  let v3701 : BitVec 32 := Scalar.muli v3 c5504_i32_1165
  let c5248_i32 : BitVec 32 := 5248#32
  let v3702 : BitVec 32 := Scalar.addi v3701 c5248_i32
  v3702
def k0_mult44 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1191 : BitVec 32 := 5504#32
  let v3786 : BitVec 32 := Scalar.muli v3 c5504_i32_1191
  let c5376_i32 : BitVec 32 := 5376#32
  let v3787 : BitVec 32 := Scalar.addi v3786 c5376_i32
  v3787
def k0_mult45 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1205 : BitVec 32 := 2048#32
  let v3838 : BitVec 32 := Scalar.muli v3 c2048_i32_1205
  let c0_i32_1206 : BitVec 32 := 0#32
  let v3839 : BitVec 32 := Scalar.addi v3838 c0_i32_1206
  v3839
def k0_off5 (i : grid0.Coords) (c0_i32_1206 : BitVec 32) : Fin 2 → Nat :=
  let c0_1207 : Index := 0#32
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1205 : BitVec 32 := 2048#32
  let v3838 : BitVec 32 := Scalar.muli v3 c2048_i32_1205
  let v3839 : BitVec 32 := Scalar.addi v3838 c0_i32_1206
  let v3840 : BitVec 32 := v3839
  let v3841 : Index := Scalar.indexCast v3840
  ![0, v3841.toNat]
def k0_off6 (i : grid0.Coords) (c0_i32_1206 : BitVec 32) : Fin 2 → Nat :=
  let c0_1221 : Index := 0#32
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1205 : BitVec 32 := 2048#32
  let v3838 : BitVec 32 := Scalar.muli v3 c2048_i32_1205
  let v3839 : BitVec 32 := Scalar.addi v3838 c0_i32_1206
  let v3840 : BitVec 32 := v3839
  let v3879 : Index := Scalar.indexCast v3840
  ![0, v3879.toNat]
def k0_mult46 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1225 : BitVec 32 := 2048#32
  let v3891 : BitVec 32 := Scalar.muli v3 c2048_i32_1225
  let c128_i32_1226 : BitVec 32 := 128#32
  let v3892 : BitVec 32 := Scalar.addi v3891 c128_i32_1226
  v3892
def k0_mult47 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1245 : BitVec 32 := 2048#32
  let v3944 : BitVec 32 := Scalar.muli v3 c2048_i32_1245
  let c256_i32_1246 : BitVec 32 := 256#32
  let v3945 : BitVec 32 := Scalar.addi v3944 c256_i32_1246
  v3945
def k0_mult48 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1265 : BitVec 32 := 2048#32
  let v3997 : BitVec 32 := Scalar.muli v3 c2048_i32_1265
  let c384_i32_1266 : BitVec 32 := 384#32
  let v3998 : BitVec 32 := Scalar.addi v3997 c384_i32_1266
  v3998
def k0_mult49 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1285 : BitVec 32 := 2048#32
  let v4050 : BitVec 32 := Scalar.muli v3 c2048_i32_1285
  let c512_i32_1286 : BitVec 32 := 512#32
  let v4051 : BitVec 32 := Scalar.addi v4050 c512_i32_1286
  v4051
def k0_mult50 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1305 : BitVec 32 := 2048#32
  let v4103 : BitVec 32 := Scalar.muli v3 c2048_i32_1305
  let c640_i32_1306 : BitVec 32 := 640#32
  let v4104 : BitVec 32 := Scalar.addi v4103 c640_i32_1306
  v4104
def k0_mult51 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1325 : BitVec 32 := 2048#32
  let v4156 : BitVec 32 := Scalar.muli v3 c2048_i32_1325
  let c768_i32_1326 : BitVec 32 := 768#32
  let v4157 : BitVec 32 := Scalar.addi v4156 c768_i32_1326
  v4157
def k0_mult52 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1345 : BitVec 32 := 2048#32
  let v4209 : BitVec 32 := Scalar.muli v3 c2048_i32_1345
  let c896_i32_1346 : BitVec 32 := 896#32
  let v4210 : BitVec 32 := Scalar.addi v4209 c896_i32_1346
  v4210
def k0_mult53 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1365 : BitVec 32 := 2048#32
  let v4262 : BitVec 32 := Scalar.muli v3 c2048_i32_1365
  let c1024_i32_1366 : BitVec 32 := 1024#32
  let v4263 : BitVec 32 := Scalar.addi v4262 c1024_i32_1366
  v4263
def k0_mult54 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1385 : BitVec 32 := 2048#32
  let v4315 : BitVec 32 := Scalar.muli v3 c2048_i32_1385
  let c1152_i32_1386 : BitVec 32 := 1152#32
  let v4316 : BitVec 32 := Scalar.addi v4315 c1152_i32_1386
  v4316
def k0_mult55 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1405 : BitVec 32 := 2048#32
  let v4368 : BitVec 32 := Scalar.muli v3 c2048_i32_1405
  let c1280_i32_1406 : BitVec 32 := 1280#32
  let v4369 : BitVec 32 := Scalar.addi v4368 c1280_i32_1406
  v4369
def k0_mult56 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1425 : BitVec 32 := 2048#32
  let v4421 : BitVec 32 := Scalar.muli v3 c2048_i32_1425
  let c1408_i32_1426 : BitVec 32 := 1408#32
  let v4422 : BitVec 32 := Scalar.addi v4421 c1408_i32_1426
  v4422
def k0_mult57 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1445 : BitVec 32 := 2048#32
  let v4474 : BitVec 32 := Scalar.muli v3 c2048_i32_1445
  let c1536_i32_1446 : BitVec 32 := 1536#32
  let v4475 : BitVec 32 := Scalar.addi v4474 c1536_i32_1446
  v4475
def k0_mult58 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1465 : BitVec 32 := 2048#32
  let v4527 : BitVec 32 := Scalar.muli v3 c2048_i32_1465
  let c1664_i32_1466 : BitVec 32 := 1664#32
  let v4528 : BitVec 32 := Scalar.addi v4527 c1664_i32_1466
  v4528
def k0_mult59 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1485 : BitVec 32 := 2048#32
  let v4580 : BitVec 32 := Scalar.muli v3 c2048_i32_1485
  let c1792_i32_1486 : BitVec 32 := 1792#32
  let v4581 : BitVec 32 := Scalar.addi v4580 c1792_i32_1486
  v4581
def k0_mult60 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1505 : BitVec 32 := 2048#32
  let v4633 : BitVec 32 := Scalar.muli v3 c2048_i32_1505
  let c1920_i32_1506 : BitVec 32 := 1920#32
  let v4634 : BitVec 32 := Scalar.addi v4633 c1920_i32_1506
  v4634
def k0_cond5 (i : grid0.Coords) : BitVec 1 :=
  let arg0 : BitVec 32 := BitVec.ofNat 32 (i 0).val
  let c0_i32_13 : BitVec 32 := 0#32
  let v32 : BitVec 1 := Scalar.cmpi .sgt arg0 c0_i32_13
  let c24_i32_14 : BitVec 32 := 24#32
  let v33 : BitVec 1 := Scalar.cmpi .sle arg0 c24_i32_14
  let v34 : BitVec 1 := Scalar.andi v32 v33
  let v35 : BitVec 32 := Scalar.extui v34
  let c0_i32_15 : BitVec 32 := 0#32
  let v36 : BitVec 1 := Scalar.cmpi .ne v35 c0_i32_15
  v36

def k0_off7 (i : grid0.Coords) (c1_i32_5 : BitVec 32) : Fin 3 → Nat :=
  let arg0 : BitVec 32 := BitVec.ofNat 32 (i 0).val
  let v16 : BitVec 32 := Scalar.addi arg0 c1_i32_5
  let c3_i32_6 : BitVec 32 := 3#32
  let v17 : BitVec 32 := Scalar.remsi v16 c3_i32_6
  let v40 : Index := Scalar.indexCast v17
  let c0 : Index := 0#32
  let c0_18 : Index := 0#32
  ![v40.toNat, 0, 0]
def k0_off8 (i : grid0.Coords) : Fin 3 → Nat :=
  let arg0 : BitVec 32 := BitVec.ofNat 32 (i 0).val
  let c2_i32_1 : BitVec 32 := 2#32
  let v10 : BitVec 32 := Scalar.remsi arg0 c2_i32_1
  let v44 : Index := Scalar.indexCast v10
  let c0_19 : Index := 0#32
  let c0_20 : Index := 0#32
  ![v44.toNat, 0, 0]
def k0_off9 (i : grid0.Coords) : Fin 3 → Nat :=
  let arg1 : BitVec 32 := BitVec.ofNat 32 (i 1).val
  let v55 : Index := Scalar.indexCast arg1
  let c0_24 : Index := 0#32
  let c0_25 : Index := 0#32
  ![v55.toNat, 0, 0]
def k0_off10 (i : grid0.Coords) (c1_i32_5 : BitVec 32) : Fin 3 → Nat :=
  let arg0 : BitVec 32 := BitVec.ofNat 32 (i 0).val
  let v16 : BitVec 32 := Scalar.addi arg0 c1_i32_5
  let c3_i32_6 : BitVec 32 := 3#32
  let v17 : BitVec 32 := Scalar.remsi v16 c3_i32_6
  let v68 : Index := Scalar.indexCast v17
  let c64 : Index := 64#32
  let c0_30 : Index := 0#32
  ![v68.toNat, 64, 0]
def k0_off11 (i : grid0.Coords) : Fin 3 → Nat :=
  let arg0 : BitVec 32 := BitVec.ofNat 32 (i 0).val
  let c2_i32_1 : BitVec 32 := 2#32
  let v10 : BitVec 32 := Scalar.remsi arg0 c2_i32_1
  let v72 : Index := Scalar.indexCast v10
  let c64_31 : Index := 64#32
  let c0_32 : Index := 0#32
  ![v72.toNat, 64, 0]
def k0_off12 (i : grid0.Coords) : Fin 3 → Nat :=
  let arg1 : BitVec 32 := BitVec.ofNat 32 (i 1).val
  let v83 : Index := Scalar.indexCast arg1
  let c64_37 : Index := 64#32
  let c0_38 : Index := 0#32
  ![v83.toNat, 64, 0]
def k0_off13 (i : grid0.Coords) (c1_i32_5 : BitVec 32) : Fin 3 → Nat :=
  let arg0 : BitVec 32 := BitVec.ofNat 32 (i 0).val
  let v16 : BitVec 32 := Scalar.addi arg0 c1_i32_5
  let c3_i32_6 : BitVec 32 := 3#32
  let v17 : BitVec 32 := Scalar.remsi v16 c3_i32_6
  let v96 : Index := Scalar.indexCast v17
  let c128 : Index := 128#32
  let c0_43 : Index := 0#32
  ![v96.toNat, 128, 0]
def k0_off14 (i : grid0.Coords) : Fin 3 → Nat :=
  let arg0 : BitVec 32 := BitVec.ofNat 32 (i 0).val
  let c2_i32_1 : BitVec 32 := 2#32
  let v10 : BitVec 32 := Scalar.remsi arg0 c2_i32_1
  let v100 : Index := Scalar.indexCast v10
  let c128_44 : Index := 128#32
  let c0_45 : Index := 0#32
  ![v100.toNat, 128, 0]
def k0_off15 (i : grid0.Coords) : Fin 3 → Nat :=
  let arg1 : BitVec 32 := BitVec.ofNat 32 (i 1).val
  let v111 : Index := Scalar.indexCast arg1
  let c128_50 : Index := 128#32
  let c0_51 : Index := 0#32
  ![v111.toNat, 128, 0]
def k0_off16 (i : grid0.Coords) (c1_i32_5 : BitVec 32) : Fin 3 → Nat :=
  let arg0 : BitVec 32 := BitVec.ofNat 32 (i 0).val
  let v16 : BitVec 32 := Scalar.addi arg0 c1_i32_5
  let c3_i32_6 : BitVec 32 := 3#32
  let v17 : BitVec 32 := Scalar.remsi v16 c3_i32_6
  let v124 : Index := Scalar.indexCast v17
  let c192 : Index := 192#32
  let c0_56 : Index := 0#32
  ![v124.toNat, 192, 0]
def k0_off17 (i : grid0.Coords) : Fin 3 → Nat :=
  let arg0 : BitVec 32 := BitVec.ofNat 32 (i 0).val
  let c2_i32_1 : BitVec 32 := 2#32
  let v10 : BitVec 32 := Scalar.remsi arg0 c2_i32_1
  let v128 : Index := Scalar.indexCast v10
  let c192_57 : Index := 192#32
  let c0_58 : Index := 0#32
  ![v128.toNat, 192, 0]
def k0_off18 (i : grid0.Coords) : Fin 3 → Nat :=
  let arg1 : BitVec 32 := BitVec.ofNat 32 (i 1).val
  let v139 : Index := Scalar.indexCast arg1
  let c192_63 : Index := 192#32
  let c0_64 : Index := 0#32
  ![v139.toNat, 192, 0]
def k0_off19 (i : grid0.Coords) (c1_i32_5 : BitVec 32) : Fin 3 → Nat :=
  let arg0 : BitVec 32 := BitVec.ofNat 32 (i 0).val
  let v16 : BitVec 32 := Scalar.addi arg0 c1_i32_5
  let c3_i32_6 : BitVec 32 := 3#32
  let v17 : BitVec 32 := Scalar.remsi v16 c3_i32_6
  let v152 : Index := Scalar.indexCast v17
  let c256 : Index := 256#32
  let c0_69 : Index := 0#32
  ![v152.toNat, 256, 0]
def k0_off20 (i : grid0.Coords) : Fin 3 → Nat :=
  let arg0 : BitVec 32 := BitVec.ofNat 32 (i 0).val
  let c2_i32_1 : BitVec 32 := 2#32
  let v10 : BitVec 32 := Scalar.remsi arg0 c2_i32_1
  let v156 : Index := Scalar.indexCast v10
  let c256_70 : Index := 256#32
  let c0_71 : Index := 0#32
  ![v156.toNat, 256, 0]
def k0_off21 (i : grid0.Coords) : Fin 3 → Nat :=
  let arg1 : BitVec 32 := BitVec.ofNat 32 (i 1).val
  let v167 : Index := Scalar.indexCast arg1
  let c256_76 : Index := 256#32
  let c0_77 : Index := 0#32
  ![v167.toNat, 256, 0]
def k0_off22 (i : grid0.Coords) (c1_i32_5 : BitVec 32) : Fin 3 → Nat :=
  let arg0 : BitVec 32 := BitVec.ofNat 32 (i 0).val
  let v16 : BitVec 32 := Scalar.addi arg0 c1_i32_5
  let c3_i32_6 : BitVec 32 := 3#32
  let v17 : BitVec 32 := Scalar.remsi v16 c3_i32_6
  let v180 : Index := Scalar.indexCast v17
  let c320 : Index := 320#32
  let c0_82 : Index := 0#32
  ![v180.toNat, 320, 0]
def k0_off23 (i : grid0.Coords) : Fin 3 → Nat :=
  let arg0 : BitVec 32 := BitVec.ofNat 32 (i 0).val
  let c2_i32_1 : BitVec 32 := 2#32
  let v10 : BitVec 32 := Scalar.remsi arg0 c2_i32_1
  let v184 : Index := Scalar.indexCast v10
  let c320_83 : Index := 320#32
  let c0_84 : Index := 0#32
  ![v184.toNat, 320, 0]
def k0_off24 (i : grid0.Coords) : Fin 3 → Nat :=
  let arg1 : BitVec 32 := BitVec.ofNat 32 (i 1).val
  let v195 : Index := Scalar.indexCast arg1
  let c320_89 : Index := 320#32
  let c0_90 : Index := 0#32
  ![v195.toNat, 320, 0]
def k0_off25 (i : grid0.Coords) (c1_i32_5 : BitVec 32) : Fin 3 → Nat :=
  let arg0 : BitVec 32 := BitVec.ofNat 32 (i 0).val
  let v16 : BitVec 32 := Scalar.addi arg0 c1_i32_5
  let c3_i32_6 : BitVec 32 := 3#32
  let v17 : BitVec 32 := Scalar.remsi v16 c3_i32_6
  let v208 : Index := Scalar.indexCast v17
  let c384 : Index := 384#32
  let c0_95 : Index := 0#32
  ![v208.toNat, 384, 0]
def k0_off26 (i : grid0.Coords) : Fin 3 → Nat :=
  let arg0 : BitVec 32 := BitVec.ofNat 32 (i 0).val
  let c2_i32_1 : BitVec 32 := 2#32
  let v10 : BitVec 32 := Scalar.remsi arg0 c2_i32_1
  let v212 : Index := Scalar.indexCast v10
  let c384_96 : Index := 384#32
  let c0_97 : Index := 0#32
  ![v212.toNat, 384, 0]
def k0_off27 (i : grid0.Coords) : Fin 3 → Nat :=
  let arg1 : BitVec 32 := BitVec.ofNat 32 (i 1).val
  let v223 : Index := Scalar.indexCast arg1
  let c384_102 : Index := 384#32
  let c0_103 : Index := 0#32
  ![v223.toNat, 384, 0]
def k0_off28 (i : grid0.Coords) (c1_i32_5 : BitVec 32) : Fin 3 → Nat :=
  let arg0 : BitVec 32 := BitVec.ofNat 32 (i 0).val
  let v16 : BitVec 32 := Scalar.addi arg0 c1_i32_5
  let c3_i32_6 : BitVec 32 := 3#32
  let v17 : BitVec 32 := Scalar.remsi v16 c3_i32_6
  let v236 : Index := Scalar.indexCast v17
  let c448 : Index := 448#32
  let c0_108 : Index := 0#32
  ![v236.toNat, 448, 0]
def k0_off29 (i : grid0.Coords) : Fin 3 → Nat :=
  let arg0 : BitVec 32 := BitVec.ofNat 32 (i 0).val
  let c2_i32_1 : BitVec 32 := 2#32
  let v10 : BitVec 32 := Scalar.remsi arg0 c2_i32_1
  let v240 : Index := Scalar.indexCast v10
  let c448_109 : Index := 448#32
  let c0_110 : Index := 0#32
  ![v240.toNat, 448, 0]
def k0_off30 (i : grid0.Coords) : Fin 3 → Nat :=
  let arg1 : BitVec 32 := BitVec.ofNat 32 (i 1).val
  let v251 : Index := Scalar.indexCast arg1
  let c448_115 : Index := 448#32
  let c0_116 : Index := 0#32
  ![v251.toNat, 448, 0]
def k0_off31 (i : grid0.Coords) : Fin 3 → Nat :=
  let arg0 : BitVec 32 := BitVec.ofNat 32 (i 0).val
  let c3_i32 : BitVec 32 := 3#32
  let v13 : BitVec 32 := Scalar.remsi arg0 c3_i32
  let v402 : Index := Scalar.indexCast v13
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32_0 : BitVec 32 := 2#32
  let v4 : BitVec 32 := Scalar.divsi v2 c2_i32_0
  let c128_i32 : BitVec 32 := 128#32
  let v8 : BitVec 32 := Scalar.muli v4 c128_i32
  let v9 : BitVec 32 := v8
  let v403 : Index := Scalar.indexCast v9
  let c0_161 : Index := 0#32
  ![v402.toNat, v403.toNat, 0]
def k0_off32 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v407 : Index := Scalar.indexCast v12
  let c0_162 : Index := 0#32
  let c0_163 : Index := 0#32
  ![v407.toNat, 0, 0]
def k0_off33 (i : grid0.Coords) (c0_i32_165 : BitVec 32) : Fin 2 → Nat :=
  let c4_i32_164 : BitVec 32 := 4#32
  let arg1 : BitVec 32 := BitVec.ofNat 32 (i 1).val
  let v410 : BitVec 32 := Scalar.muli c4_i32_164 arg1
  let v411 : BitVec 32 := Scalar.addi v410 c0_i32_165
  let v412 : Index := Scalar.indexCast v411
  let c0_166 : Index := 0#32
  ![v412.toNat, 0]
def k0_off34 (i : grid0.Coords) (c0_i32_170 : BitVec 32) : Fin 2 → Nat :=
  let c4_i32_169 : BitVec 32 := 4#32
  let arg1 : BitVec 32 := BitVec.ofNat 32 (i 1).val
  let v419 : BitVec 32 := Scalar.muli c4_i32_169 arg1
  let v420 : BitVec 32 := Scalar.addi v419 c0_i32_170
  let v421 : Index := Scalar.indexCast v420
  let c1 : Index := 1#32
  ![v421.toNat, 1]
def k0_mult61 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32 : BitVec 32 := 5504#32
  let v521 : BitVec 32 := Scalar.muli v3 c5504_i32
  let c0_i32_217 : BitVec 32 := 0#32
  let v522 : BitVec 32 := Scalar.addi v521 c0_i32_217
  v522
def k0_off35 (i : grid0.Coords) (c0_i32_217 : BitVec 32) : Fin 3 → Nat :=
  let arg0 : BitVec 32 := BitVec.ofNat 32 (i 0).val
  let c2_i32_1 : BitVec 32 := 2#32
  let v10 : BitVec 32 := Scalar.remsi arg0 c2_i32_1
  let v528 : Index := Scalar.indexCast v10
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32_0 : BitVec 32 := 2#32
  let v4 : BitVec 32 := Scalar.divsi v2 c2_i32_0
  let c128_i32 : BitVec 32 := 128#32
  let v8 : BitVec 32 := Scalar.muli v4 c128_i32
  let v9 : BitVec 32 := v8
  let v529 : Index := Scalar.indexCast v9
  let c2_i32 : BitVec 32 := 2#32
  let v3 : BitVec 32 := Scalar.remsi v2 c2_i32
  let c5504_i32 : BitVec 32 := 5504#32
  let v521 : BitVec 32 := Scalar.muli v3 c5504_i32
  let v522 : BitVec 32 := Scalar.addi v521 c0_i32_217
  let v523 : BitVec 32 := v522
  let v530 : Index := Scalar.indexCast v523
  ![v528.toNat, v529.toNat, v530.toNat]
def k0_off36 (i : grid0.Coords) (c0_i32_217 : BitVec 32) : Fin 2 → Nat :=
  let c0_229 : Index := 0#32
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32 : BitVec 32 := 5504#32
  let v521 : BitVec 32 := Scalar.muli v3 c5504_i32
  let v522 : BitVec 32 := Scalar.addi v521 c0_i32_217
  let v523 : BitVec 32 := v522
  let v567 : Index := Scalar.indexCast v523
  ![0, v567.toNat]
def k0_mult62 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32 : BitVec 32 := 2048#32
  let v573 : BitVec 32 := Scalar.muli v3 c2048_i32
  let c0_i32_231 : BitVec 32 := 0#32
  let v574 : BitVec 32 := Scalar.addi v573 c0_i32_231
  v574
def k0_off37 (i : grid0.Coords) (c0_i32_231 : BitVec 32) : Fin 2 → Nat :=
  let c0_232 : Index := 0#32
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32 : BitVec 32 := 2048#32
  let v573 : BitVec 32 := Scalar.muli v3 c2048_i32
  let v574 : BitVec 32 := Scalar.addi v573 c0_i32_231
  let v575 : BitVec 32 := v574
  let v576 : Index := Scalar.indexCast v575
  ![0, v576.toNat]
def k0_off38 (i : grid0.Coords) (c0_i32_231 : BitVec 32) : Fin 2 → Nat :=
  let c0_246 : Index := 0#32
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32 : BitVec 32 := 2048#32
  let v573 : BitVec 32 := Scalar.muli v3 c2048_i32
  let v574 : BitVec 32 := Scalar.addi v573 c0_i32_231
  let v575 : BitVec 32 := v574
  let v614 : Index := Scalar.indexCast v575
  ![0, v614.toNat]
def k0_off39 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v626 : Index := Scalar.indexCast v12
  let c0_250 : Index := 0#32
  let c256_251 : Index := 256#32
  ![v626.toNat, 0, 256]
def k0_off40 (i : grid0.Coords) (c0_i32_253 : BitVec 32) : Fin 2 → Nat :=
  let c4_i32_252 : BitVec 32 := 4#32
  let arg1 : BitVec 32 := BitVec.ofNat 32 (i 1).val
  let v629 : BitVec 32 := Scalar.muli c4_i32_252 arg1
  let v630 : BitVec 32 := Scalar.addi v629 c0_i32_253
  let v631 : Index := Scalar.indexCast v630
  let c2 : Index := 2#32
  ![v631.toNat, 2]
def k0_off41 (i : grid0.Coords) (c0_i32_257 : BitVec 32) : Fin 2 → Nat :=
  let c4_i32_256 : BitVec 32 := 4#32
  let arg1 : BitVec 32 := BitVec.ofNat 32 (i 1).val
  let v638 : BitVec 32 := Scalar.muli c4_i32_256 arg1
  let v639 : BitVec 32 := Scalar.addi v638 c0_i32_257
  let v640 : Index := Scalar.indexCast v639
  let c3 : Index := 3#32
  ![v640.toNat, 3]
def k0_mult63 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_304 : BitVec 32 := 5504#32
  let v741 : BitVec 32 := Scalar.muli v3 c5504_i32_304
  let c128_i32_305 : BitVec 32 := 128#32
  let v742 : BitVec 32 := Scalar.addi v741 c128_i32_305
  v742
def k0_mult64 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_319 : BitVec 32 := 2048#32
  let v793 : BitVec 32 := Scalar.muli v3 c2048_i32_319
  let c128_i32_320 : BitVec 32 := 128#32
  let v794 : BitVec 32 := Scalar.addi v793 c128_i32_320
  v794
def k0_off42 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v846 : Index := Scalar.indexCast v12
  let c0_339 : Index := 0#32
  let c512_340 : Index := 512#32
  ![v846.toNat, 0, 512]
def k0_off43 (i : grid0.Coords) (c0_i32_342 : BitVec 32) : Fin 2 → Nat :=
  let c4_i32_341 : BitVec 32 := 4#32
  let arg1 : BitVec 32 := BitVec.ofNat 32 (i 1).val
  let v849 : BitVec 32 := Scalar.muli c4_i32_341 arg1
  let v850 : BitVec 32 := Scalar.addi v849 c0_i32_342
  let v851 : Index := Scalar.indexCast v850
  let c4 : Index := 4#32
  ![v851.toNat, 4]
def k0_off44 (i : grid0.Coords) (c0_i32_346 : BitVec 32) : Fin 2 → Nat :=
  let c4_i32_345 : BitVec 32 := 4#32
  let arg1 : BitVec 32 := BitVec.ofNat 32 (i 1).val
  let v858 : BitVec 32 := Scalar.muli c4_i32_345 arg1
  let v859 : BitVec 32 := Scalar.addi v858 c0_i32_346
  let v860 : Index := Scalar.indexCast v859
  let c5 : Index := 5#32
  ![v860.toNat, 5]
def k0_mult65 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_393 : BitVec 32 := 5504#32
  let v961 : BitVec 32 := Scalar.muli v3 c5504_i32_393
  let c256_i32 : BitVec 32 := 256#32
  let v962 : BitVec 32 := Scalar.addi v961 c256_i32
  v962
def k0_mult66 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_407 : BitVec 32 := 2048#32
  let v1013 : BitVec 32 := Scalar.muli v3 c2048_i32_407
  let c256_i32_408 : BitVec 32 := 256#32
  let v1014 : BitVec 32 := Scalar.addi v1013 c256_i32_408
  v1014
def k0_off45 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v1066 : Index := Scalar.indexCast v12
  let c0_427 : Index := 0#32
  let c768_428 : Index := 768#32
  ![v1066.toNat, 0, 768]
def k0_off46 (i : grid0.Coords) (c0_i32_430 : BitVec 32) : Fin 2 → Nat :=
  let c4_i32_429 : BitVec 32 := 4#32
  let arg1 : BitVec 32 := BitVec.ofNat 32 (i 1).val
  let v1069 : BitVec 32 := Scalar.muli c4_i32_429 arg1
  let v1070 : BitVec 32 := Scalar.addi v1069 c0_i32_430
  let v1071 : Index := Scalar.indexCast v1070
  let c6 : Index := 6#32
  ![v1071.toNat, 6]
def k0_off47 (i : grid0.Coords) (c0_i32_434 : BitVec 32) : Fin 2 → Nat :=
  let c4_i32_433 : BitVec 32 := 4#32
  let arg1 : BitVec 32 := BitVec.ofNat 32 (i 1).val
  let v1078 : BitVec 32 := Scalar.muli c4_i32_433 arg1
  let v1079 : BitVec 32 := Scalar.addi v1078 c0_i32_434
  let v1080 : Index := Scalar.indexCast v1079
  let c7 : Index := 7#32
  ![v1080.toNat, 7]
def k0_mult67 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_481 : BitVec 32 := 5504#32
  let v1181 : BitVec 32 := Scalar.muli v3 c5504_i32_481
  let c384_i32 : BitVec 32 := 384#32
  let v1182 : BitVec 32 := Scalar.addi v1181 c384_i32
  v1182
def k0_mult68 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_495 : BitVec 32 := 2048#32
  let v1233 : BitVec 32 := Scalar.muli v3 c2048_i32_495
  let c384_i32_496 : BitVec 32 := 384#32
  let v1234 : BitVec 32 := Scalar.addi v1233 c384_i32_496
  v1234
def k0_off48 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v1286 : Index := Scalar.indexCast v12
  let c0_515 : Index := 0#32
  let c1024_516 : Index := 1024#32
  ![v1286.toNat, 0, 1024]
def k0_off49 (i : grid0.Coords) (c0_i32_518 : BitVec 32) : Fin 2 → Nat :=
  let c4_i32_517 : BitVec 32 := 4#32
  let arg1 : BitVec 32 := BitVec.ofNat 32 (i 1).val
  let v1289 : BitVec 32 := Scalar.muli c4_i32_517 arg1
  let v1290 : BitVec 32 := Scalar.addi v1289 c0_i32_518
  let v1291 : Index := Scalar.indexCast v1290
  let c8 : Index := 8#32
  ![v1291.toNat, 8]
def k0_off50 (i : grid0.Coords) (c0_i32_522 : BitVec 32) : Fin 2 → Nat :=
  let c4_i32_521 : BitVec 32 := 4#32
  let arg1 : BitVec 32 := BitVec.ofNat 32 (i 1).val
  let v1298 : BitVec 32 := Scalar.muli c4_i32_521 arg1
  let v1299 : BitVec 32 := Scalar.addi v1298 c0_i32_522
  let v1300 : Index := Scalar.indexCast v1299
  let c9 : Index := 9#32
  ![v1300.toNat, 9]
def k0_mult69 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_569 : BitVec 32 := 5504#32
  let v1401 : BitVec 32 := Scalar.muli v3 c5504_i32_569
  let c512_i32 : BitVec 32 := 512#32
  let v1402 : BitVec 32 := Scalar.addi v1401 c512_i32
  v1402
def k0_mult70 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_583 : BitVec 32 := 2048#32
  let v1453 : BitVec 32 := Scalar.muli v3 c2048_i32_583
  let c512_i32_584 : BitVec 32 := 512#32
  let v1454 : BitVec 32 := Scalar.addi v1453 c512_i32_584
  v1454
def k0_off51 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v1506 : Index := Scalar.indexCast v12
  let c0_603 : Index := 0#32
  let c1280_604 : Index := 1280#32
  ![v1506.toNat, 0, 1280]
def k0_off52 (i : grid0.Coords) (c0_i32_606 : BitVec 32) : Fin 2 → Nat :=
  let c4_i32_605 : BitVec 32 := 4#32
  let arg1 : BitVec 32 := BitVec.ofNat 32 (i 1).val
  let v1509 : BitVec 32 := Scalar.muli c4_i32_605 arg1
  let v1510 : BitVec 32 := Scalar.addi v1509 c0_i32_606
  let v1511 : Index := Scalar.indexCast v1510
  let c10 : Index := 10#32
  ![v1511.toNat, 10]
def k0_off53 (i : grid0.Coords) (c0_i32_610 : BitVec 32) : Fin 2 → Nat :=
  let c4_i32_609 : BitVec 32 := 4#32
  let arg1 : BitVec 32 := BitVec.ofNat 32 (i 1).val
  let v1518 : BitVec 32 := Scalar.muli c4_i32_609 arg1
  let v1519 : BitVec 32 := Scalar.addi v1518 c0_i32_610
  let v1520 : Index := Scalar.indexCast v1519
  let c11 : Index := 11#32
  ![v1520.toNat, 11]
def k0_mult71 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_657 : BitVec 32 := 5504#32
  let v1621 : BitVec 32 := Scalar.muli v3 c5504_i32_657
  let c640_i32 : BitVec 32 := 640#32
  let v1622 : BitVec 32 := Scalar.addi v1621 c640_i32
  v1622
def k0_mult72 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_671 : BitVec 32 := 2048#32
  let v1673 : BitVec 32 := Scalar.muli v3 c2048_i32_671
  let c640_i32_672 : BitVec 32 := 640#32
  let v1674 : BitVec 32 := Scalar.addi v1673 c640_i32_672
  v1674
def k0_off54 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v1726 : Index := Scalar.indexCast v12
  let c0_691 : Index := 0#32
  let c1536_692 : Index := 1536#32
  ![v1726.toNat, 0, 1536]
def k0_off55 (i : grid0.Coords) (c0_i32_694 : BitVec 32) : Fin 2 → Nat :=
  let c4_i32_693 : BitVec 32 := 4#32
  let arg1 : BitVec 32 := BitVec.ofNat 32 (i 1).val
  let v1729 : BitVec 32 := Scalar.muli c4_i32_693 arg1
  let v1730 : BitVec 32 := Scalar.addi v1729 c0_i32_694
  let v1731 : Index := Scalar.indexCast v1730
  let c12 : Index := 12#32
  ![v1731.toNat, 12]
def k0_off56 (i : grid0.Coords) (c0_i32_698 : BitVec 32) : Fin 2 → Nat :=
  let c4_i32_697 : BitVec 32 := 4#32
  let arg1 : BitVec 32 := BitVec.ofNat 32 (i 1).val
  let v1738 : BitVec 32 := Scalar.muli c4_i32_697 arg1
  let v1739 : BitVec 32 := Scalar.addi v1738 c0_i32_698
  let v1740 : Index := Scalar.indexCast v1739
  let c13 : Index := 13#32
  ![v1740.toNat, 13]
def k0_mult73 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_745 : BitVec 32 := 5504#32
  let v1841 : BitVec 32 := Scalar.muli v3 c5504_i32_745
  let c768_i32 : BitVec 32 := 768#32
  let v1842 : BitVec 32 := Scalar.addi v1841 c768_i32
  v1842
def k0_mult74 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_759 : BitVec 32 := 2048#32
  let v1893 : BitVec 32 := Scalar.muli v3 c2048_i32_759
  let c768_i32_760 : BitVec 32 := 768#32
  let v1894 : BitVec 32 := Scalar.addi v1893 c768_i32_760
  v1894
def k0_off57 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v1946 : Index := Scalar.indexCast v12
  let c0_779 : Index := 0#32
  let c1792_780 : Index := 1792#32
  ![v1946.toNat, 0, 1792]
def k0_off58 (i : grid0.Coords) (c0_i32_782 : BitVec 32) : Fin 2 → Nat :=
  let c4_i32_781 : BitVec 32 := 4#32
  let arg1 : BitVec 32 := BitVec.ofNat 32 (i 1).val
  let v1949 : BitVec 32 := Scalar.muli c4_i32_781 arg1
  let v1950 : BitVec 32 := Scalar.addi v1949 c0_i32_782
  let v1951 : Index := Scalar.indexCast v1950
  let c14 : Index := 14#32
  ![v1951.toNat, 14]
def k0_off59 (i : grid0.Coords) (c0_i32_786 : BitVec 32) : Fin 2 → Nat :=
  let c4_i32_785 : BitVec 32 := 4#32
  let arg1 : BitVec 32 := BitVec.ofNat 32 (i 1).val
  let v1958 : BitVec 32 := Scalar.muli c4_i32_785 arg1
  let v1959 : BitVec 32 := Scalar.addi v1958 c0_i32_786
  let v1960 : Index := Scalar.indexCast v1959
  let c15 : Index := 15#32
  ![v1960.toNat, 15]
def k0_mult75 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_833 : BitVec 32 := 5504#32
  let v2061 : BitVec 32 := Scalar.muli v3 c5504_i32_833
  let c896_i32 : BitVec 32 := 896#32
  let v2062 : BitVec 32 := Scalar.addi v2061 c896_i32
  v2062
def k0_mult76 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_847 : BitVec 32 := 2048#32
  let v2113 : BitVec 32 := Scalar.muli v3 c2048_i32_847
  let c896_i32_848 : BitVec 32 := 896#32
  let v2114 : BitVec 32 := Scalar.addi v2113 c896_i32_848
  v2114
def k0_off60 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v2166 : Index := Scalar.indexCast v12
  let c0_867 : Index := 0#32
  let c2048_868 : Index := 2048#32
  ![v2166.toNat, 0, 2048]
def k0_off61 (i : grid0.Coords) (c0_i32_870 : BitVec 32) : Fin 2 → Nat :=
  let c4_i32_869 : BitVec 32 := 4#32
  let arg1 : BitVec 32 := BitVec.ofNat 32 (i 1).val
  let v2169 : BitVec 32 := Scalar.muli c4_i32_869 arg1
  let v2170 : BitVec 32 := Scalar.addi v2169 c0_i32_870
  let v2171 : Index := Scalar.indexCast v2170
  let c16 : Index := 16#32
  ![v2171.toNat, 16]
def k0_off62 (i : grid0.Coords) (c0_i32_874 : BitVec 32) : Fin 2 → Nat :=
  let c4_i32_873 : BitVec 32 := 4#32
  let arg1 : BitVec 32 := BitVec.ofNat 32 (i 1).val
  let v2178 : BitVec 32 := Scalar.muli c4_i32_873 arg1
  let v2179 : BitVec 32 := Scalar.addi v2178 c0_i32_874
  let v2180 : Index := Scalar.indexCast v2179
  let c17 : Index := 17#32
  ![v2180.toNat, 17]
def k0_mult77 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_921 : BitVec 32 := 5504#32
  let v2281 : BitVec 32 := Scalar.muli v3 c5504_i32_921
  let c1024_i32 : BitVec 32 := 1024#32
  let v2282 : BitVec 32 := Scalar.addi v2281 c1024_i32
  v2282
def k0_mult78 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_935 : BitVec 32 := 2048#32
  let v2333 : BitVec 32 := Scalar.muli v3 c2048_i32_935
  let c1024_i32_936 : BitVec 32 := 1024#32
  let v2334 : BitVec 32 := Scalar.addi v2333 c1024_i32_936
  v2334
def k0_off63 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v2386 : Index := Scalar.indexCast v12
  let c0_955 : Index := 0#32
  let c2304_956 : Index := 2304#32
  ![v2386.toNat, 0, 2304]
def k0_off64 (i : grid0.Coords) (c0_i32_958 : BitVec 32) : Fin 2 → Nat :=
  let c4_i32_957 : BitVec 32 := 4#32
  let arg1 : BitVec 32 := BitVec.ofNat 32 (i 1).val
  let v2389 : BitVec 32 := Scalar.muli c4_i32_957 arg1
  let v2390 : BitVec 32 := Scalar.addi v2389 c0_i32_958
  let v2391 : Index := Scalar.indexCast v2390
  let c18 : Index := 18#32
  ![v2391.toNat, 18]
def k0_off65 (i : grid0.Coords) (c0_i32_962 : BitVec 32) : Fin 2 → Nat :=
  let c4_i32_961 : BitVec 32 := 4#32
  let arg1 : BitVec 32 := BitVec.ofNat 32 (i 1).val
  let v2398 : BitVec 32 := Scalar.muli c4_i32_961 arg1
  let v2399 : BitVec 32 := Scalar.addi v2398 c0_i32_962
  let v2400 : Index := Scalar.indexCast v2399
  let c19 : Index := 19#32
  ![v2400.toNat, 19]
def k0_mult79 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1009 : BitVec 32 := 5504#32
  let v2501 : BitVec 32 := Scalar.muli v3 c5504_i32_1009
  let c1152_i32 : BitVec 32 := 1152#32
  let v2502 : BitVec 32 := Scalar.addi v2501 c1152_i32
  v2502
def k0_mult80 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1023 : BitVec 32 := 2048#32
  let v2553 : BitVec 32 := Scalar.muli v3 c2048_i32_1023
  let c1152_i32_1024 : BitVec 32 := 1152#32
  let v2554 : BitVec 32 := Scalar.addi v2553 c1152_i32_1024
  v2554
def k0_off66 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v2606 : Index := Scalar.indexCast v12
  let c0_1043 : Index := 0#32
  let c2560_1044 : Index := 2560#32
  ![v2606.toNat, 0, 2560]
def k0_off67 (i : grid0.Coords) (c0_i32_1046 : BitVec 32) : Fin 2 → Nat :=
  let c4_i32_1045 : BitVec 32 := 4#32
  let arg1 : BitVec 32 := BitVec.ofNat 32 (i 1).val
  let v2609 : BitVec 32 := Scalar.muli c4_i32_1045 arg1
  let v2610 : BitVec 32 := Scalar.addi v2609 c0_i32_1046
  let v2611 : Index := Scalar.indexCast v2610
  let c20 : Index := 20#32
  ![v2611.toNat, 20]
def k0_off68 (i : grid0.Coords) (c0_i32_1050 : BitVec 32) : Fin 2 → Nat :=
  let c4_i32_1049 : BitVec 32 := 4#32
  let arg1 : BitVec 32 := BitVec.ofNat 32 (i 1).val
  let v2618 : BitVec 32 := Scalar.muli c4_i32_1049 arg1
  let v2619 : BitVec 32 := Scalar.addi v2618 c0_i32_1050
  let v2620 : Index := Scalar.indexCast v2619
  let c21 : Index := 21#32
  ![v2620.toNat, 21]
def k0_mult81 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1097 : BitVec 32 := 5504#32
  let v2721 : BitVec 32 := Scalar.muli v3 c5504_i32_1097
  let c1280_i32 : BitVec 32 := 1280#32
  let v2722 : BitVec 32 := Scalar.addi v2721 c1280_i32
  v2722
def k0_mult82 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1111 : BitVec 32 := 2048#32
  let v2773 : BitVec 32 := Scalar.muli v3 c2048_i32_1111
  let c1280_i32_1112 : BitVec 32 := 1280#32
  let v2774 : BitVec 32 := Scalar.addi v2773 c1280_i32_1112
  v2774
def k0_off69 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v2826 : Index := Scalar.indexCast v12
  let c0_1131 : Index := 0#32
  let c2816_1132 : Index := 2816#32
  ![v2826.toNat, 0, 2816]
def k0_off70 (i : grid0.Coords) (c0_i32_1134 : BitVec 32) : Fin 2 → Nat :=
  let c4_i32_1133 : BitVec 32 := 4#32
  let arg1 : BitVec 32 := BitVec.ofNat 32 (i 1).val
  let v2829 : BitVec 32 := Scalar.muli c4_i32_1133 arg1
  let v2830 : BitVec 32 := Scalar.addi v2829 c0_i32_1134
  let v2831 : Index := Scalar.indexCast v2830
  let c22 : Index := 22#32
  ![v2831.toNat, 22]
def k0_off71 (i : grid0.Coords) (c0_i32_1138 : BitVec 32) : Fin 2 → Nat :=
  let c4_i32_1137 : BitVec 32 := 4#32
  let arg1 : BitVec 32 := BitVec.ofNat 32 (i 1).val
  let v2838 : BitVec 32 := Scalar.muli c4_i32_1137 arg1
  let v2839 : BitVec 32 := Scalar.addi v2838 c0_i32_1138
  let v2840 : Index := Scalar.indexCast v2839
  let c23 : Index := 23#32
  ![v2840.toNat, 23]
def k0_mult83 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1185 : BitVec 32 := 5504#32
  let v2941 : BitVec 32 := Scalar.muli v3 c5504_i32_1185
  let c1408_i32 : BitVec 32 := 1408#32
  let v2942 : BitVec 32 := Scalar.addi v2941 c1408_i32
  v2942
def k0_mult84 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1199 : BitVec 32 := 2048#32
  let v2993 : BitVec 32 := Scalar.muli v3 c2048_i32_1199
  let c1408_i32_1200 : BitVec 32 := 1408#32
  let v2994 : BitVec 32 := Scalar.addi v2993 c1408_i32_1200
  v2994
def k0_off72 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v3046 : Index := Scalar.indexCast v12
  let c0_1219 : Index := 0#32
  let c3072_1220 : Index := 3072#32
  ![v3046.toNat, 0, 3072]
def k0_off73 (i : grid0.Coords) (c0_i32_1222 : BitVec 32) : Fin 2 → Nat :=
  let c4_i32_1221 : BitVec 32 := 4#32
  let arg1 : BitVec 32 := BitVec.ofNat 32 (i 1).val
  let v3049 : BitVec 32 := Scalar.muli c4_i32_1221 arg1
  let v3050 : BitVec 32 := Scalar.addi v3049 c0_i32_1222
  let v3051 : Index := Scalar.indexCast v3050
  let c24 : Index := 24#32
  ![v3051.toNat, 24]
def k0_off74 (i : grid0.Coords) (c0_i32_1226 : BitVec 32) : Fin 2 → Nat :=
  let c4_i32_1225 : BitVec 32 := 4#32
  let arg1 : BitVec 32 := BitVec.ofNat 32 (i 1).val
  let v3058 : BitVec 32 := Scalar.muli c4_i32_1225 arg1
  let v3059 : BitVec 32 := Scalar.addi v3058 c0_i32_1226
  let v3060 : Index := Scalar.indexCast v3059
  let c25 : Index := 25#32
  ![v3060.toNat, 25]
def k0_mult85 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1273 : BitVec 32 := 5504#32
  let v3161 : BitVec 32 := Scalar.muli v3 c5504_i32_1273
  let c1536_i32 : BitVec 32 := 1536#32
  let v3162 : BitVec 32 := Scalar.addi v3161 c1536_i32
  v3162
def k0_mult86 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1287 : BitVec 32 := 2048#32
  let v3213 : BitVec 32 := Scalar.muli v3 c2048_i32_1287
  let c1536_i32_1288 : BitVec 32 := 1536#32
  let v3214 : BitVec 32 := Scalar.addi v3213 c1536_i32_1288
  v3214
def k0_off75 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v3266 : Index := Scalar.indexCast v12
  let c0_1307 : Index := 0#32
  let c3328_1308 : Index := 3328#32
  ![v3266.toNat, 0, 3328]
def k0_off76 (i : grid0.Coords) (c0_i32_1310 : BitVec 32) : Fin 2 → Nat :=
  let c4_i32_1309 : BitVec 32 := 4#32
  let arg1 : BitVec 32 := BitVec.ofNat 32 (i 1).val
  let v3269 : BitVec 32 := Scalar.muli c4_i32_1309 arg1
  let v3270 : BitVec 32 := Scalar.addi v3269 c0_i32_1310
  let v3271 : Index := Scalar.indexCast v3270
  let c26 : Index := 26#32
  ![v3271.toNat, 26]
def k0_off77 (i : grid0.Coords) (c0_i32_1314 : BitVec 32) : Fin 2 → Nat :=
  let c4_i32_1313 : BitVec 32 := 4#32
  let arg1 : BitVec 32 := BitVec.ofNat 32 (i 1).val
  let v3278 : BitVec 32 := Scalar.muli c4_i32_1313 arg1
  let v3279 : BitVec 32 := Scalar.addi v3278 c0_i32_1314
  let v3280 : Index := Scalar.indexCast v3279
  let c27 : Index := 27#32
  ![v3280.toNat, 27]
def k0_mult87 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1361 : BitVec 32 := 5504#32
  let v3381 : BitVec 32 := Scalar.muli v3 c5504_i32_1361
  let c1664_i32 : BitVec 32 := 1664#32
  let v3382 : BitVec 32 := Scalar.addi v3381 c1664_i32
  v3382
def k0_mult88 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1375 : BitVec 32 := 2048#32
  let v3433 : BitVec 32 := Scalar.muli v3 c2048_i32_1375
  let c1664_i32_1376 : BitVec 32 := 1664#32
  let v3434 : BitVec 32 := Scalar.addi v3433 c1664_i32_1376
  v3434
def k0_off78 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v3486 : Index := Scalar.indexCast v12
  let c0_1395 : Index := 0#32
  let c3584_1396 : Index := 3584#32
  ![v3486.toNat, 0, 3584]
def k0_off79 (i : grid0.Coords) (c0_i32_1398 : BitVec 32) : Fin 2 → Nat :=
  let c4_i32_1397 : BitVec 32 := 4#32
  let arg1 : BitVec 32 := BitVec.ofNat 32 (i 1).val
  let v3489 : BitVec 32 := Scalar.muli c4_i32_1397 arg1
  let v3490 : BitVec 32 := Scalar.addi v3489 c0_i32_1398
  let v3491 : Index := Scalar.indexCast v3490
  let c28 : Index := 28#32
  ![v3491.toNat, 28]
def k0_off80 (i : grid0.Coords) (c0_i32_1402 : BitVec 32) : Fin 2 → Nat :=
  let c4_i32_1401 : BitVec 32 := 4#32
  let arg1 : BitVec 32 := BitVec.ofNat 32 (i 1).val
  let v3498 : BitVec 32 := Scalar.muli c4_i32_1401 arg1
  let v3499 : BitVec 32 := Scalar.addi v3498 c0_i32_1402
  let v3500 : Index := Scalar.indexCast v3499
  let c29 : Index := 29#32
  ![v3500.toNat, 29]
def k0_mult89 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1449 : BitVec 32 := 5504#32
  let v3601 : BitVec 32 := Scalar.muli v3 c5504_i32_1449
  let c1792_i32 : BitVec 32 := 1792#32
  let v3602 : BitVec 32 := Scalar.addi v3601 c1792_i32
  v3602
def k0_mult90 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1463 : BitVec 32 := 2048#32
  let v3653 : BitVec 32 := Scalar.muli v3 c2048_i32_1463
  let c1792_i32_1464 : BitVec 32 := 1792#32
  let v3654 : BitVec 32 := Scalar.addi v3653 c1792_i32_1464
  v3654
def k0_off81 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v3706 : Index := Scalar.indexCast v12
  let c0_1483 : Index := 0#32
  let c3840_1484 : Index := 3840#32
  ![v3706.toNat, 0, 3840]
def k0_off82 (i : grid0.Coords) (c0_i32_1486 : BitVec 32) : Fin 2 → Nat :=
  let c4_i32_1485 : BitVec 32 := 4#32
  let arg1 : BitVec 32 := BitVec.ofNat 32 (i 1).val
  let v3709 : BitVec 32 := Scalar.muli c4_i32_1485 arg1
  let v3710 : BitVec 32 := Scalar.addi v3709 c0_i32_1486
  let v3711 : Index := Scalar.indexCast v3710
  let c30 : Index := 30#32
  ![v3711.toNat, 30]
def k0_off83 (i : grid0.Coords) (c0_i32_1490 : BitVec 32) : Fin 2 → Nat :=
  let c4_i32_1489 : BitVec 32 := 4#32
  let arg1 : BitVec 32 := BitVec.ofNat 32 (i 1).val
  let v3718 : BitVec 32 := Scalar.muli c4_i32_1489 arg1
  let v3719 : BitVec 32 := Scalar.addi v3718 c0_i32_1490
  let v3720 : Index := Scalar.indexCast v3719
  let c31 : Index := 31#32
  ![v3720.toNat, 31]
def k0_mult91 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1537 : BitVec 32 := 5504#32
  let v3821 : BitVec 32 := Scalar.muli v3 c5504_i32_1537
  let c1920_i32 : BitVec 32 := 1920#32
  let v3822 : BitVec 32 := Scalar.addi v3821 c1920_i32
  v3822
def k0_mult92 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c2048_i32_1551 : BitVec 32 := 2048#32
  let v3873 : BitVec 32 := Scalar.muli v3 c2048_i32_1551
  let c1920_i32_1552 : BitVec 32 := 1920#32
  let v3874 : BitVec 32 := Scalar.addi v3873 c1920_i32_1552
  v3874
def k0_off84 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v3926 : Index := Scalar.indexCast v12
  let c0_1571 : Index := 0#32
  let c4096 : Index := 4096#32
  ![v3926.toNat, 0, 4096]
def k0_off85 (i : grid0.Coords) (c0_i32_1573 : BitVec 32) : Fin 2 → Nat :=
  let c4_i32_1572 : BitVec 32 := 4#32
  let arg1 : BitVec 32 := BitVec.ofNat 32 (i 1).val
  let v3929 : BitVec 32 := Scalar.muli c4_i32_1572 arg1
  let v3930 : BitVec 32 := Scalar.addi v3929 c0_i32_1573
  let v3931 : Index := Scalar.indexCast v3930
  let c32 : Index := 32#32
  ![v3931.toNat, 32]
def k0_off86 (i : grid0.Coords) (c0_i32_1577 : BitVec 32) : Fin 2 → Nat :=
  let c4_i32_1576 : BitVec 32 := 4#32
  let arg1 : BitVec 32 := BitVec.ofNat 32 (i 1).val
  let v3938 : BitVec 32 := Scalar.muli c4_i32_1576 arg1
  let v3939 : BitVec 32 := Scalar.addi v3938 c0_i32_1577
  let v3940 : Index := Scalar.indexCast v3939
  let c33 : Index := 33#32
  ![v3940.toNat, 33]
def k0_mult93 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1623 : BitVec 32 := 5504#32
  let v4041 : BitVec 32 := Scalar.muli v3 c5504_i32_1623
  let c2048_i32_1624 : BitVec 32 := 2048#32
  let v4042 : BitVec 32 := Scalar.addi v4041 c2048_i32_1624
  v4042
def k0_off87 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v4093 : Index := Scalar.indexCast v12
  let c0_1638 : Index := 0#32
  let c4352 : Index := 4352#32
  ![v4093.toNat, 0, 4352]
def k0_off88 (i : grid0.Coords) (c0_i32_1640 : BitVec 32) : Fin 2 → Nat :=
  let c4_i32_1639 : BitVec 32 := 4#32
  let arg1 : BitVec 32 := BitVec.ofNat 32 (i 1).val
  let v4096 : BitVec 32 := Scalar.muli c4_i32_1639 arg1
  let v4097 : BitVec 32 := Scalar.addi v4096 c0_i32_1640
  let v4098 : Index := Scalar.indexCast v4097
  let c34 : Index := 34#32
  ![v4098.toNat, 34]
def k0_off89 (i : grid0.Coords) (c0_i32_1644 : BitVec 32) : Fin 2 → Nat :=
  let c4_i32_1643 : BitVec 32 := 4#32
  let arg1 : BitVec 32 := BitVec.ofNat 32 (i 1).val
  let v4105 : BitVec 32 := Scalar.muli c4_i32_1643 arg1
  let v4106 : BitVec 32 := Scalar.addi v4105 c0_i32_1644
  let v4107 : Index := Scalar.indexCast v4106
  let c35 : Index := 35#32
  ![v4107.toNat, 35]
def k0_mult94 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1690 : BitVec 32 := 5504#32
  let v4208 : BitVec 32 := Scalar.muli v3 c5504_i32_1690
  let c2176_i32 : BitVec 32 := 2176#32
  let v4209 : BitVec 32 := Scalar.addi v4208 c2176_i32
  v4209
def k0_off90 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v4260 : Index := Scalar.indexCast v12
  let c0_1704 : Index := 0#32
  let c4608 : Index := 4608#32
  ![v4260.toNat, 0, 4608]
def k0_off91 (i : grid0.Coords) (c0_i32_1706 : BitVec 32) : Fin 2 → Nat :=
  let c4_i32_1705 : BitVec 32 := 4#32
  let arg1 : BitVec 32 := BitVec.ofNat 32 (i 1).val
  let v4263 : BitVec 32 := Scalar.muli c4_i32_1705 arg1
  let v4264 : BitVec 32 := Scalar.addi v4263 c0_i32_1706
  let v4265 : Index := Scalar.indexCast v4264
  let c36 : Index := 36#32
  ![v4265.toNat, 36]
def k0_off92 (i : grid0.Coords) (c0_i32_1710 : BitVec 32) : Fin 2 → Nat :=
  let c4_i32_1709 : BitVec 32 := 4#32
  let arg1 : BitVec 32 := BitVec.ofNat 32 (i 1).val
  let v4272 : BitVec 32 := Scalar.muli c4_i32_1709 arg1
  let v4273 : BitVec 32 := Scalar.addi v4272 c0_i32_1710
  let v4274 : Index := Scalar.indexCast v4273
  let c37 : Index := 37#32
  ![v4274.toNat, 37]
def k0_mult95 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1756 : BitVec 32 := 5504#32
  let v4375 : BitVec 32 := Scalar.muli v3 c5504_i32_1756
  let c2304_i32 : BitVec 32 := 2304#32
  let v4376 : BitVec 32 := Scalar.addi v4375 c2304_i32
  v4376
def k0_off93 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v4427 : Index := Scalar.indexCast v12
  let c0_1770 : Index := 0#32
  let c4864 : Index := 4864#32
  ![v4427.toNat, 0, 4864]
def k0_off94 (i : grid0.Coords) (c0_i32_1772 : BitVec 32) : Fin 2 → Nat :=
  let c4_i32_1771 : BitVec 32 := 4#32
  let arg1 : BitVec 32 := BitVec.ofNat 32 (i 1).val
  let v4430 : BitVec 32 := Scalar.muli c4_i32_1771 arg1
  let v4431 : BitVec 32 := Scalar.addi v4430 c0_i32_1772
  let v4432 : Index := Scalar.indexCast v4431
  let c38 : Index := 38#32
  ![v4432.toNat, 38]
def k0_off95 (i : grid0.Coords) (c0_i32_1776 : BitVec 32) : Fin 2 → Nat :=
  let c4_i32_1775 : BitVec 32 := 4#32
  let arg1 : BitVec 32 := BitVec.ofNat 32 (i 1).val
  let v4439 : BitVec 32 := Scalar.muli c4_i32_1775 arg1
  let v4440 : BitVec 32 := Scalar.addi v4439 c0_i32_1776
  let v4441 : Index := Scalar.indexCast v4440
  let c39 : Index := 39#32
  ![v4441.toNat, 39]
def k0_mult96 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1822 : BitVec 32 := 5504#32
  let v4542 : BitVec 32 := Scalar.muli v3 c5504_i32_1822
  let c2432_i32 : BitVec 32 := 2432#32
  let v4543 : BitVec 32 := Scalar.addi v4542 c2432_i32
  v4543
def k0_off96 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v4594 : Index := Scalar.indexCast v12
  let c0_1836 : Index := 0#32
  let c5120 : Index := 5120#32
  ![v4594.toNat, 0, 5120]
def k0_off97 (i : grid0.Coords) (c0_i32_1838 : BitVec 32) : Fin 2 → Nat :=
  let c4_i32_1837 : BitVec 32 := 4#32
  let arg1 : BitVec 32 := BitVec.ofNat 32 (i 1).val
  let v4597 : BitVec 32 := Scalar.muli c4_i32_1837 arg1
  let v4598 : BitVec 32 := Scalar.addi v4597 c0_i32_1838
  let v4599 : Index := Scalar.indexCast v4598
  let c40 : Index := 40#32
  ![v4599.toNat, 40]
def k0_off98 (i : grid0.Coords) (c0_i32_1842 : BitVec 32) : Fin 2 → Nat :=
  let c4_i32_1841 : BitVec 32 := 4#32
  let arg1 : BitVec 32 := BitVec.ofNat 32 (i 1).val
  let v4606 : BitVec 32 := Scalar.muli c4_i32_1841 arg1
  let v4607 : BitVec 32 := Scalar.addi v4606 c0_i32_1842
  let v4608 : Index := Scalar.indexCast v4607
  let c41 : Index := 41#32
  ![v4608.toNat, 41]
def k0_mult97 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1888 : BitVec 32 := 5504#32
  let v4709 : BitVec 32 := Scalar.muli v3 c5504_i32_1888
  let c2560_i32 : BitVec 32 := 2560#32
  let v4710 : BitVec 32 := Scalar.addi v4709 c2560_i32
  v4710
def k0_off99 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v4761 : Index := Scalar.indexCast v12
  let c0_1902 : Index := 0#32
  let c5376 : Index := 5376#32
  ![v4761.toNat, 0, 5376]
def k0_off100 (i : grid0.Coords) (c0_i32_1904 : BitVec 32) : Fin 2 → Nat :=
  let c4_i32_1903 : BitVec 32 := 4#32
  let arg1 : BitVec 32 := BitVec.ofNat 32 (i 1).val
  let v4764 : BitVec 32 := Scalar.muli c4_i32_1903 arg1
  let v4765 : BitVec 32 := Scalar.addi v4764 c0_i32_1904
  let v4766 : Index := Scalar.indexCast v4765
  let c42 : Index := 42#32
  ![v4766.toNat, 42]
def k0_off101 (i : grid0.Coords) (c0_i32_1908 : BitVec 32) : Fin 2 → Nat :=
  let c4_i32_1907 : BitVec 32 := 4#32
  let arg1 : BitVec 32 := BitVec.ofNat 32 (i 1).val
  let v4773 : BitVec 32 := Scalar.muli c4_i32_1907 arg1
  let v4774 : BitVec 32 := Scalar.addi v4773 c0_i32_1908
  let v4775 : Index := Scalar.indexCast v4774
  let c43 : Index := 43#32
  ![v4775.toNat, 43]
def k0_mult98 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_1954 : BitVec 32 := 5504#32
  let v4876 : BitVec 32 := Scalar.muli v3 c5504_i32_1954
  let c2688_i32 : BitVec 32 := 2688#32
  let v4877 : BitVec 32 := Scalar.addi v4876 c2688_i32
  v4877
def k0_off102 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v4928 : Index := Scalar.indexCast v12
  let c0_1968 : Index := 0#32
  let c5632 : Index := 5632#32
  ![v4928.toNat, 0, 5632]
def k0_off103 (i : grid0.Coords) (c0_i32_1970 : BitVec 32) : Fin 2 → Nat :=
  let c4_i32_1969 : BitVec 32 := 4#32
  let arg1 : BitVec 32 := BitVec.ofNat 32 (i 1).val
  let v4931 : BitVec 32 := Scalar.muli c4_i32_1969 arg1
  let v4932 : BitVec 32 := Scalar.addi v4931 c0_i32_1970
  let v4933 : Index := Scalar.indexCast v4932
  let c44 : Index := 44#32
  ![v4933.toNat, 44]
def k0_off104 (i : grid0.Coords) (c0_i32_1974 : BitVec 32) : Fin 2 → Nat :=
  let c4_i32_1973 : BitVec 32 := 4#32
  let arg1 : BitVec 32 := BitVec.ofNat 32 (i 1).val
  let v4940 : BitVec 32 := Scalar.muli c4_i32_1973 arg1
  let v4941 : BitVec 32 := Scalar.addi v4940 c0_i32_1974
  let v4942 : Index := Scalar.indexCast v4941
  let c45 : Index := 45#32
  ![v4942.toNat, 45]
def k0_mult99 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2020 : BitVec 32 := 5504#32
  let v5043 : BitVec 32 := Scalar.muli v3 c5504_i32_2020
  let c2816_i32 : BitVec 32 := 2816#32
  let v5044 : BitVec 32 := Scalar.addi v5043 c2816_i32
  v5044
def k0_off105 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v5095 : Index := Scalar.indexCast v12
  let c0_2034 : Index := 0#32
  let c5888 : Index := 5888#32
  ![v5095.toNat, 0, 5888]
def k0_off106 (i : grid0.Coords) (c0_i32_2036 : BitVec 32) : Fin 2 → Nat :=
  let c4_i32_2035 : BitVec 32 := 4#32
  let arg1 : BitVec 32 := BitVec.ofNat 32 (i 1).val
  let v5098 : BitVec 32 := Scalar.muli c4_i32_2035 arg1
  let v5099 : BitVec 32 := Scalar.addi v5098 c0_i32_2036
  let v5100 : Index := Scalar.indexCast v5099
  let c46 : Index := 46#32
  ![v5100.toNat, 46]
def k0_off107 (i : grid0.Coords) (c0_i32_2040 : BitVec 32) : Fin 2 → Nat :=
  let c4_i32_2039 : BitVec 32 := 4#32
  let arg1 : BitVec 32 := BitVec.ofNat 32 (i 1).val
  let v5107 : BitVec 32 := Scalar.muli c4_i32_2039 arg1
  let v5108 : BitVec 32 := Scalar.addi v5107 c0_i32_2040
  let v5109 : Index := Scalar.indexCast v5108
  let c47 : Index := 47#32
  ![v5109.toNat, 47]
def k0_mult100 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2086 : BitVec 32 := 5504#32
  let v5210 : BitVec 32 := Scalar.muli v3 c5504_i32_2086
  let c2944_i32 : BitVec 32 := 2944#32
  let v5211 : BitVec 32 := Scalar.addi v5210 c2944_i32
  v5211
def k0_off108 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v5262 : Index := Scalar.indexCast v12
  let c0_2100 : Index := 0#32
  let c6144 : Index := 6144#32
  ![v5262.toNat, 0, 6144]
def k0_off109 (i : grid0.Coords) (c0_i32_2102 : BitVec 32) : Fin 2 → Nat :=
  let c4_i32_2101 : BitVec 32 := 4#32
  let arg1 : BitVec 32 := BitVec.ofNat 32 (i 1).val
  let v5265 : BitVec 32 := Scalar.muli c4_i32_2101 arg1
  let v5266 : BitVec 32 := Scalar.addi v5265 c0_i32_2102
  let v5267 : Index := Scalar.indexCast v5266
  let c48 : Index := 48#32
  ![v5267.toNat, 48]
def k0_off110 (i : grid0.Coords) (c0_i32_2106 : BitVec 32) : Fin 2 → Nat :=
  let c4_i32_2105 : BitVec 32 := 4#32
  let arg1 : BitVec 32 := BitVec.ofNat 32 (i 1).val
  let v5274 : BitVec 32 := Scalar.muli c4_i32_2105 arg1
  let v5275 : BitVec 32 := Scalar.addi v5274 c0_i32_2106
  let v5276 : Index := Scalar.indexCast v5275
  let c49 : Index := 49#32
  ![v5276.toNat, 49]
def k0_mult101 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2152 : BitVec 32 := 5504#32
  let v5377 : BitVec 32 := Scalar.muli v3 c5504_i32_2152
  let c3072_i32 : BitVec 32 := 3072#32
  let v5378 : BitVec 32 := Scalar.addi v5377 c3072_i32
  v5378
def k0_off111 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v5429 : Index := Scalar.indexCast v12
  let c0_2166 : Index := 0#32
  let c6400 : Index := 6400#32
  ![v5429.toNat, 0, 6400]
def k0_off112 (i : grid0.Coords) (c0_i32_2168 : BitVec 32) : Fin 2 → Nat :=
  let c4_i32_2167 : BitVec 32 := 4#32
  let arg1 : BitVec 32 := BitVec.ofNat 32 (i 1).val
  let v5432 : BitVec 32 := Scalar.muli c4_i32_2167 arg1
  let v5433 : BitVec 32 := Scalar.addi v5432 c0_i32_2168
  let v5434 : Index := Scalar.indexCast v5433
  let c50 : Index := 50#32
  ![v5434.toNat, 50]
def k0_off113 (i : grid0.Coords) (c0_i32_2172 : BitVec 32) : Fin 2 → Nat :=
  let c4_i32_2171 : BitVec 32 := 4#32
  let arg1 : BitVec 32 := BitVec.ofNat 32 (i 1).val
  let v5441 : BitVec 32 := Scalar.muli c4_i32_2171 arg1
  let v5442 : BitVec 32 := Scalar.addi v5441 c0_i32_2172
  let v5443 : Index := Scalar.indexCast v5442
  let c51 : Index := 51#32
  ![v5443.toNat, 51]
def k0_mult102 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2218 : BitVec 32 := 5504#32
  let v5544 : BitVec 32 := Scalar.muli v3 c5504_i32_2218
  let c3200_i32 : BitVec 32 := 3200#32
  let v5545 : BitVec 32 := Scalar.addi v5544 c3200_i32
  v5545
def k0_off114 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v5596 : Index := Scalar.indexCast v12
  let c0_2232 : Index := 0#32
  let c6656 : Index := 6656#32
  ![v5596.toNat, 0, 6656]
def k0_off115 (i : grid0.Coords) (c0_i32_2234 : BitVec 32) : Fin 2 → Nat :=
  let c4_i32_2233 : BitVec 32 := 4#32
  let arg1 : BitVec 32 := BitVec.ofNat 32 (i 1).val
  let v5599 : BitVec 32 := Scalar.muli c4_i32_2233 arg1
  let v5600 : BitVec 32 := Scalar.addi v5599 c0_i32_2234
  let v5601 : Index := Scalar.indexCast v5600
  let c52 : Index := 52#32
  ![v5601.toNat, 52]
def k0_off116 (i : grid0.Coords) (c0_i32_2238 : BitVec 32) : Fin 2 → Nat :=
  let c4_i32_2237 : BitVec 32 := 4#32
  let arg1 : BitVec 32 := BitVec.ofNat 32 (i 1).val
  let v5608 : BitVec 32 := Scalar.muli c4_i32_2237 arg1
  let v5609 : BitVec 32 := Scalar.addi v5608 c0_i32_2238
  let v5610 : Index := Scalar.indexCast v5609
  let c53 : Index := 53#32
  ![v5610.toNat, 53]
def k0_mult103 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2284 : BitVec 32 := 5504#32
  let v5711 : BitVec 32 := Scalar.muli v3 c5504_i32_2284
  let c3328_i32 : BitVec 32 := 3328#32
  let v5712 : BitVec 32 := Scalar.addi v5711 c3328_i32
  v5712
def k0_off117 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v5763 : Index := Scalar.indexCast v12
  let c0_2298 : Index := 0#32
  let c6912 : Index := 6912#32
  ![v5763.toNat, 0, 6912]
def k0_off118 (i : grid0.Coords) (c0_i32_2300 : BitVec 32) : Fin 2 → Nat :=
  let c4_i32_2299 : BitVec 32 := 4#32
  let arg1 : BitVec 32 := BitVec.ofNat 32 (i 1).val
  let v5766 : BitVec 32 := Scalar.muli c4_i32_2299 arg1
  let v5767 : BitVec 32 := Scalar.addi v5766 c0_i32_2300
  let v5768 : Index := Scalar.indexCast v5767
  let c54 : Index := 54#32
  ![v5768.toNat, 54]
def k0_off119 (i : grid0.Coords) (c0_i32_2304 : BitVec 32) : Fin 2 → Nat :=
  let c4_i32_2303 : BitVec 32 := 4#32
  let arg1 : BitVec 32 := BitVec.ofNat 32 (i 1).val
  let v5775 : BitVec 32 := Scalar.muli c4_i32_2303 arg1
  let v5776 : BitVec 32 := Scalar.addi v5775 c0_i32_2304
  let v5777 : Index := Scalar.indexCast v5776
  let c55 : Index := 55#32
  ![v5777.toNat, 55]
def k0_mult104 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2350 : BitVec 32 := 5504#32
  let v5878 : BitVec 32 := Scalar.muli v3 c5504_i32_2350
  let c3456_i32 : BitVec 32 := 3456#32
  let v5879 : BitVec 32 := Scalar.addi v5878 c3456_i32
  v5879
def k0_off120 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v5930 : Index := Scalar.indexCast v12
  let c0_2364 : Index := 0#32
  let c7168 : Index := 7168#32
  ![v5930.toNat, 0, 7168]
def k0_off121 (i : grid0.Coords) (c0_i32_2366 : BitVec 32) : Fin 2 → Nat :=
  let c4_i32_2365 : BitVec 32 := 4#32
  let arg1 : BitVec 32 := BitVec.ofNat 32 (i 1).val
  let v5933 : BitVec 32 := Scalar.muli c4_i32_2365 arg1
  let v5934 : BitVec 32 := Scalar.addi v5933 c0_i32_2366
  let v5935 : Index := Scalar.indexCast v5934
  let c56 : Index := 56#32
  ![v5935.toNat, 56]
def k0_off122 (i : grid0.Coords) (c0_i32_2370 : BitVec 32) : Fin 2 → Nat :=
  let c4_i32_2369 : BitVec 32 := 4#32
  let arg1 : BitVec 32 := BitVec.ofNat 32 (i 1).val
  let v5942 : BitVec 32 := Scalar.muli c4_i32_2369 arg1
  let v5943 : BitVec 32 := Scalar.addi v5942 c0_i32_2370
  let v5944 : Index := Scalar.indexCast v5943
  let c57 : Index := 57#32
  ![v5944.toNat, 57]
def k0_mult105 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2416 : BitVec 32 := 5504#32
  let v6045 : BitVec 32 := Scalar.muli v3 c5504_i32_2416
  let c3584_i32 : BitVec 32 := 3584#32
  let v6046 : BitVec 32 := Scalar.addi v6045 c3584_i32
  v6046
def k0_off123 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v6097 : Index := Scalar.indexCast v12
  let c0_2430 : Index := 0#32
  let c7424 : Index := 7424#32
  ![v6097.toNat, 0, 7424]
def k0_off124 (i : grid0.Coords) (c0_i32_2432 : BitVec 32) : Fin 2 → Nat :=
  let c4_i32_2431 : BitVec 32 := 4#32
  let arg1 : BitVec 32 := BitVec.ofNat 32 (i 1).val
  let v6100 : BitVec 32 := Scalar.muli c4_i32_2431 arg1
  let v6101 : BitVec 32 := Scalar.addi v6100 c0_i32_2432
  let v6102 : Index := Scalar.indexCast v6101
  let c58 : Index := 58#32
  ![v6102.toNat, 58]
def k0_off125 (i : grid0.Coords) (c0_i32_2436 : BitVec 32) : Fin 2 → Nat :=
  let c4_i32_2435 : BitVec 32 := 4#32
  let arg1 : BitVec 32 := BitVec.ofNat 32 (i 1).val
  let v6109 : BitVec 32 := Scalar.muli c4_i32_2435 arg1
  let v6110 : BitVec 32 := Scalar.addi v6109 c0_i32_2436
  let v6111 : Index := Scalar.indexCast v6110
  let c59 : Index := 59#32
  ![v6111.toNat, 59]
def k0_mult106 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2482 : BitVec 32 := 5504#32
  let v6212 : BitVec 32 := Scalar.muli v3 c5504_i32_2482
  let c3712_i32 : BitVec 32 := 3712#32
  let v6213 : BitVec 32 := Scalar.addi v6212 c3712_i32
  v6213
def k0_off126 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v6264 : Index := Scalar.indexCast v12
  let c0_2496 : Index := 0#32
  let c7680 : Index := 7680#32
  ![v6264.toNat, 0, 7680]
def k0_off127 (i : grid0.Coords) (c0_i32_2498 : BitVec 32) : Fin 2 → Nat :=
  let c4_i32_2497 : BitVec 32 := 4#32
  let arg1 : BitVec 32 := BitVec.ofNat 32 (i 1).val
  let v6267 : BitVec 32 := Scalar.muli c4_i32_2497 arg1
  let v6268 : BitVec 32 := Scalar.addi v6267 c0_i32_2498
  let v6269 : Index := Scalar.indexCast v6268
  let c60 : Index := 60#32
  ![v6269.toNat, 60]
def k0_off128 (i : grid0.Coords) (c0_i32_2502 : BitVec 32) : Fin 2 → Nat :=
  let c4_i32_2501 : BitVec 32 := 4#32
  let arg1 : BitVec 32 := BitVec.ofNat 32 (i 1).val
  let v6276 : BitVec 32 := Scalar.muli c4_i32_2501 arg1
  let v6277 : BitVec 32 := Scalar.addi v6276 c0_i32_2502
  let v6278 : Index := Scalar.indexCast v6277
  let c61 : Index := 61#32
  ![v6278.toNat, 61]
def k0_mult107 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2548 : BitVec 32 := 5504#32
  let v6379 : BitVec 32 := Scalar.muli v3 c5504_i32_2548
  let c3840_i32 : BitVec 32 := 3840#32
  let v6380 : BitVec 32 := Scalar.addi v6379 c3840_i32
  v6380
def k0_off129 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v6431 : Index := Scalar.indexCast v12
  let c0_2562 : Index := 0#32
  let c7936 : Index := 7936#32
  ![v6431.toNat, 0, 7936]
def k0_off130 (i : grid0.Coords) (c0_i32_2564 : BitVec 32) : Fin 2 → Nat :=
  let c4_i32_2563 : BitVec 32 := 4#32
  let arg1 : BitVec 32 := BitVec.ofNat 32 (i 1).val
  let v6434 : BitVec 32 := Scalar.muli c4_i32_2563 arg1
  let v6435 : BitVec 32 := Scalar.addi v6434 c0_i32_2564
  let v6436 : Index := Scalar.indexCast v6435
  let c62 : Index := 62#32
  ![v6436.toNat, 62]
def k0_off131 (i : grid0.Coords) (c0_i32_2568 : BitVec 32) : Fin 2 → Nat :=
  let c4_i32_2567 : BitVec 32 := 4#32
  let arg1 : BitVec 32 := BitVec.ofNat 32 (i 1).val
  let v6443 : BitVec 32 := Scalar.muli c4_i32_2567 arg1
  let v6444 : BitVec 32 := Scalar.addi v6443 c0_i32_2568
  let v6445 : Index := Scalar.indexCast v6444
  let c63 : Index := 63#32
  ![v6445.toNat, 63]
def k0_mult108 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2614 : BitVec 32 := 5504#32
  let v6546 : BitVec 32 := Scalar.muli v3 c5504_i32_2614
  let c3968_i32 : BitVec 32 := 3968#32
  let v6547 : BitVec 32 := Scalar.addi v6546 c3968_i32
  v6547
def k0_off132 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v6598 : Index := Scalar.indexCast v12
  let c0_2628 : Index := 0#32
  let c8192 : Index := 8192#32
  ![v6598.toNat, 0, 8192]
def k0_off133 (i : grid0.Coords) (c0_i32_2630 : BitVec 32) : Fin 2 → Nat :=
  let c4_i32_2629 : BitVec 32 := 4#32
  let arg1 : BitVec 32 := BitVec.ofNat 32 (i 1).val
  let v6601 : BitVec 32 := Scalar.muli c4_i32_2629 arg1
  let v6602 : BitVec 32 := Scalar.addi v6601 c0_i32_2630
  let v6603 : Index := Scalar.indexCast v6602
  let c64_2631 : Index := 64#32
  ![v6603.toNat, 64]
def k0_off134 (i : grid0.Coords) (c0_i32_2635 : BitVec 32) : Fin 2 → Nat :=
  let c4_i32_2634 : BitVec 32 := 4#32
  let arg1 : BitVec 32 := BitVec.ofNat 32 (i 1).val
  let v6610 : BitVec 32 := Scalar.muli c4_i32_2634 arg1
  let v6611 : BitVec 32 := Scalar.addi v6610 c0_i32_2635
  let v6612 : Index := Scalar.indexCast v6611
  let c65 : Index := 65#32
  ![v6612.toNat, 65]
def k0_mult109 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2681 : BitVec 32 := 5504#32
  let v6713 : BitVec 32 := Scalar.muli v3 c5504_i32_2681
  let c4096_i32 : BitVec 32 := 4096#32
  let v6714 : BitVec 32 := Scalar.addi v6713 c4096_i32
  v6714
def k0_off135 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v6765 : Index := Scalar.indexCast v12
  let c0_2695 : Index := 0#32
  let c8448 : Index := 8448#32
  ![v6765.toNat, 0, 8448]
def k0_off136 (i : grid0.Coords) (c0_i32_2697 : BitVec 32) : Fin 2 → Nat :=
  let c4_i32_2696 : BitVec 32 := 4#32
  let arg1 : BitVec 32 := BitVec.ofNat 32 (i 1).val
  let v6768 : BitVec 32 := Scalar.muli c4_i32_2696 arg1
  let v6769 : BitVec 32 := Scalar.addi v6768 c0_i32_2697
  let v6770 : Index := Scalar.indexCast v6769
  let c66 : Index := 66#32
  ![v6770.toNat, 66]
def k0_off137 (i : grid0.Coords) (c0_i32_2701 : BitVec 32) : Fin 2 → Nat :=
  let c4_i32_2700 : BitVec 32 := 4#32
  let arg1 : BitVec 32 := BitVec.ofNat 32 (i 1).val
  let v6777 : BitVec 32 := Scalar.muli c4_i32_2700 arg1
  let v6778 : BitVec 32 := Scalar.addi v6777 c0_i32_2701
  let v6779 : Index := Scalar.indexCast v6778
  let c67 : Index := 67#32
  ![v6779.toNat, 67]
def k0_mult110 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2747 : BitVec 32 := 5504#32
  let v6880 : BitVec 32 := Scalar.muli v3 c5504_i32_2747
  let c4224_i32 : BitVec 32 := 4224#32
  let v6881 : BitVec 32 := Scalar.addi v6880 c4224_i32
  v6881
def k0_off138 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v6932 : Index := Scalar.indexCast v12
  let c0_2761 : Index := 0#32
  let c8704 : Index := 8704#32
  ![v6932.toNat, 0, 8704]
def k0_off139 (i : grid0.Coords) (c0_i32_2763 : BitVec 32) : Fin 2 → Nat :=
  let c4_i32_2762 : BitVec 32 := 4#32
  let arg1 : BitVec 32 := BitVec.ofNat 32 (i 1).val
  let v6935 : BitVec 32 := Scalar.muli c4_i32_2762 arg1
  let v6936 : BitVec 32 := Scalar.addi v6935 c0_i32_2763
  let v6937 : Index := Scalar.indexCast v6936
  let c68 : Index := 68#32
  ![v6937.toNat, 68]
def k0_off140 (i : grid0.Coords) (c0_i32_2767 : BitVec 32) : Fin 2 → Nat :=
  let c4_i32_2766 : BitVec 32 := 4#32
  let arg1 : BitVec 32 := BitVec.ofNat 32 (i 1).val
  let v6944 : BitVec 32 := Scalar.muli c4_i32_2766 arg1
  let v6945 : BitVec 32 := Scalar.addi v6944 c0_i32_2767
  let v6946 : Index := Scalar.indexCast v6945
  let c69 : Index := 69#32
  ![v6946.toNat, 69]
def k0_mult111 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2813 : BitVec 32 := 5504#32
  let v7047 : BitVec 32 := Scalar.muli v3 c5504_i32_2813
  let c4352_i32 : BitVec 32 := 4352#32
  let v7048 : BitVec 32 := Scalar.addi v7047 c4352_i32
  v7048
def k0_off141 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v7099 : Index := Scalar.indexCast v12
  let c0_2827 : Index := 0#32
  let c8960 : Index := 8960#32
  ![v7099.toNat, 0, 8960]
def k0_off142 (i : grid0.Coords) (c0_i32_2829 : BitVec 32) : Fin 2 → Nat :=
  let c4_i32_2828 : BitVec 32 := 4#32
  let arg1 : BitVec 32 := BitVec.ofNat 32 (i 1).val
  let v7102 : BitVec 32 := Scalar.muli c4_i32_2828 arg1
  let v7103 : BitVec 32 := Scalar.addi v7102 c0_i32_2829
  let v7104 : Index := Scalar.indexCast v7103
  let c70 : Index := 70#32
  ![v7104.toNat, 70]
def k0_off143 (i : grid0.Coords) (c0_i32_2833 : BitVec 32) : Fin 2 → Nat :=
  let c4_i32_2832 : BitVec 32 := 4#32
  let arg1 : BitVec 32 := BitVec.ofNat 32 (i 1).val
  let v7111 : BitVec 32 := Scalar.muli c4_i32_2832 arg1
  let v7112 : BitVec 32 := Scalar.addi v7111 c0_i32_2833
  let v7113 : Index := Scalar.indexCast v7112
  let c71 : Index := 71#32
  ![v7113.toNat, 71]
def k0_mult112 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2879 : BitVec 32 := 5504#32
  let v7214 : BitVec 32 := Scalar.muli v3 c5504_i32_2879
  let c4480_i32 : BitVec 32 := 4480#32
  let v7215 : BitVec 32 := Scalar.addi v7214 c4480_i32
  v7215
def k0_off144 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v7266 : Index := Scalar.indexCast v12
  let c0_2893 : Index := 0#32
  let c9216 : Index := 9216#32
  ![v7266.toNat, 0, 9216]
def k0_off145 (i : grid0.Coords) (c0_i32_2895 : BitVec 32) : Fin 2 → Nat :=
  let c4_i32_2894 : BitVec 32 := 4#32
  let arg1 : BitVec 32 := BitVec.ofNat 32 (i 1).val
  let v7269 : BitVec 32 := Scalar.muli c4_i32_2894 arg1
  let v7270 : BitVec 32 := Scalar.addi v7269 c0_i32_2895
  let v7271 : Index := Scalar.indexCast v7270
  let c72 : Index := 72#32
  ![v7271.toNat, 72]
def k0_off146 (i : grid0.Coords) (c0_i32_2899 : BitVec 32) : Fin 2 → Nat :=
  let c4_i32_2898 : BitVec 32 := 4#32
  let arg1 : BitVec 32 := BitVec.ofNat 32 (i 1).val
  let v7278 : BitVec 32 := Scalar.muli c4_i32_2898 arg1
  let v7279 : BitVec 32 := Scalar.addi v7278 c0_i32_2899
  let v7280 : Index := Scalar.indexCast v7279
  let c73 : Index := 73#32
  ![v7280.toNat, 73]
def k0_mult113 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_2945 : BitVec 32 := 5504#32
  let v7381 : BitVec 32 := Scalar.muli v3 c5504_i32_2945
  let c4608_i32 : BitVec 32 := 4608#32
  let v7382 : BitVec 32 := Scalar.addi v7381 c4608_i32
  v7382
def k0_off147 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v7433 : Index := Scalar.indexCast v12
  let c0_2959 : Index := 0#32
  let c9472 : Index := 9472#32
  ![v7433.toNat, 0, 9472]
def k0_off148 (i : grid0.Coords) (c0_i32_2961 : BitVec 32) : Fin 2 → Nat :=
  let c4_i32_2960 : BitVec 32 := 4#32
  let arg1 : BitVec 32 := BitVec.ofNat 32 (i 1).val
  let v7436 : BitVec 32 := Scalar.muli c4_i32_2960 arg1
  let v7437 : BitVec 32 := Scalar.addi v7436 c0_i32_2961
  let v7438 : Index := Scalar.indexCast v7437
  let c74 : Index := 74#32
  ![v7438.toNat, 74]
def k0_off149 (i : grid0.Coords) (c0_i32_2965 : BitVec 32) : Fin 2 → Nat :=
  let c4_i32_2964 : BitVec 32 := 4#32
  let arg1 : BitVec 32 := BitVec.ofNat 32 (i 1).val
  let v7445 : BitVec 32 := Scalar.muli c4_i32_2964 arg1
  let v7446 : BitVec 32 := Scalar.addi v7445 c0_i32_2965
  let v7447 : Index := Scalar.indexCast v7446
  let c75 : Index := 75#32
  ![v7447.toNat, 75]
def k0_mult114 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_3011 : BitVec 32 := 5504#32
  let v7548 : BitVec 32 := Scalar.muli v3 c5504_i32_3011
  let c4736_i32 : BitVec 32 := 4736#32
  let v7549 : BitVec 32 := Scalar.addi v7548 c4736_i32
  v7549
def k0_off150 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v7600 : Index := Scalar.indexCast v12
  let c0_3025 : Index := 0#32
  let c9728 : Index := 9728#32
  ![v7600.toNat, 0, 9728]
def k0_off151 (i : grid0.Coords) (c0_i32_3027 : BitVec 32) : Fin 2 → Nat :=
  let c4_i32_3026 : BitVec 32 := 4#32
  let arg1 : BitVec 32 := BitVec.ofNat 32 (i 1).val
  let v7603 : BitVec 32 := Scalar.muli c4_i32_3026 arg1
  let v7604 : BitVec 32 := Scalar.addi v7603 c0_i32_3027
  let v7605 : Index := Scalar.indexCast v7604
  let c76 : Index := 76#32
  ![v7605.toNat, 76]
def k0_off152 (i : grid0.Coords) (c0_i32_3031 : BitVec 32) : Fin 2 → Nat :=
  let c4_i32_3030 : BitVec 32 := 4#32
  let arg1 : BitVec 32 := BitVec.ofNat 32 (i 1).val
  let v7612 : BitVec 32 := Scalar.muli c4_i32_3030 arg1
  let v7613 : BitVec 32 := Scalar.addi v7612 c0_i32_3031
  let v7614 : Index := Scalar.indexCast v7613
  let c77 : Index := 77#32
  ![v7614.toNat, 77]
def k0_mult115 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_3077 : BitVec 32 := 5504#32
  let v7715 : BitVec 32 := Scalar.muli v3 c5504_i32_3077
  let c4864_i32 : BitVec 32 := 4864#32
  let v7716 : BitVec 32 := Scalar.addi v7715 c4864_i32
  v7716
def k0_off153 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v7767 : Index := Scalar.indexCast v12
  let c0_3091 : Index := 0#32
  let c9984 : Index := 9984#32
  ![v7767.toNat, 0, 9984]
def k0_off154 (i : grid0.Coords) (c0_i32_3093 : BitVec 32) : Fin 2 → Nat :=
  let c4_i32_3092 : BitVec 32 := 4#32
  let arg1 : BitVec 32 := BitVec.ofNat 32 (i 1).val
  let v7770 : BitVec 32 := Scalar.muli c4_i32_3092 arg1
  let v7771 : BitVec 32 := Scalar.addi v7770 c0_i32_3093
  let v7772 : Index := Scalar.indexCast v7771
  let c78 : Index := 78#32
  ![v7772.toNat, 78]
def k0_off155 (i : grid0.Coords) (c0_i32_3097 : BitVec 32) : Fin 2 → Nat :=
  let c4_i32_3096 : BitVec 32 := 4#32
  let arg1 : BitVec 32 := BitVec.ofNat 32 (i 1).val
  let v7779 : BitVec 32 := Scalar.muli c4_i32_3096 arg1
  let v7780 : BitVec 32 := Scalar.addi v7779 c0_i32_3097
  let v7781 : Index := Scalar.indexCast v7780
  let c79 : Index := 79#32
  ![v7781.toNat, 79]
def k0_mult116 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_3143 : BitVec 32 := 5504#32
  let v7882 : BitVec 32 := Scalar.muli v3 c5504_i32_3143
  let c4992_i32 : BitVec 32 := 4992#32
  let v7883 : BitVec 32 := Scalar.addi v7882 c4992_i32
  v7883
def k0_off156 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v7934 : Index := Scalar.indexCast v12
  let c0_3157 : Index := 0#32
  let c10240 : Index := 10240#32
  ![v7934.toNat, 0, 10240]
def k0_off157 (i : grid0.Coords) (c0_i32_3159 : BitVec 32) : Fin 2 → Nat :=
  let c4_i32_3158 : BitVec 32 := 4#32
  let arg1 : BitVec 32 := BitVec.ofNat 32 (i 1).val
  let v7937 : BitVec 32 := Scalar.muli c4_i32_3158 arg1
  let v7938 : BitVec 32 := Scalar.addi v7937 c0_i32_3159
  let v7939 : Index := Scalar.indexCast v7938
  let c80 : Index := 80#32
  ![v7939.toNat, 80]
def k0_off158 (i : grid0.Coords) (c0_i32_3163 : BitVec 32) : Fin 2 → Nat :=
  let c4_i32_3162 : BitVec 32 := 4#32
  let arg1 : BitVec 32 := BitVec.ofNat 32 (i 1).val
  let v7946 : BitVec 32 := Scalar.muli c4_i32_3162 arg1
  let v7947 : BitVec 32 := Scalar.addi v7946 c0_i32_3163
  let v7948 : Index := Scalar.indexCast v7947
  let c81 : Index := 81#32
  ![v7948.toNat, 81]
def k0_mult117 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_3209 : BitVec 32 := 5504#32
  let v8049 : BitVec 32 := Scalar.muli v3 c5504_i32_3209
  let c5120_i32 : BitVec 32 := 5120#32
  let v8050 : BitVec 32 := Scalar.addi v8049 c5120_i32
  v8050
def k0_off159 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8101 : Index := Scalar.indexCast v12
  let c0_3223 : Index := 0#32
  let c10496 : Index := 10496#32
  ![v8101.toNat, 0, 10496]
def k0_off160 (i : grid0.Coords) (c0_i32_3225 : BitVec 32) : Fin 2 → Nat :=
  let c4_i32_3224 : BitVec 32 := 4#32
  let arg1 : BitVec 32 := BitVec.ofNat 32 (i 1).val
  let v8104 : BitVec 32 := Scalar.muli c4_i32_3224 arg1
  let v8105 : BitVec 32 := Scalar.addi v8104 c0_i32_3225
  let v8106 : Index := Scalar.indexCast v8105
  let c82 : Index := 82#32
  ![v8106.toNat, 82]
def k0_off161 (i : grid0.Coords) (c0_i32_3229 : BitVec 32) : Fin 2 → Nat :=
  let c4_i32_3228 : BitVec 32 := 4#32
  let arg1 : BitVec 32 := BitVec.ofNat 32 (i 1).val
  let v8113 : BitVec 32 := Scalar.muli c4_i32_3228 arg1
  let v8114 : BitVec 32 := Scalar.addi v8113 c0_i32_3229
  let v8115 : Index := Scalar.indexCast v8114
  let c83 : Index := 83#32
  ![v8115.toNat, 83]
def k0_mult118 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_3275 : BitVec 32 := 5504#32
  let v8216 : BitVec 32 := Scalar.muli v3 c5504_i32_3275
  let c5248_i32 : BitVec 32 := 5248#32
  let v8217 : BitVec 32 := Scalar.addi v8216 c5248_i32
  v8217
def k0_off162 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8268 : Index := Scalar.indexCast v12
  let c0_3289 : Index := 0#32
  let c10752 : Index := 10752#32
  ![v8268.toNat, 0, 10752]
def k0_off163 (i : grid0.Coords) (c0_i32_3291 : BitVec 32) : Fin 2 → Nat :=
  let c4_i32_3290 : BitVec 32 := 4#32
  let arg1 : BitVec 32 := BitVec.ofNat 32 (i 1).val
  let v8271 : BitVec 32 := Scalar.muli c4_i32_3290 arg1
  let v8272 : BitVec 32 := Scalar.addi v8271 c0_i32_3291
  let v8273 : Index := Scalar.indexCast v8272
  let c84 : Index := 84#32
  ![v8273.toNat, 84]
def k0_off164 (i : grid0.Coords) (c0_i32_3295 : BitVec 32) : Fin 2 → Nat :=
  let c4_i32_3294 : BitVec 32 := 4#32
  let arg1 : BitVec 32 := BitVec.ofNat 32 (i 1).val
  let v8280 : BitVec 32 := Scalar.muli c4_i32_3294 arg1
  let v8281 : BitVec 32 := Scalar.addi v8280 c0_i32_3295
  let v8282 : Index := Scalar.indexCast v8281
  let c85 : Index := 85#32
  ![v8282.toNat, 85]
def k0_mult119 (i : grid0.Coords) : BitVec 32 :=
  let arg0 : BitVec 32 := BitVec.ofNat 32 (i 0).val
  let c24_i32 : BitVec 32 := 24#32
  let v1 : BitVec 1 := Scalar.cmpi .slt arg0 c24_i32
  let arg1 : BitVec 32 := BitVec.ofNat 32 (i 1).val
  let c7_i32 : BitVec 32 := 7#32
  let v2 : BitVec 32 := Scalar.select v1 arg1 c7_i32
  let c2_i32 : BitVec 32 := 2#32
  let v3 : BitVec 32 := Scalar.remsi v2 c2_i32
  let c5504_i32_3341 : BitVec 32 := 5504#32
  let v8383 : BitVec 32 := Scalar.muli v3 c5504_i32_3341
  let c5376_i32 : BitVec 32 := 5376#32
  let v8384 : BitVec 32 := Scalar.addi v8383 c5376_i32
  v8384
def k0_off165 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8727 : Index := Scalar.indexCast v12
  let c0_3379 : Index := 0#32
  let c0_3380 : Index := 0#32
  ![v8727.toNat, 0, 0]
def k0_off166 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8765 : Index := Scalar.indexCast v12
  let c64_3394 : Index := 64#32
  let c0_3395 : Index := 0#32
  ![v8765.toNat, 64, 0]
def k0_off167 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8803 : Index := Scalar.indexCast v12
  let c128_3409 : Index := 128#32
  let c0_3410 : Index := 0#32
  ![v8803.toNat, 128, 0]
def k0_off168 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8841 : Index := Scalar.indexCast v12
  let c192_3424 : Index := 192#32
  let c0_3425 : Index := 0#32
  ![v8841.toNat, 192, 0]
def k0_off169 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8879 : Index := Scalar.indexCast v12
  let c256_3439 : Index := 256#32
  let c0_3440 : Index := 0#32
  ![v8879.toNat, 256, 0]
def k0_off170 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8917 : Index := Scalar.indexCast v12
  let c320_3454 : Index := 320#32
  let c0_3455 : Index := 0#32
  ![v8917.toNat, 320, 0]
def k0_off171 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8955 : Index := Scalar.indexCast v12
  let c384_3469 : Index := 384#32
  let c0_3470 : Index := 0#32
  ![v8955.toNat, 384, 0]
def k0_off172 (i : grid0.Coords) : Fin 3 → Nat :=
  let arg0 : BitVec 32 := BitVec.ofNat 32 (i 0).val
  let c1_i32 : BitVec 32 := 1#32
  let v11 : BitVec 32 := Scalar.addi arg0 c1_i32
  let c2_i32_2 : BitVec 32 := 2#32
  let v12 : BitVec 32 := Scalar.remsi v11 c2_i32_2
  let v8993 : Index := Scalar.indexCast v12
  let c448_3484 : Index := 448#32
  let c0_3485 : Index := 0#32
  ![v8993.toNat, 448, 0]
def k0_mult120 (i : grid0.Coords) : BitVec 32 :=
  let arg1 : BitVec 32 := BitVec.ofNat 32 (i 1).val
  let c512_i32_3489 : BitVec 32 := 512#32
  let v9003 : BitVec 32 := Scalar.muli arg1 c512_i32_3489
  v9003
def k0_off173 (i : grid0.Coords) : Fin 2 → Nat :=
  let c0_3490 : Index := 0#32
  let arg1 : BitVec 32 := BitVec.ofNat 32 (i 1).val
  let c512_i32_3489 : BitVec 32 := 512#32
  let v9003 : BitVec 32 := Scalar.muli arg1 c512_i32_3489
  let v9004 : BitVec 32 := v9003
  let v9005 : Index := Scalar.indexCast v9004
  ![0, v9005.toNat]
def k0_cond6 (i : grid0.Coords) : BitVec 1 :=
  let arg0 : BitVec 32 := BitVec.ofNat 32 (i 0).val
  let c24_i32_16 : BitVec 32 := 24#32
  let v37 : BitVec 1 := Scalar.cmpi .sgt arg0 c24_i32_16
  let v38 : BitVec 32 := Scalar.extui v37
  let c0_i32_17 : BitVec 32 := 0#32
  let v39 : BitVec 1 := Scalar.cmpi .ne v38 c0_i32_17
  v39

def k0_off174 (i : grid0.Coords) : Fin 3 → Nat :=
  let arg0 : BitVec 32 := BitVec.ofNat 32 (i 0).val
  let c1_i32_5 : BitVec 32 := 1#32
  let v16 : BitVec 32 := Scalar.addi arg0 c1_i32_5
  let c3_i32_6 : BitVec 32 := 3#32
  let v17 : BitVec 32 := Scalar.remsi v16 c3_i32_6
  let v40 : Index := Scalar.indexCast v17
  let c0 : Index := 0#32
  let c0_18 : Index := 0#32
  ![v40.toNat, 0, 0]
def k0_off175 (i : grid0.Coords) : Fin 3 → Nat :=
  let arg0 : BitVec 32 := BitVec.ofNat 32 (i 0).val
  let c2_i32_1 : BitVec 32 := 2#32
  let v10 : BitVec 32 := Scalar.remsi arg0 c2_i32_1
  let v44 : Index := Scalar.indexCast v10
  let c0_19 : Index := 0#32
  let c0_20 : Index := 0#32
  ![v44.toNat, 0, 0]
def k0_off176 (i : grid0.Coords) : Fin 3 → Nat :=
  let arg1 : BitVec 32 := BitVec.ofNat 32 (i 1).val
  let v55 : Index := Scalar.indexCast arg1
  let c0_24 : Index := 0#32
  let c0_25 : Index := 0#32
  ![v55.toNat, 0, 0]
def k0_off177 (i : grid0.Coords) : Fin 3 → Nat :=
  let arg0 : BitVec 32 := BitVec.ofNat 32 (i 0).val
  let c1_i32_5 : BitVec 32 := 1#32
  let v16 : BitVec 32 := Scalar.addi arg0 c1_i32_5
  let c3_i32_6 : BitVec 32 := 3#32
  let v17 : BitVec 32 := Scalar.remsi v16 c3_i32_6
  let v68 : Index := Scalar.indexCast v17
  let c64 : Index := 64#32
  let c0_30 : Index := 0#32
  ![v68.toNat, 64, 0]
def k0_off178 (i : grid0.Coords) : Fin 3 → Nat :=
  let arg0 : BitVec 32 := BitVec.ofNat 32 (i 0).val
  let c2_i32_1 : BitVec 32 := 2#32
  let v10 : BitVec 32 := Scalar.remsi arg0 c2_i32_1
  let v72 : Index := Scalar.indexCast v10
  let c64_31 : Index := 64#32
  let c0_32 : Index := 0#32
  ![v72.toNat, 64, 0]
def k0_off179 (i : grid0.Coords) : Fin 3 → Nat :=
  let arg1 : BitVec 32 := BitVec.ofNat 32 (i 1).val
  let v83 : Index := Scalar.indexCast arg1
  let c64_37 : Index := 64#32
  let c0_38 : Index := 0#32
  ![v83.toNat, 64, 0]
def k0_off180 (i : grid0.Coords) : Fin 3 → Nat :=
  let arg0 : BitVec 32 := BitVec.ofNat 32 (i 0).val
  let c1_i32_5 : BitVec 32 := 1#32
  let v16 : BitVec 32 := Scalar.addi arg0 c1_i32_5
  let c3_i32_6 : BitVec 32 := 3#32
  let v17 : BitVec 32 := Scalar.remsi v16 c3_i32_6
  let v96 : Index := Scalar.indexCast v17
  let c128 : Index := 128#32
  let c0_43 : Index := 0#32
  ![v96.toNat, 128, 0]
def k0_off181 (i : grid0.Coords) : Fin 3 → Nat :=
  let arg0 : BitVec 32 := BitVec.ofNat 32 (i 0).val
  let c2_i32_1 : BitVec 32 := 2#32
  let v10 : BitVec 32 := Scalar.remsi arg0 c2_i32_1
  let v100 : Index := Scalar.indexCast v10
  let c128_44 : Index := 128#32
  let c0_45 : Index := 0#32
  ![v100.toNat, 128, 0]
def k0_off182 (i : grid0.Coords) : Fin 3 → Nat :=
  let arg1 : BitVec 32 := BitVec.ofNat 32 (i 1).val
  let v111 : Index := Scalar.indexCast arg1
  let c128_50 : Index := 128#32
  let c0_51 : Index := 0#32
  ![v111.toNat, 128, 0]
def k0_off183 (i : grid0.Coords) : Fin 3 → Nat :=
  let arg0 : BitVec 32 := BitVec.ofNat 32 (i 0).val
  let c1_i32_5 : BitVec 32 := 1#32
  let v16 : BitVec 32 := Scalar.addi arg0 c1_i32_5
  let c3_i32_6 : BitVec 32 := 3#32
  let v17 : BitVec 32 := Scalar.remsi v16 c3_i32_6
  let v124 : Index := Scalar.indexCast v17
  let c192 : Index := 192#32
  let c0_56 : Index := 0#32
  ![v124.toNat, 192, 0]
def k0_off184 (i : grid0.Coords) : Fin 3 → Nat :=
  let arg0 : BitVec 32 := BitVec.ofNat 32 (i 0).val
  let c2_i32_1 : BitVec 32 := 2#32
  let v10 : BitVec 32 := Scalar.remsi arg0 c2_i32_1
  let v128 : Index := Scalar.indexCast v10
  let c192_57 : Index := 192#32
  let c0_58 : Index := 0#32
  ![v128.toNat, 192, 0]
def k0_off185 (i : grid0.Coords) : Fin 3 → Nat :=
  let arg1 : BitVec 32 := BitVec.ofNat 32 (i 1).val
  let v139 : Index := Scalar.indexCast arg1
  let c192_63 : Index := 192#32
  let c0_64 : Index := 0#32
  ![v139.toNat, 192, 0]
def k0_off186 (i : grid0.Coords) : Fin 3 → Nat :=
  let arg0 : BitVec 32 := BitVec.ofNat 32 (i 0).val
  let c1_i32_5 : BitVec 32 := 1#32
  let v16 : BitVec 32 := Scalar.addi arg0 c1_i32_5
  let c3_i32_6 : BitVec 32 := 3#32
  let v17 : BitVec 32 := Scalar.remsi v16 c3_i32_6
  let v152 : Index := Scalar.indexCast v17
  let c256 : Index := 256#32
  let c0_69 : Index := 0#32
  ![v152.toNat, 256, 0]
def k0_off187 (i : grid0.Coords) : Fin 3 → Nat :=
  let arg0 : BitVec 32 := BitVec.ofNat 32 (i 0).val
  let c2_i32_1 : BitVec 32 := 2#32
  let v10 : BitVec 32 := Scalar.remsi arg0 c2_i32_1
  let v156 : Index := Scalar.indexCast v10
  let c256_70 : Index := 256#32
  let c0_71 : Index := 0#32
  ![v156.toNat, 256, 0]
def k0_off188 (i : grid0.Coords) : Fin 3 → Nat :=
  let arg1 : BitVec 32 := BitVec.ofNat 32 (i 1).val
  let v167 : Index := Scalar.indexCast arg1
  let c256_76 : Index := 256#32
  let c0_77 : Index := 0#32
  ![v167.toNat, 256, 0]
def k0_off189 (i : grid0.Coords) : Fin 3 → Nat :=
  let arg0 : BitVec 32 := BitVec.ofNat 32 (i 0).val
  let c1_i32_5 : BitVec 32 := 1#32
  let v16 : BitVec 32 := Scalar.addi arg0 c1_i32_5
  let c3_i32_6 : BitVec 32 := 3#32
  let v17 : BitVec 32 := Scalar.remsi v16 c3_i32_6
  let v180 : Index := Scalar.indexCast v17
  let c320 : Index := 320#32
  let c0_82 : Index := 0#32
  ![v180.toNat, 320, 0]
def k0_off190 (i : grid0.Coords) : Fin 3 → Nat :=
  let arg0 : BitVec 32 := BitVec.ofNat 32 (i 0).val
  let c2_i32_1 : BitVec 32 := 2#32
  let v10 : BitVec 32 := Scalar.remsi arg0 c2_i32_1
  let v184 : Index := Scalar.indexCast v10
  let c320_83 : Index := 320#32
  let c0_84 : Index := 0#32
  ![v184.toNat, 320, 0]
def k0_off191 (i : grid0.Coords) : Fin 3 → Nat :=
  let arg1 : BitVec 32 := BitVec.ofNat 32 (i 1).val
  let v195 : Index := Scalar.indexCast arg1
  let c320_89 : Index := 320#32
  let c0_90 : Index := 0#32
  ![v195.toNat, 320, 0]
def k0_off192 (i : grid0.Coords) : Fin 3 → Nat :=
  let arg0 : BitVec 32 := BitVec.ofNat 32 (i 0).val
  let c1_i32_5 : BitVec 32 := 1#32
  let v16 : BitVec 32 := Scalar.addi arg0 c1_i32_5
  let c3_i32_6 : BitVec 32 := 3#32
  let v17 : BitVec 32 := Scalar.remsi v16 c3_i32_6
  let v208 : Index := Scalar.indexCast v17
  let c384 : Index := 384#32
  let c0_95 : Index := 0#32
  ![v208.toNat, 384, 0]
def k0_off193 (i : grid0.Coords) : Fin 3 → Nat :=
  let arg0 : BitVec 32 := BitVec.ofNat 32 (i 0).val
  let c2_i32_1 : BitVec 32 := 2#32
  let v10 : BitVec 32 := Scalar.remsi arg0 c2_i32_1
  let v212 : Index := Scalar.indexCast v10
  let c384_96 : Index := 384#32
  let c0_97 : Index := 0#32
  ![v212.toNat, 384, 0]
def k0_off194 (i : grid0.Coords) : Fin 3 → Nat :=
  let arg1 : BitVec 32 := BitVec.ofNat 32 (i 1).val
  let v223 : Index := Scalar.indexCast arg1
  let c384_102 : Index := 384#32
  let c0_103 : Index := 0#32
  ![v223.toNat, 384, 0]
def k0_off195 (i : grid0.Coords) : Fin 3 → Nat :=
  let arg0 : BitVec 32 := BitVec.ofNat 32 (i 0).val
  let c1_i32_5 : BitVec 32 := 1#32
  let v16 : BitVec 32 := Scalar.addi arg0 c1_i32_5
  let c3_i32_6 : BitVec 32 := 3#32
  let v17 : BitVec 32 := Scalar.remsi v16 c3_i32_6
  let v236 : Index := Scalar.indexCast v17
  let c448 : Index := 448#32
  let c0_108 : Index := 0#32
  ![v236.toNat, 448, 0]
def k0_off196 (i : grid0.Coords) : Fin 3 → Nat :=
  let arg0 : BitVec 32 := BitVec.ofNat 32 (i 0).val
  let c2_i32_1 : BitVec 32 := 2#32
  let v10 : BitVec 32 := Scalar.remsi arg0 c2_i32_1
  let v240 : Index := Scalar.indexCast v10
  let c448_109 : Index := 448#32
  let c0_110 : Index := 0#32
  ![v240.toNat, 448, 0]
def k0_off197 (i : grid0.Coords) : Fin 3 → Nat :=
  let arg1 : BitVec 32 := BitVec.ofNat 32 (i 1).val
  let v251 : Index := Scalar.indexCast arg1
  let c448_115 : Index := 448#32
  let c0_116 : Index := 0#32
  ![v251.toNat, 448, 0]
def k0_cond2 (i : grid0.Coords) : BitVec 1 :=
  let arg0 : BitVec 32 := BitVec.ofNat 32 (i 0).val
  let c24_i32_9 : BitVec 32 := 24#32
  let v26 : BitVec 1 := Scalar.cmpi .slt arg0 c24_i32_9
  let v27 : BitVec 32 := Scalar.extui v26
  let c0_i32_10 : BitVec 32 := 0#32
  let v28 : BitVec 1 := Scalar.cmpi .ne v27 c0_i32_10
  v28

def k0_cond3 (i : grid0.Coords) : BitVec 1 :=
  let arg1 : BitVec 32 := BitVec.ofNat 32 (i 1).val
  let c2_i32_18 : BitVec 32 := 2#32
  let v40 : BitVec 32 := Scalar.remsi arg1 c2_i32_18
  let c0_i32_19 : BitVec 32 := 0#32
  let v41 : BitVec 1 := Scalar.cmpi .eq v40 c0_i32_19
  let v42 : BitVec 32 := Scalar.extui v41
  let c0_i32_20 : BitVec 32 := 0#32
  let v43 : BitVec 1 := Scalar.cmpi .ne v42 c0_i32_20
  v43

def cc0_transform_0 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c0_i32 : BitVec 32 := 0#32
  ![v5.toNat, v6.toNat]

def cc0_transform_1 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c0_i32 : BitVec 32 := 0#32
  let c0_i32_1 : BitVec 32 := 0#32
  ![v5.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c24_i32 : BitVec 32 := 24#32
  let v1 : BitVec 1 := Scalar.cmpi .sle arg0 c24_i32
  let v2 : BitVec 1 := Scalar.andi v0 v1
  let c1_i32_0 : BitVec 32 := 1#32
  let v3 : BitVec 32 := Scalar.subi arg0 c1_i32_0
  let c0_i32 : BitVec 32 := 0#32
  let c23_i32 : BitVec 32 := 23#32
  let v4 : BitVec 32 := Scalar.maxsi c0_i32 v3
  let v5 : BitVec 32 := Scalar.minsi c23_i32 v4
  let c1_i32_1 : BitVec 32 := 1#32
  let v6 : BitVec 1 := Scalar.cmpi .slt arg0 c1_i32_1
  let c0_i32_2 : BitVec 32 := 0#32
  let c7_i32 : BitVec 32 := 7#32
  let v7 : BitVec 32 := Scalar.select v6 c0_i32_2 c7_i32
  let v8 : BitVec 32 := Scalar.select v2 arg1 v7
  let c0_i32_3 : BitVec 32 := 0#32
  ![v5.toNat, v8.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c2_i32_0 : BitVec 32 := 2#32
  let v2 : BitVec 1 := Scalar.cmpi .sge arg0 c2_i32_0
  let c0_i32_1 : BitVec 32 := 0#32
  let v3 : BitVec 32 := Scalar.select v2 arg1 c0_i32_1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c0_i32 : BitVec 32 := 0#32
  let c0_i32_1 : BitVec 32 := 0#32
  ![c0_i32.toNat, v6.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c24_i32 : BitVec 32 := 24#32
  let v1 : BitVec 1 := Scalar.cmpi .sle arg0 c24_i32
  let v2 : BitVec 1 := Scalar.andi v0 v1
  let c1_i32_0 : BitVec 32 := 1#32
  let v3 : BitVec 32 := Scalar.subi arg0 c1_i32_0
  let c0_i32 : BitVec 32 := 0#32
  let c23_i32 : BitVec 32 := 23#32
  let v4 : BitVec 32 := Scalar.maxsi c0_i32 v3
  let v5 : BitVec 32 := Scalar.minsi c23_i32 v4
  let c1_i32_1 : BitVec 32 := 1#32
  let v6 : BitVec 1 := Scalar.cmpi .slt arg0 c1_i32_1
  let c0_i32_2 : BitVec 32 := 0#32
  let c7_i32 : BitVec 32 := 7#32
  let v7 : BitVec 32 := Scalar.select v6 c0_i32_2 c7_i32
  let v8 : BitVec 32 := Scalar.select v2 arg1 v7
  let c0_i32_3 : BitVec 32 := 0#32
  let c0_i32_4 : BitVec 32 := 0#32
  ![v8.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c2_i32_0 : BitVec 32 := 2#32
  let v2 : BitVec 1 := Scalar.cmpi .sge arg0 c2_i32_0
  let c0_i32_1 : BitVec 32 := 0#32
  let v3 : BitVec 32 := Scalar.select v2 arg1 c0_i32_1
  let c0_i32_2 : BitVec 32 := 0#32
  ![v1.toNat, v3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c0_i32 : BitVec 32 := 0#32
  ![v5.toNat, v6.toNat]

def cc0_transform_11 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c8_i32 : BitVec 32 := 8#32
  let v7 : BitVec 32 := Scalar.divsi v5 c8_i32
  let c0_i32 : BitVec 32 := 0#32
  let c0_i32_1 : BitVec 32 := 0#32
  ![v7.toNat, c0_i32.toNat]

def cc0_transform_12 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c0_i32 : BitVec 32 := 0#32
  ![v5.toNat, v6.toNat]

def cc0_transform_13 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c0_i32 : BitVec 32 := 0#32
  let c0_i32_1 : BitVec 32 := 0#32
  ![v5.toNat, c0_i32.toNat]

def cc0_transform_14 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c0_i32 : BitVec 32 := 0#32
  ![v5.toNat, v6.toNat]

def cc0_transform_15 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c8_i32 : BitVec 32 := 8#32
  let v7 : BitVec 32 := Scalar.divsi v5 c8_i32
  let c0_i32 : BitVec 32 := 0#32
  let c0_i32_1 : BitVec 32 := 0#32
  ![v7.toNat, c0_i32.toNat]

def cc0_transform_16 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c7_i32 : BitVec 32 := 7#32
  let v2 : BitVec 32 := Scalar.select v1 arg1 c7_i32
  let c4_i32 : BitVec 32 := 4#32
  let v3 : BitVec 32 := Scalar.muli c4_i32 v0
  let c2_i32 : BitVec 32 := 2#32
  let v4 : BitVec 32 := Scalar.divsi v2 c2_i32
  let v5 : BitVec 32 := Scalar.addi v3 v4
  let c2_i32_0 : BitVec 32 := 2#32
  let v6 : BitVec 32 := Scalar.remsi v2 c2_i32_0
  let c0_i32 : BitVec 32 := 0#32
  ![v6.toNat, v5.toNat]

abbrev stage0_0 : Fin 2 → Memref sig .tc .vmem S128x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x11008 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S32x86 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x5504 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x86 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x5504 .fp8e5m2 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x11008 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== DgradReferenceIdeal.lean ====
abbrev S12288x4096 : Shape := ⟨2, ![12288, 4096]⟩
abbrev S1x4096 : Shape := ⟨2, ![1, 4096]⟩
abbrev S4096x11008 : Shape := ⟨2, ![4096, 11008]⟩
abbrev S32x86 : Shape := ⟨2, ![32, 86]⟩
abbrev S12288x11008 : Shape := ⟨2, ![12288, 11008]⟩
abbrev S12288 : Shape := ⟨1, ![12288]⟩
abbrev S12288x1 : Shape := ⟨2, ![12288, 1]⟩
abbrev S12288x86x128 : Shape := ⟨3, ![12288, 86, 128]⟩
abbrev S12288x86 : Shape := ⟨2, ![12288, 86]⟩
abbrev S12288x86x1 : Shape := ⟨3, ![12288, 86, 1]⟩
abbrev S32x128x86x128 : Shape := ⟨4, ![32, 128, 86, 128]⟩
abbrev S32x1x86x1 : Shape := ⟨4, ![32, 1, 86, 1]⟩

abbrev nBuf : Space → Nat
  | .hbm => 6
  | .vmem => 6
  | .smem => 0
  | _ => 0

abbrev bufTy : (tb : Table) → Fin (tcTables nBuf tb) → BufTy
  | .hbm, ⟨0, _⟩ => ⟨S12288x4096, .bf16⟩
  | .hbm, ⟨1, _⟩ => ⟨S1x4096, .f32⟩
  | .hbm, ⟨2, _⟩ => ⟨S4096x11008, .fp8e4m3⟩
  | .hbm, ⟨3, _⟩ => ⟨S32x86, .f32⟩
  | .hbm, ⟨4, _⟩ => ⟨S12288x11008, .bf16⟩
  | .hbm, ⟨5, _⟩ => ⟨S12288x4096, .bf16⟩
  | .local _ .vmem, ⟨0, _⟩ => ⟨S12288x4096, .bf16⟩
  | .local _ .vmem, ⟨1, _⟩ => ⟨S1x4096, .f32⟩
  | .local _ .vmem, ⟨2, _⟩ => ⟨S4096x11008, .fp8e4m3⟩
  | .local _ .vmem, ⟨3, _⟩ => ⟨S32x86, .f32⟩
  | .local _ .vmem, ⟨4, _⟩ => ⟨S12288x11008, .bf16⟩
  | .local _ .vmem, ⟨5, _⟩ => ⟨S12288x4096, .bf16⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x11008 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x86 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x11008 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Kernel.lean ====
abbrev S4096x12288 : Shape := ⟨2, ![4096, 12288]⟩
abbrev S12288x11008 : Shape := ⟨2, ![12288, 11008]⟩
abbrev S96x11008 : Shape := ⟨2, ![96, 11008]⟩
abbrev S4096x11008 : Shape := ⟨2, ![4096, 11008]⟩
abbrev S1024x12288 : Shape := ⟨2, ![1024, 12288]⟩
abbrev S12288x256 : Shape := ⟨2, ![12288, 256]⟩
abbrev S96x256 : Shape := ⟨2, ![96, 256]⟩
abbrev S1024x256 : Shape := ⟨2, ![1024, 256]⟩
abbrev S128x256 : Shape := ⟨2, ![128, 256]⟩
abbrev S1x256 : Shape := ⟨2, ![1, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x12288, .bf16⟩
  | .hbm, ⟨1, _⟩ => ⟨S12288x11008, .fp8e5m2⟩
  | .hbm, ⟨2, _⟩ => ⟨S96x11008, .f32⟩
  | .hbm, ⟨3, _⟩ => ⟨S4096x11008, .f32⟩
  | .local _ .vmem, ⟨0, _⟩ => ⟨S1024x12288, .bf16⟩
  | .local _ .vmem, ⟨1, _⟩ => ⟨S1024x12288, .bf16⟩
  | .local _ .vmem, ⟨2, _⟩ => ⟨S12288x256, .fp8e5m2⟩
  | .local _ .vmem, ⟨3, _⟩ => ⟨S12288x256, .fp8e5m2⟩
  | .local _ .vmem, ⟨4, _⟩ => ⟨S96x256, .f32⟩
  | .local _ .vmem, ⟨5, _⟩ => ⟨S96x256, .f32⟩
  | .local _ .vmem, ⟨6, _⟩ => ⟨S1024x256, .f32⟩
  | .local _ .vmem, ⟨7, _⟩ => ⟨S1024x256, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12288x256 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S96x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4096x12288 : Shape := ⟨2, ![4096, 12288]⟩
abbrev S12288x11008 : Shape := ⟨2, ![12288, 11008]⟩
abbrev S96x11008 : Shape := ⟨2, ![96, 11008]⟩
abbrev S4096x11008 : Shape := ⟨2, ![4096, 11008]⟩
abbrev S96x128x11008 : Shape := ⟨3, ![96, 128, 11008]⟩
abbrev S96x1x11008 : Shape := ⟨3, ![96, 1, 11008]⟩

abbrev nBuf : Space → Nat
  | .hbm => 4
  | .vmem => 4
  | .smem => 0
  | _ => 0

abbrev bufTy : (tb : Table) → Fin (tcTables nBuf tb) → BufTy
  | .hbm, ⟨0, _⟩ => ⟨S4096x12288, .bf16⟩
  | .hbm, ⟨1, _⟩ => ⟨S12288x11008, .fp8e5m2⟩
  | .hbm, ⟨2, _⟩ => ⟨S96x11008, .f32⟩
  | .hbm, ⟨3, _⟩ => ⟨S4096x11008, .f32⟩
  | .local _ .vmem, ⟨0, _⟩ => ⟨S4096x12288, .bf16⟩
  | .local _ .vmem, ⟨1, _⟩ => ⟨S12288x11008, .fp8e5m2⟩
  | .local _ .vmem, ⟨2, _⟩ => ⟨S96x11008, .f32⟩
  | .local _ .vmem, ⟨3, _⟩ => ⟨S4096x11008, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x11008 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x11008 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.WgradChain.lean ====
/-
  The weight-gradient kernel's block, read as a chain: one product of 256 tokens after another, added up in order.
-/
module

public import proofs.«01_k».proof.Proof.Gen.KernelIdeal.Frame
public import Idealize.ShloMosaic.Lib.Pointwise
public import Idealize.ShloMosaic.Lib.MatmulPlain
public import Idealize.ShloMosaic.Lib.ValueIdx
public import Idealize.ShloMosaic.Lib.Pipeline.Value

@[expose] public section

set_option maxRecDepth 16384

noncomputable section

namespace Cert.KernelIdeal.Wgrad

open Cert.KernelIdeal Cert.KernelIdeal.Gen Idealize.ShloMosaic Idealize.ShloMosaic.TcCoe Idealize.SL.Sem
open scoped BigOperators

variable {F : FTy → Type} [FloatOps F]

theorem inbX (k : Nat) (hk : k < 48) : ∀ a, (![0, 256 * k] : Fin 2 → Nat) a + S1024x256.size a ≤ S1024x12288.size a := by
  intro a
  match a with
  | ⟨0, _⟩ => show 0 + 1024 ≤ 1024; omega
  | ⟨1, _⟩ => show 256 * k + 256 ≤ 12288; omega

theorem inbC (g : Nat) (hg : g < 96) : ∀ a, (![128 * g, 0] : Fin 2 → Nat) a + S128x256.size a ≤ S12288x256.size a := by
  intro a
  match a with
  | ⟨0, _⟩ => show 128 * g + 128 ≤ 12288; omega
  | ⟨1, _⟩ => show 0 + 256 ≤ 256; omega

theorem inbS (g : Nat) (hg : g < 96) : ∀ a, (![g, 0] : Fin 2 → Nat) a + S1x256.size a ≤ S96x256.size a := by
  intro a
  match a with
  | ⟨0, _⟩ => show g + 1 ≤ 96; omega
  | ⟨1, _⟩ => show 0 + 256 ≤ 256; omega

/-- The output gradient of one group of 128 tokens, widened: codes times the group's scales. -/
def wide (x1 : Vec F S12288x256 .fp8e5m2) (x2 : Vec F S96x256 .f32) (g : Nat) (hg : g < 96) : FVec F S128x256 .bf16 :=
  mulf (extf .bf16 (View.ld x1 (Rect.unit (s := S12288x256) ![128 * g, 0] S128x256.size (inbC g hg))) bitsLt_fp8e5m2_bf16)
    (broadcastTo S128x256 (truncf .bf16 (View.ld x2 (Rect.unit (s := S96x256) ![g, 0] S1x256.size (inbS g hg))) bitsLt_bf16_f32)
      broadcasts_S1x256_S128x256)

/-- The product of one run of 256 tokens. -/
def part (x0 : Vec F S1024x12288 .bf16) (x1 : Vec F S12288x256 .fp8e5m2) (x2 : Vec F S96x256 .f32) (k : Nat) (hk : k < 48) :
    FVec F S1024x256 .f32 :=
  matmul dot_S1024x256_S256x256_S1024x256_1_0_0_1_n_n none
    (View.ld x0 (Rect.unit (s := S1024x12288) ![0, 256 * k] S1024x256.size (inbX k hk)))
    (concatenate S256x256 0 [⟨S128x256, wide x1 x2 (2 * k) (by omega)⟩, ⟨S128x256, wide x1 x2 (2 * k + 1) (by omega)⟩]
      concatenates_S128x256_S128x256_S256x256_d0)
    (constant S1024x256 .f32 0x00000000#32)

/-- The products of the first `n + 1` runs, added in order. -/
def chain (x0 : Vec F S1024x12288 .bf16) (x1 : Vec F S12288x256 .fp8e5m2) (x2 : Vec F S96x256 .f32) :
    (n : Nat) → n < 48 → FVec F S1024x256 .f32
  | 0, h => part x0 x1 x2 0 h
  | n + 1, h => addf (chain x0 x1 x2 n (by omega)) (part x0 x1 x2 (n + 1) h)

set_option maxHeartbeats 1000000 in
/-- What the body stores is the whole chain. -/
theorem out_eq (x0 : Vec F S1024x12288 .bf16) (x1 : Vec F S12288x256 .fp8e5m2) (x2 : Vec F S96x256 .f32) :
    out0_3 x0 x1 x2 = View.canon [⟨r0_240, chain x0 x1 x2 47 (by omega)⟩] := by
  rfl

/-- Entry `(r, q)` of the block times entry `(q, c)` of the widened gradient, and zero for a token that is not there. -/
def term (x0 : Vec Ideal S1024x12288 .bf16) (x1 : Vec Ideal S12288x256 .fp8e5m2) (x2 : Vec Ideal S96x256 .f32)
    (r : Fin 1024) (c : Fin 256) (q : Nat) : EReal :=
  if h : q < 12288 then
    (x0 (ix2 r ⟨q, h⟩) : EReal) * (x1 (ix2 ⟨q, h⟩ c) * x2 (ix2 ⟨q / 128, by omega⟩ c))
  else 0

theorem wide_apply (x1 : Vec Ideal S12288x256 .fp8e5m2) (x2 : Vec Ideal S96x256 .f32) (g : Nat) (hg : g < 96)
    (u : Fin 128) (c : Fin 256) :
    wide x1 x2 g hg (ix2 u c) = (x1 (ix2 ⟨128 * g + u.val, by omega⟩ c) : EReal) * x2 (ix2 ⟨g, hg⟩ c) := by
  unfold wide
  pointwise

theorem product_apply (lhs : FVec Ideal S1024x256 .bf16) (rhs : FVec Ideal S256x256 .bf16) (r : Fin 1024) (c : Fin 256) :
    matmul dot_S1024x256_S256x256_S1024x256_1_0_0_1_n_n none lhs rhs (constant S1024x256 .f32 0x00000000#32) (ix2 r c)
      = ∑ u : Fin 256, (lhs (ix2 r u) : EReal) * rhs (ix2 u c) := by
  pointwise

theorem rows_apply (x0 : Vec Ideal S1024x12288 .bf16) (k : Nat) (hk : k < 48) (r : Fin 1024) (u : Fin 256) :
    View.ld x0 (Rect.unit (s := S1024x12288) ![0, 256 * k] S1024x256.size (inbX k hk)) (ix2 r u)
      = x0 (ix2 r ⟨256 * k + u.val, by omega⟩) := by
  pointwise

/-- Two groups of 128 tokens one under the other are 256 tokens, each with its own group's scale. -/
theorem pair_apply (x1 : Vec Ideal S12288x256 .fp8e5m2) (x2 : Vec Ideal S96x256 .f32) (k : Nat) (hk : k < 48)
    (u : Fin 256) (c : Fin 256) :
    concatenate S256x256 0 [⟨S128x256, wide x1 x2 (2 * k) (by omega)⟩, ⟨S128x256, wide x1 x2 (2 * k + 1) (by omega)⟩]
      concatenates_S128x256_S128x256_S256x256_d0 (ix2 u c)
      = (x1 (ix2 ⟨256 * k + u.val, by omega⟩ c) : EReal) * x2 (ix2 ⟨(256 * k + u.val) / 128, by omega⟩ c) := by
  have hu := u.isLt
  by_cases h : u.val < 128
  · rw [concatenate_pair_apply_left (s₁ := S128x256) (s₂ := S128x256) 0 _ _ _ (ix2 u c) rfl (ix2 (⟨u.val, h⟩ : Fin 128) c)
      (fun b => match b with | ⟨0, _⟩ => rfl | ⟨1, _⟩ => rfl), wide_apply]
    congr 3 <;> (apply Fin.ext; dsimp only; omega)
  · rw [concatenate_pair_apply_right (s₁ := S128x256) (s₂ := S128x256) 0 _ _ _ (ix2 u c) rfl rfl (ix2 (⟨u.val - 128, by omega⟩ : Fin 128) c)
      (fun b => match b with | ⟨0, _⟩ => fun h => absurd rfl h | ⟨1, _⟩ => fun _ => rfl)
      (show u.val - 128 + 128 = u.val by omega), wide_apply]
    congr 3 <;> (apply Fin.ext; dsimp only; omega)

theorem part_apply (x0 : Vec Ideal S1024x12288 .bf16) (x1 : Vec Ideal S12288x256 .fp8e5m2) (x2 : Vec Ideal S96x256 .f32)
    (k : Nat) (hk : k < 48) (r : Fin 1024) (c : Fin 256) :
    part x0 x1 x2 k hk (ix2 r c) = ∑ u ∈ Finset.range 256, term x0 x1 x2 r c (256 * k + u) := by
  unfold part
  rw [product_apply, Finset.sum_range]
  refine Finset.sum_congr rfl fun u _ => ?_
  have hu := u.isLt
  have hq : 256 * k + u.val < 12288 := by omega
  rw [rows_apply x0 k hk, pair_apply x1 x2 k hk u c, term, dif_pos hq]

theorem chain_apply (x0 : Vec Ideal S1024x12288 .bf16) (x1 : Vec Ideal S12288x256 .fp8e5m2) (x2 : Vec Ideal S96x256 .f32)
    (r : Fin 1024) (c : Fin 256) (n : Nat) (hn : n < 48) :
    chain x0 x1 x2 n hn (ix2 r c) = ∑ q ∈ Finset.range (256 * (n + 1)), term x0 x1 x2 r c q := by
  induction n with
  | zero =>
    show part x0 x1 x2 0 hn (ix2 r c) = _
    rw [part_apply]
    simp
  | succ n ih =>
    show addf (chain x0 x1 x2 n _) (part x0 x1 x2 (n + 1) hn) (ix2 r c) = _
    rw [addf_apply, ih, part_apply, show 256 * (n + 1 + 1) = 256 * (n + 1) + 256 by ring, Finset.sum_range_add]
    rfl

end Cert.KernelIdeal.Wgrad

end
-- ==== Proof.Wgrad.lean ====
/-
  The weight gradient: the kernel's blocks put together, and the reference read at an index. Both are the one sum over the
  tokens of the transposed input times the output gradient, code times scale.
-/
module

public import proofs.«01_k».proof.Proof.WgradChain
public import proofs.«01_k».proof.Proof.Gen.KernelIdeal.Value
public import proofs.«01_k».proof.Proof.Gen.ReferenceIdeal.Value

@[expose] public section

set_option maxRecDepth 16384

noncomputable section

open Idealize.ShloMosaic Idealize.ShloMosaic.TcCoe Idealize.SL.Sem
open scoped BigOperators

namespace Cert.KernelIdeal.Wgrad

open Cert.KernelIdeal Cert.KernelIdeal.Gen
open Idealize.ShloMosaic.Pipeline (Dat)

/-- The weight gradient at row `r`, column `c`: the sum over the tokens. -/
def dw (a0 : Vec Ideal S4096x12288 .bf16) (a1 : Vec Ideal S12288x11008 .fp8e5m2) (a2 : Vec Ideal S96x11008 .f32) :
    Vec Ideal S4096x11008 .f32 := fun i =>
  ∑ q : Fin 12288, (a0 (ix2 (i 0) q) : EReal) * (a1 (ix2 q (i 1)) * a2 (ix2 ⟨q.val / 128, by omega⟩ (i 1)))

theorem hz : (![0, 0] : Fin 2 → Nat) = fun _ => 0 := funext fun a => by fin_cases a <;> rfl

/-- A block's result at an index, of input blocks that are `a0`'s rows from `R` on and `a1`'s and `a2`'s columns from `C` on. -/
theorem out_apply (a0 : Vec Ideal S4096x12288 .bf16) (a1 : Vec Ideal S12288x11008 .fp8e5m2) (a2 : Vec Ideal S96x11008 .f32)
    (x0 : Vec Ideal S1024x12288 .bf16) (x1 : Vec Ideal S12288x256 .fp8e5m2) (x2 : Vec Ideal S96x256 .f32)
    (r : Fin 1024) (c : Fin 256) (R : Fin 4096) (C : Fin 11008)
    (h0 : ∀ q, x0 (ix2 r q) = a0 (ix2 R q)) (h1 : ∀ q, x1 (ix2 q c) = a1 (ix2 q C)) (h2 : ∀ q, x2 (ix2 q c) = a2 (ix2 q C)) :
    out0_3 x0 x1 x2 (ix2 r c) = dw a0 a1 a2 (ix2 R C) := by
  rw [out_eq, View.canon_unit_zero hz, chain_apply, Finset.sum_range]
  refine Finset.sum_congr rfl fun q _ => ?_
  have hq : q.val < 12288 := q.isLt
  rw [term, dif_pos hq, h0, h1, h2]
  rfl

/-- Where the blocks lie: the point's row block is its number over 43, its column block the rest. -/
theorem idx3 : ∀ t : Fin cfg0.N, win0_3.index t (0 : Fin 2) = t.val / 43 ∧ win0_3.index t (1 : Fin 2) = t.val % 43 :=
  (by decide +kernel : ∀ t : Fin grid0.N, win0_3.index t (0 : Fin 2) = t.val / 43 ∧ win0_3.index t (1 : Fin 2) = t.val % 43)

theorem idx0 : ∀ t : Fin cfg0.N, win0_0.index t (0 : Fin 2) = t.val / 43 ∧ win0_0.index t (1 : Fin 2) = 0 :=
  (by decide +kernel : ∀ t : Fin grid0.N, win0_0.index t (0 : Fin 2) = t.val / 43 ∧ win0_0.index t (1 : Fin 2) = 0)

theorem idx1 : ∀ t : Fin cfg0.N, win0_1.index t (0 : Fin 2) = 0 ∧ win0_1.index t (1 : Fin 2) = t.val % 43 :=
  (by decide +kernel : ∀ t : Fin grid0.N, win0_1.index t (0 : Fin 2) = 0 ∧ win0_1.index t (1 : Fin 2) = t.val % 43)

theorem idx2 : ∀ t : Fin cfg0.N, win0_2.index t (0 : Fin 2) = 0 ∧ win0_2.index t (1 : Fin 2) = t.val % 43 :=
  (by decide +kernel : ∀ t : Fin grid0.N, win0_2.index t (0 : Fin 2) = 0 ∧ win0_2.index t (1 : Fin 2) = t.val % 43)

variable (m : (ℓ : Loc nD τ sig) → Buf (Elt Ideal) ℓ) (ρ : Dev nD → PrngReg)

/-- The weight gradient of device `c`'s arguments. -/
abbrev dwOf (c : Dev nD) : Buf (Elt Ideal) ((c : Thread nD τ).loc main_v0) :=
  dw (m ((c : Thread nD τ).loc main_arg0)) (m ((c : Thread nD τ).loc main_arg1)) (m ((c : Thread nD τ).loc main_arg2))

/-- What a point writes back is its block of the weight gradient. -/
theorem flushed_eq (c : Dev nD) (t : Fin cfg0.N) :
    (dats m 0 c).flushed 3 t = ((cfg0.win 3).blk t).view.read (Elt Ideal) (dwOf m c) := by
  rw [Value.flushed3]
  funext j
  obtain ⟨e30, e31⟩ := idx3 t
  obtain ⟨e00, e01⟩ := idx0 t
  obtain ⟨e10, e11⟩ := idx1 t
  obtain ⟨e20, e21⟩ := idx2 t
  have ht : t.val < 172 := t.isLt
  have hj0 : (j 0).val < 1024 := (j 0).isLt
  have hj1 : (j 1).val < 256 := (j 1).isLt
  have hR : 1024 * (t.val / 43) + (j 0).val < 4096 := by omega
  have hC : 256 * (t.val % 43) + (j 1).val < 11008 := by omega
  have hemb : ((cfg0.win 3).blk t).view.emb j = ix2 (⟨1024 * (t.val / 43) + (j 0).val, hR⟩ : Fin 4096) (⟨256 * (t.val % 43) + (j 1).val, hC⟩ : Fin 11008) := by
    funext a; apply Fin.ext
    match a with
    | ⟨0, _⟩ => show win0_3.index t (0 : Fin 2) * 1024 + 1 * (j 0).val = 1024 * (t.val / 43) + (j 0).val; omega
    | ⟨1, _⟩ => show win0_3.index t (1 : Fin 2) * 256 + 1 * (j 1).val = 256 * (t.val % 43) + (j 1).val; omega
  show out0_3 (iblk m c 0 t) (iblk m c 1 t) (iblk m c 2 t) j = dwOf m c (((cfg0.win 3).blk t).view.emb j)
  rw [hemb]
  refine (congrArg (out0_3 (iblk m c 0 t) (iblk m c 1 t) (iblk m c 2 t)) (eq_ix2 j)).trans
    (out_apply _ _ _ _ _ _ _ _ _ _ (fun q => ?_) (fun q => ?_) (fun q => ?_))
  · refine congrArg (m ((c : Thread nD τ).loc main_arg0)) (funext fun a => Fin.ext ?_)
    match a with
    | ⟨0, _⟩ => show win0_0.index t (0 : Fin 2) * 1024 + 1 * (j 0).val = 1024 * (t.val / 43) + (j 0).val; omega
    | ⟨1, _⟩ => show win0_0.index t (1 : Fin 2) * 12288 + 1 * q.val = q.val; omega
  · refine congrArg (m ((c : Thread nD τ).loc main_arg1)) (funext fun a => Fin.ext ?_)
    match a with
    | ⟨0, _⟩ => show win0_1.index t (0 : Fin 2) * 12288 + 1 * q.val = q.val; omega
    | ⟨1, _⟩ => show win0_1.index t (1 : Fin 2) * 256 + 1 * (j 1).val = 256 * (t.val % 43) + (j 1).val; omega
  · refine congrArg (m ((c : Thread nD τ).loc main_arg2)) (funext fun a => Fin.ext ?_)
    match a with
    | ⟨0, _⟩ => show win0_2.index t (0 : Fin 2) * 96 + 1 * q.val = q.val; omega
    | ⟨1, _⟩ => show win0_2.index t (1 : Fin 2) * 256 + 1 * (j 1).val = 256 * (t.val % 43) + (j 1).val; omega

/-- The blocks tile the result. -/
theorem cover (i : S4096x11008.Idx) :
    ∃ t : Fin cfg0.N, (cfg0.win 3).flush t = true ∧ i ∈ ((cfg0.win 3).blk t).view.set := by
  have h0 : (i 0).val < 4096 := (i 0).isLt
  have h1 : (i 1).val < 11008 := (i 1).isLt
  have hb : 43 * ((i 0).val / 1024) + (i 1).val / 256 < grid0.N := by rw [N_0]; omega
  refine ⟨⟨43 * ((i 0).val / 1024) + (i 1).val / 256, hb⟩, flush0_3 _, ?_⟩
  generalize ht : (⟨43 * ((i 0).val / 1024) + (i 1).val / 256, hb⟩ : Fin cfg0.N) = t
  have hv : t.val = 43 * ((i 0).val / 1024) + (i 1).val / 256 := by rw [← ht]
  obtain ⟨e0, e1⟩ := idx3 t
  show i ∈ ((View.whole main_v0).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- The kernel's result array ends holding the weight gradient. -/
theorem final (c : Dev nD) : (dats m 0 c).arrAt 3 cfg0.N = dwOf m c :=
  (dats m 0 c).arrAt_eq_of_cover 3 (dwOf m c) (fun t _ => flushed_eq m c t) cover

theorem run : θ_run defs (onTc (τ := τ) (main (F := Ideal))) ⟨m, fun _ => 0, ρ⟩ fun r => ∀ c : Dev nD,
      r.2.mem ((c : Thread nD τ).loc main_v0) = dwOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Wgrad

namespace Cert.ReferenceIdeal.Wgrad

open Cert.ReferenceIdeal Cert.ReferenceIdeal.Gen

/-- The reference's result is the weight gradient. -/
theorem value_eq (a0 : Vec Ideal S4096x12288 .bf16) (a1 : Vec Ideal S12288x11008 .fp8e5m2) (a2 : Vec Ideal S96x11008 .f32) :
    Value.G3 a0 a1 a2 = Cert.KernelIdeal.Wgrad.dw a0 a1 a2 := by
  funext j
  idx_vars j
  unfold Value.G3 k0_pay1
  pointwise
  rfl

end Cert.ReferenceIdeal.Wgrad

end
-- ==== Proof.DgKit.lean ====
/-
  What the runs of the input gradient's body share: the branch conditions in closed form over the grid points, the
  windows that are idle at a point, the staging and carried arrays.
-/
module

public import proofs.«01_k».proof.Proof.Gen.DgradIdeal.Launch
public import proofs.«01_k».proof.Proof.Gen.DgradIdeal.Skeleton
public import proofs.«01_k».proof.Proof.Gen.DgradIdeal.Loops
public import proofs.«01_k».proof.Proof.Gen.DgradIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 3 rfl).trans ((hA c 3).trans (V_main_arg0 m c)),
      (Pipeline.RDat.FramePost.arr_in h c 5 rfl).trans ((hA c 5).trans (V_main_arg1 m c)),
      (Pipeline.RDat.FramePost.arr_in h c 6 rfl).trans ((hA c 6).trans (V_main_arg2 m c)),
      (Pipeline.RDat.FramePost.arr_in h c 7 rfl).trans ((hA c 7).trans (V_main_arg3 m c)),
      (Pipeline.RDat.FramePost.arr_in h c 0 rfl).trans ((hA c 0).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 208 = 0 :=
  (fun t => by
    have ht : t.val < 208 := Nat.lt_of_lt_of_eq t.isLt N_0
    have e0 : (grid0.coords t 0).val = t.val / 8 % 26 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 208 = 0)

/-- The condition of the body's `scf.if` 1 (`k0_h2`), from the grid coordinates (the skeleton's scalar
    chain substituted). -/
abbrev cond0_1 (i : grid0.Coords) : Prop := k0_cond2 i = 1#1
/-- It holds at the points before point 192 — decided over the grid. -/
theorem hcond0_1 : ∀ t : Fin cfg0.N, cond0_1 (grid0.coords t) ↔ t.val < 192 :=
  (by decide +kernel : ∀ t : Fin grid0.N, cond0_1 (grid0.coords t) ↔ t.val < 192)

/-- The condition of the body's `scf.if` 2 (`k0_h3`), from the grid coordinates (the skeleton's scalar
    chain substituted). -/
abbrev cond0_2 (i : grid0.Coords) : Prop := k0_cond3 i = 1#1
/-- It holds at the points ≡ 0 (mod 2) — decided over the grid. -/
theorem hcond0_2 : ∀ t : Fin cfg0.N, cond0_2 (grid0.coords t) ↔ t.val % 2 = 0 :=
  (by decide +kernel : ∀ t : Fin grid0.N, cond0_2 (grid0.coords t) ↔ t.val % 2 = 0)

/-- The condition of the body's `scf.if` 3 (`k0_h4`), from the grid coordinates (the skeleton's scalar
    chain substituted). -/
abbrev cond0_3 (i : grid0.Coords) : Prop := k0_cond4 i = 1#1
/-- It holds at the points before point 8 — by arithmetic of the point. -/
theorem hcond0_3 : ∀ t : Fin cfg0.N, cond0_3 (grid0.coords t) ↔ t.val < 8 :=
  (fun t => by
    have ht : t.val < 208 := Nat.lt_of_lt_of_eq t.isLt N_0
    have e0 : (grid0.coords t 0).val = t.val / 8 % 26 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val < 8)

/-- The condition of the body's `scf.if` 4 (`k0_h5`), from the grid coordinates (the skeleton's scalar
    chain substituted). -/
abbrev cond0_4 (i : grid0.Coords) : Prop := k0_cond5 i = 1#1
/-- It holds at the points whose coordinates have 1 ≤ i0 and i0 ≤ 24 — decided over the grid. -/
theorem hcond0_4 : ∀ t : Fin cfg0.N, cond0_4 (grid0.coords t) ↔ (1 ≤ t.val / 8 % 26 ∧ t.val / 8 % 26 ≤ 24) :=
  (by decide +kernel : ∀ t : Fin grid0.N, cond0_4 (grid0.coords t) ↔ (1 ≤ t.val / 8 % 26 ∧ t.val / 8 % 26 ≤ 24))

/-- The condition of the body's `scf.if` 5 (`k0_h6`), from the grid coordinates (the skeleton's scalar
    chain substituted). -/
abbrev cond0_5 (i : grid0.Coords) : Prop := k0_cond6 i = 1#1
/-- It holds at the points from point 200 on — decided over the grid. -/
theorem hcond0_5 : ∀ t : Fin cfg0.N, cond0_5 (grid0.coords t) ↔ 200 ≤ t.val :=
  (by decide +kernel : ∀ t : Fin grid0.N, cond0_5 (grid0.coords t) ↔ 200 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ cond0_2 i ∧ cond0_3 i ∧ ¬cond0_4 i ∧ ¬cond0_5 i
instance conds0_A.dec (i : grid0.Coords) : Decidable (conds0_A i) :=
  @instDecidableAnd _ _ inferInstance (@instDecidableAnd _ _ inferInstance (@instDecidableAnd _ _ inferInstance (@instDecidableAnd _ _ inferInstance (@instDecidableAnd _ _ inferInstance inferInstance))))
/-- Case B's branch conditions on the grid, as one proposition. -/
abbrev conds0_B (i : grid0.Coords) : Prop := ¬cond0_0 i ∧ cond0_1 i ∧ ¬cond0_2 i ∧ cond0_3 i ∧ ¬cond0_4 i ∧ ¬cond0_5 i
instance conds0_B.dec (i : grid0.Coords) : Decidable (conds0_B i) :=
  @instDecidableAnd _ _ inferInstance (@instDecidableAnd _ _ inferInstance (@instDecidableAnd _ _ inferInstance (@instDecidableAnd _ _ inferInstance (@instDecidableAnd _ _ inferInstance inferInstance))))
/-- Case C's branch conditions on the grid, as one proposition. -/
abbrev conds0_C (i : grid0.Coords) : Prop := ¬cond0_0 i ∧ cond0_1 i ∧ cond0_2 i ∧ cond0_3 i ∧ ¬cond0_4 i ∧ ¬cond0_5 i
instance conds0_C.dec (i : grid0.Coords) : Decidable (conds0_C i) :=
  @instDecidableAnd _ _ inferInstance (@instDecidableAnd _ _ inferInstance (@instDecidableAnd _ _ inferInstance (@instDecidableAnd _ _ inferInstance (@instDecidableAnd _ _ inferInstance inferInstance))))
/-- Case D's branch conditions on the grid, as one proposition. -/
abbrev conds0_D (i : grid0.Coords) : Prop := ¬cond0_0 i ∧ cond0_1 i ∧ cond0_2 i ∧ ¬cond0_3 i ∧ cond0_4 i ∧ ¬cond0_5 i
instance conds0_D.dec (i : grid0.Coords) : Decidable (conds0_D i) :=
  @instDecidableAnd _ _ inferInstance (@instDecidableAnd _ _ inferInstance (@instDecidableAnd _ _ inferInstance (@instDecidableAnd _ _ inferInstance (@instDecidableAnd _ _ inferInstance inferInstance))))
/-- Case E's branch conditions on the grid, as one proposition. -/
abbrev conds0_E (i : grid0.Coords) : Prop := ¬cond0_0 i ∧ cond0_1 i ∧ ¬cond0_2 i ∧ ¬cond0_3 i ∧ cond0_4 i ∧ ¬cond0_5 i
instance conds0_E.dec (i : grid0.Coords) : Decidable (conds0_E i) :=
  @instDecidableAnd _ _ inferInstance (@instDecidableAnd _ _ inferInstance (@instDecidableAnd _ _ inferInstance (@instDecidableAnd _ _ inferInstance (@instDecidableAnd _ _ inferInstance inferInstance))))
/-- Case F's branch conditions on the grid, as one proposition. -/
abbrev conds0_F (i : grid0.Coords) : Prop := ¬cond0_0 i ∧ ¬cond0_1 i ∧ ¬cond0_3 i ∧ cond0_4 i ∧ ¬cond0_5 i
instance conds0_F.dec (i : grid0.Coords) : Decidable (conds0_F i) :=
  @instDecidableAnd _ _ inferInstance (@instDecidableAnd _ _ inferInstance (@instDecidableAnd _ _ inferInstance (@instDecidableAnd _ _ inferInstance inferInstance)))
/-- Case G's branch conditions on the grid, as one proposition. -/
abbrev conds0_G (i : grid0.Coords) : Prop := ¬cond0_0 i ∧ ¬cond0_1 i ∧ ¬cond0_3 i ∧ ¬cond0_4 i ∧ cond0_5 i
instance conds0_G.dec (i : grid0.Coords) : Decidable (conds0_G i) :=
  @instDecidableAnd _ _ inferInstance (@instDecidableAnd _ _ inferInstance (@instDecidableAnd _ _ inferInstance (@instDecidableAnd _ _ inferInstance inferInstance)))
/-- At the points of case A the printed configuration (`Cfg.idle`) calls output 8 idle: the case stores nothing into it. -/
theorem idleAt0_8_A : ∀ t : Fin cfg0.N, cond0_0 (grid0.coords t) → cond0_1 (grid0.coords t) → cond0_2 (grid0.coords t) → cond0_3 (grid0.coords t) → ¬cond0_4 (grid0.coords t) → ¬cond0_5 (grid0.coords t) → cfg0.idle 8 (grid0.coords t) = true :=
  fun t h0 h1 h2 h3 h4 h5 => (by decide +kernel : ∀ t : Fin cfg0.N, conds0_A (grid0.coords t) → cfg0.idle 8 (grid0.coords t) = true) t ⟨h0, h1, h2, h3, h4, h5⟩
/-- At the points of case A the pipeline does not write output 8's block back. -/
theorem noFlush0_8_A : ∀ t : Fin cfg0.N, cond0_0 (grid0.coords t) → cond0_1 (grid0.coords t) → cond0_2 (grid0.coords t) → cond0_3 (grid0.coords t) → ¬cond0_4 (grid0.coords t) → ¬cond0_5 (grid0.coords t) → (cfg0.win 8).flush t = false :=
  fun t h0 h1 h2 h3 h4 h5 => (by decide +kernel : ∀ t : Fin cfg0.N, conds0_A (grid0.coords t) → (cfg0.win 8).flush t = false) t ⟨h0, h1, h2, h3, h4, h5⟩
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → cond0_3 (grid0.coords t) → ¬cond0_4 (grid0.coords t) → ¬cond0_5 (grid0.coords t) → cfg0.idle 8 (grid0.coords t) = true :=
  fun t h0 h1 h2 h3 h4 h5 => (by decide +kernel : ∀ t : Fin cfg0.N, conds0_B (grid0.coords t) → cfg0.idle 8 (grid0.coords t) = true) t ⟨h0, h1, h2, h3, h4, h5⟩
/-- At the points of case B the pipeline does not write output 8's block back. -/
theorem noFlush0_8_B : ∀ t : Fin cfg0.N, ¬cond0_0 (grid0.coords t) → cond0_1 (grid0.coords t) → ¬cond0_2 (grid0.coords t) → cond0_3 (grid0.coords t) → ¬cond0_4 (grid0.coords t) → ¬cond0_5 (grid0.coords t) → (cfg0.win 8).flush t = false :=
  fun t h0 h1 h2 h3 h4 h5 => (by decide +kernel : ∀ t : Fin cfg0.N, conds0_B (grid0.coords t) → (cfg0.win 8).flush t = false) t ⟨h0, h1, h2, h3, h4, h5⟩
/-- At the points of case C the printed configuration (`Cfg.idle`) calls output 8 idle: the case stores nothing into it. -/
theorem idleAt0_8_C : ∀ t : Fin cfg0.N, ¬cond0_0 (grid0.coords t) → cond0_1 (grid0.coords t) → cond0_2 (grid0.coords t) → cond0_3 (grid0.coords t) → ¬cond0_4 (grid0.coords t) → ¬cond0_5 (grid0.coords t) → cfg0.idle 8 (grid0.coords t) = true :=
  fun t h0 h1 h2 h3 h4 h5 => (by decide +kernel : ∀ t : Fin cfg0.N, conds0_C (grid0.coords t) → cfg0.idle 8 (grid0.coords t) = true) t ⟨h0, h1, h2, h3, h4, h5⟩
/-- At the points of case C the pipeline does not write output 8's block back. -/
theorem noFlush0_8_C : ∀ t : Fin cfg0.N, ¬cond0_0 (grid0.coords t) → cond0_1 (grid0.coords t) → cond0_2 (grid0.coords t) → cond0_3 (grid0.coords t) → ¬cond0_4 (grid0.coords t) → ¬cond0_5 (grid0.coords t) → (cfg0.win 8).flush t = false :=
  fun t h0 h1 h2 h3 h4 h5 => (by decide +kernel : ∀ t : Fin cfg0.N, conds0_C (grid0.coords t) → (cfg0.win 8).flush t = false) t ⟨h0, h1, h2, h3, h4, h5⟩
/-- At the points of case D the printed configuration (`Cfg.idle`) calls output 8 live: the case stores into it. -/
theorem liveAt0_8_D : ∀ t : Fin cfg0.N, ¬cond0_0 (grid0.coords t) → cond0_1 (grid0.coords t) → cond0_2 (grid0.coords t) → ¬cond0_3 (grid0.coords t) → cond0_4 (grid0.coords t) → ¬cond0_5 (grid0.coords t) → cfg0.idle 8 (grid0.coords t) = false :=
  fun t h0 h1 h2 h3 h4 h5 => (by decide +kernel : ∀ t : Fin cfg0.N, conds0_D (grid0.coords t) → cfg0.idle 8 (grid0.coords t) = false) t ⟨h0, h1, h2, h3, h4, h5⟩
/-- At the points of case E the printed configuration (`Cfg.idle`) calls output 8 live: the case stores into it. -/
theorem liveAt0_8_E : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → cfg0.idle 8 (grid0.coords t) = false :=
  fun t h0 h1 h2 h3 h4 h5 => (by decide +kernel : ∀ t : Fin cfg0.N, conds0_E (grid0.coords t) → cfg0.idle 8 (grid0.coords t) = false) t ⟨h0, h1, h2, h3, h4, h5⟩
/-- At the points of case F the printed configuration (`Cfg.idle`) calls output 8 live: the case stores into it. -/
theorem liveAt0_8_F : ∀ t : Fin cfg0.N, ¬cond0_0 (grid0.coords t) → ¬cond0_1 (grid0.coords t) → ¬cond0_3 (grid0.coords t) → cond0_4 (grid0.coords t) → ¬cond0_5 (grid0.coords t) → cfg0.idle 8 (grid0.coords t) = false :=
  fun t h0 h1 h3 h4 h5 => (by decide +kernel : ∀ t : Fin cfg0.N, conds0_F (grid0.coords t) → cfg0.idle 8 (grid0.coords t) = false) t ⟨h0, h1, h3, h4, h5⟩
/-- At the points of case G the printed configuration (`Cfg.idle`) calls output 8 live: the case stores into it. -/
theorem liveAt0_8_G : ∀ t : Fin cfg0.N, ¬cond0_0 (grid0.coords t) → ¬cond0_1 (grid0.coords t) → ¬cond0_3 (grid0.coords t) → ¬cond0_4 (grid0.coords t) → cond0_5 (grid0.coords t) → cfg0.idle 8 (grid0.coords t) = false :=
  fun t h0 h1 h3 h4 h5 => (by decide +kernel : ∀ t : Fin cfg0.N, conds0_G (grid0.coords t) → cfg0.idle 8 (grid0.coords t) = false) t ⟨h0, h1, h3, h4, h5⟩

/-! ## The kernel body on any staging memrefs: a subtype the run finds -/

/-- One staging buffer of output window 8, through which its contents are stated (`View.read_writes_of_cover`: the
    choice does not matter). -/
abbrev VO0_8 : View sig .tc .vmem S512x512 .bf16 := (Memref.whole cc0_stg8_0 : Memref sig .tc .vmem S512x512 .bf16).view
/-- Each window's current staging memref at point `t`, spelled as the pipeline passes it (`bodyAt0`), and its wholeness. -/
abbrev ms0_0 (t : Fin cfg0.N) : Memref sig .tc .vmem S128x5504 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x11008 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S32x86 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x2048 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x4096 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x5504 .fp8e5m2 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x86 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x5504 .fp8e5m2 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x11008 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2048x128 .bf16 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S2x512x11008 .bf16 := Memref.whole cc0_scratch0
abbrev scM0_1 : Memref sig .tc .vmem S8x512x512 .f32 := Memref.whole cc0_scratch1
abbrev scM0_2 : Memref sig .tc .vmem S3x512x128 .f32 := Memref.whole cc0_scratch2
abbrev scM0_3 : Memref sig .tc .vmem S2x512x128 .f32 := Memref.whole cc0_scratch3
/-- The scratch `arg19` the kernel carries between points, as a view: what it holds is stated through it. -/
abbrev VS0_0 : View sig .tc .vmem S2x512x11008 .bf16 := scM0_0.view
/-- The scratch `arg20` the kernel carries between points, as a view: what it holds is stated through it. -/
abbrev VS0_1 : View sig .tc .vmem S8x512x512 .f32 := scM0_1.view
/-- The scratch `arg21` the kernel carries between points, as a view: what it holds is stated through it. -/
abbrev VS0_2 : View sig .tc .vmem S3x512x128 .f32 := scM0_2.view
/-- The scratch `arg22` the kernel carries between points, as a view: what it holds is stated through it. -/
abbrev VS0_3 : View sig .tc .vmem S2x512x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.DgradIdeal.Gen

end
-- ==== Proof.DgBodyA.lean ====
/-
  The run of the input gradient's body at the points of case A.
-/
module

public import proofs.«01_k».proof.Proof.DgKit

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6152000 in
/-- What the body's stores leave in each output's staging memref, as pieces (last first) IN CASE A (`scf.if` 0 taken, `scf.if` 1 taken, `scf.if` 2 taken, `scf.if` 3 taken, `scf.if` 4 not taken, `scf.if` 5 not taken: points 0), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14, 15, 16) at anything, handed back at some contents nothing names. -/
noncomputable def kernelRun0_A (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) :
    Σ' (L8 : List (View.Piece (Elt F) S512x512 .bf16)), Σ' (LS0 : List (View.Piece (Elt F) S2x512x11008 .bf16)), Σ' (LS1 : List (View.Piece (Elt F) S8x512x512 .f32)), Σ' (LS2 : List (View.Piece (Elt F) S3x512x128 .f32)), { LS3 : List (View.Piece (Elt F) S2x512x128 .f32) //
      ∀ (xi8 : Vec F S512x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, ?_, ?_, ?_, fun xi8 E K => ?run⟩
  case run =>
    simp only [cc0_dgrad_eq_skeleton]; unfold cc0_dgrad_skel
    simp only [k0_part339_eq_skeleton, k0_part113_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part114_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]; · iexists _; iexact HS0
    isplitl [HS1]; · iexists _; iexact HS1
    isplitl [HS2]; · iexists _; iexact HS2
    iexists _; iexact HS3

end Cert.DgradIdeal.Gen

end
-- ==== Proof.DgBodyB.lean ====
/-
  The run of the input gradient's body at the points of case B.
-/
module

public import proofs.«01_k».proof.Proof.DgBodyA

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6048000 in
/-- What the body's stores leave in each output's staging memref, as pieces (last first) IN CASE B (`scf.if` 0 not taken, `scf.if` 1 taken, `scf.if` 2 not taken, `scf.if` 3 taken, `scf.if` 4 not taken, `scf.if` 5 not taken: points 1, 3, 5, 7), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14, 15, 16) at anything, handed back at some contents nothing names. -/
noncomputable def kernelRun0_B (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) :
    Σ' (L8 : List (View.Piece (Elt F) S512x512 .bf16)), Σ' (LS0 : List (View.Piece (Elt F) S2x512x11008 .bf16)), Σ' (LS1 : List (View.Piece (Elt F) S8x512x512 .f32)), Σ' (LS2 : List (View.Piece (Elt F) S3x512x128 .f32)), { LS3 : List (View.Piece (Elt F) S2x512x128 .f32) //
      ∀ (xi8 : Vec F S512x512 .bf16) (xs0 : Vec F S2x512x11008 .bf16) (xs2 : Vec F S3x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs0) LS0) ∗ owns (c : Thread nD τ) arg20 fullShare xs1 ∗ (arg21.view.loc (c : Thread nD τ) ↦[arg21.view.set]{fullShare} arg21.view.writes (Elt F) (harg21.unread xs2) LS2) ∗ owns (c : Thread nD τ) arg22 fullShare xs3) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, [], ?_, [], fun xi8 xs0 xs2 E K => ?run⟩
  case run =>
    simp only [cc0_dgrad_eq_skeleton]; unfold cc0_dgrad_skel
    simp only [k0_part339_eq_skeleton, k0_part113_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part114_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg19.eq_unread hfs0; obtain rfl := harg20.eq_unread hfs1; obtain rfl := harg21.eq_unread hfs2; obtain rfl := harg22.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]; · iexact HS0
    isplitl [HS1]
    · iexists _; isplitr; · ipureintro; exact harg20.read_unread _
      iexact HS1
    isplitl [HS2]; · iexact HS2
    iexists _; isplitr; · ipureintro; exact harg22.read_unread _
    iexact HS3

end Cert.DgradIdeal.Gen

end
-- ==== Proof.DgBodyC.lean ====
/-
  The run of the input gradient's body at the points of case C.
-/
module

public import proofs.«01_k».proof.Proof.DgBodyB

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6056000 in
/-- What the body's stores leave in each output's staging memref, as pieces (last first) IN CASE C (`scf.if` 0 not taken, `scf.if` 1 taken, `scf.if` 2 taken, `scf.if` 3 taken, `scf.if` 4 not taken, `scf.if` 5 not taken: points 2, 4, 6), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14, 15, 16) at anything, handed back at some contents nothing names. -/
noncomputable def kernelRun0_C (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) :
    Σ' (L8 : List (View.Piece (Elt F) S512x512 .bf16)), Σ' (LS0 : List (View.Piece (Elt F) S2x512x11008 .bf16)), Σ' (LS1 : List (View.Piece (Elt F) S8x512x512 .f32)), Σ' (LS2 : List (View.Piece (Elt F) S3x512x128 .f32)), { LS3 : List (View.Piece (Elt F) S2x512x128 .f32) //
      ∀ (xi8 : Vec F S512x512 .bf16) (xs0 : Vec F S2x512x11008 .bf16) (xs2 : Vec F S3x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs0) LS0) ∗ owns (c : Thread nD τ) arg20 fullShare xs1 ∗ (arg21.view.loc (c : Thread nD τ) ↦[arg21.view.set]{fullShare} arg21.view.writes (Elt F) (harg21.unread xs2) LS2) ∗ owns (c : Thread nD τ) arg22 fullShare xs3) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, [], ?_, [], fun xi8 xs0 xs2 E K => ?run⟩
  case run =>
    simp only [cc0_dgrad_eq_skeleton]; unfold cc0_dgrad_skel
    simp only [k0_part339_eq_skeleton, k0_part113_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part114_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg19.eq_unread hfs0; obtain rfl := harg20.eq_unread hfs1; obtain rfl := harg21.eq_unread hfs2; obtain rfl := harg22.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]; · iexact HS0
    isplitl [HS1]
    · iexists _; isplitr; · ipureintro; exact harg20.read_unread _
      iexact HS1
    isplitl [HS2]; · iexact HS2
    iexists _; isplitr; · ipureintro; exact harg22.read_unread _
    iexact HS3

end Cert.DgradIdeal.Gen

end
-- ==== Proof.DgBodyD.lean ====
/-
  The run of the input gradient's body at the points of case D.
-/
module

public import proofs.«01_k».proof.Proof.DgBodyC

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14972000 in
/-- What the body's stores leave in each output's staging memref, as pieces (last first) IN CASE D (`scf.if` 0 not taken, `scf.if` 1 taken, `scf.if` 2 taken, `scf.if` 3 not taken, `scf.if` 4 taken, `scf.if` 5 not taken: points 8, 10, … 190: 92 of 208), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14, 15, 16) at anything, handed back at some contents nothing names. -/
noncomputable def kernelRun0_D (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) :
    Σ' (L8 : List (View.Piece (Elt F) S512x512 .bf16)), Σ' (LS0 : List (View.Piece (Elt F) S2x512x11008 .bf16)), Σ' (LS1 : List (View.Piece (Elt F) S8x512x512 .f32)), Σ' (LS2 : List (View.Piece (Elt F) S3x512x128 .f32)), { LS3 : List (View.Piece (Elt F) S2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs0) LS0) ∗ (arg20.view.loc (c : Thread nD τ) ↦[arg20.view.set]{fullShare} arg20.view.writes (Elt F) (harg20.unread xs1) LS1) ∗ (arg21.view.loc (c : Thread nD τ) ↦[arg21.view.set]{fullShare} arg21.view.writes (Elt F) (harg21.unread xs2) LS2) ∗ (arg22.view.loc (c : Thread nD τ) ↦[arg22.view.set]{fullShare} arg22.view.writes (Elt F) (harg22.unread xs3) LS3)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, fun E K => ?run⟩
  case run =>
    simp only [cc0_dgrad_eq_skeleton]; unfold cc0_dgrad_skel
    simp only [k0_part339_eq_skeleton, k0_part330_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part331_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part332_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part333_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg19.eq_unread hfs0; obtain rfl := harg20.eq_unread hfs1; obtain rfl := harg21.eq_unread hfs2; obtain rfl := harg22.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]; · iexact HS0
    isplitl [HS1]; · iexact HS1
    isplitl [HS2]; · iexact HS2
    iexact HS3

end Cert.DgradIdeal.Gen

end
-- ==== Proof.DgBodyE.lean ====
/-
  The run of the input gradient's body at the points of case E.
-/
module

public import proofs.«01_k».proof.Proof.DgBodyD

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14964000 in
/-- What the body's stores leave in each output's staging memref, as pieces (last first) IN CASE E (`scf.if` 0 not taken, `scf.if` 1 taken, `scf.if` 2 not taken, `scf.if` 3 not taken, `scf.if` 4 taken, `scf.if` 5 not taken: points 9, 11, … 191: 92 of 208), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14, 15, 16) at anything, handed back at some contents nothing names. -/
noncomputable def kernelRun0_E (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) :
    Σ' (L8 : List (View.Piece (Elt F) S512x512 .bf16)), Σ' (LS0 : List (View.Piece (Elt F) S2x512x11008 .bf16)), Σ' (LS1 : List (View.Piece (Elt F) S8x512x512 .f32)), Σ' (LS2 : List (View.Piece (Elt F) S3x512x128 .f32)), { LS3 : List (View.Piece (Elt F) S2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs0) LS0) ∗ (arg20.view.loc (c : Thread nD τ) ↦[arg20.view.set]{fullShare} arg20.view.writes (Elt F) (harg20.unread xs1) LS1) ∗ (arg21.view.loc (c : Thread nD τ) ↦[arg21.view.set]{fullShare} arg21.view.writes (Elt F) (harg21.unread xs2) LS2) ∗ (arg22.view.loc (c : Thread nD τ) ↦[arg22.view.set]{fullShare} arg22.view.writes (Elt F) (harg22.unread xs3) LS3)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, fun E K => ?run⟩
  case run =>
    simp only [cc0_dgrad_eq_skeleton]; unfold cc0_dgrad_skel
    simp only [k0_part339_eq_skeleton, k0_part330_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part331_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part332_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part333_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg19.eq_unread hfs0; obtain rfl := harg20.eq_unread hfs1; obtain rfl := harg21.eq_unread hfs2; obtain rfl := harg22.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]; · iexact HS0
    isplitl [HS1]; · iexact HS1
    isplitl [HS2]; · iexact HS2
    iexact HS3

end Cert.DgradIdeal.Gen

end
-- ==== Proof.DgBodyF.lean ====
/-
  The run of the input gradient's body at the points of case F.
-/
module

public import proofs.«01_k».proof.Proof.DgBodyE

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14940000 in
/-- What the body's stores leave in each output's staging memref, as pieces (last first) IN CASE F (`scf.if` 0 not taken, `scf.if` 1 not taken, `scf.if` 3 not taken, `scf.if` 4 taken, `scf.if` 5 not taken: points 192, 193, … 199: 8 of 208), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14, 15, 16) at anything, handed back at some contents nothing names. -/
noncomputable def kernelRun0_F (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) :
    Σ' (L8 : List (View.Piece (Elt F) S512x512 .bf16)), Σ' (LS0 : List (View.Piece (Elt F) S2x512x11008 .bf16)), Σ' (LS1 : List (View.Piece (Elt F) S8x512x512 .f32)), Σ' (LS2 : List (View.Piece (Elt F) S3x512x128 .f32)), { LS3 : List (View.Piece (Elt F) S2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs0) LS0) ∗ (arg20.view.loc (c : Thread nD τ) ↦[arg20.view.set]{fullShare} arg20.view.writes (Elt F) (harg20.unread xs1) LS1) ∗ (arg21.view.loc (c : Thread nD τ) ↦[arg21.view.set]{fullShare} arg21.view.writes (Elt F) (harg21.unread xs2) LS2) ∗ (arg22.view.loc (c : Thread nD τ) ↦[arg22.view.set]{fullShare} arg22.view.writes (Elt F) (harg22.unread xs3) LS3)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, fun E K => ?run⟩
  case run =>
    simp only [cc0_dgrad_eq_skeleton]; unfold cc0_dgrad_skel
    simp only [k0_part339_eq_skeleton, k0_part330_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part331_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part332_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part333_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg19.eq_unread hfs0; obtain rfl := harg20.eq_unread hfs1; obtain rfl := harg21.eq_unread hfs2; obtain rfl := harg22.eq_unread hfs3
    sl_exec (disch := first | sl_exact hc0 | sl_exact hc1 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]; · iexact HS0
    isplitl [HS1]; · iexact HS1
    isplitl [HS2]; · iexact HS2
    iexact HS3

end Cert.DgradIdeal.Gen

end
-- ==== Proof.DgBodyG.lean ====
/-
  The run of the input gradient's body at the points of case G.
-/
module

public import proofs.«01_k».proof.Proof.DgBodyF

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE G (`scf.if` 0 not taken, `scf.if` 1 not taken, `scf.if` 3 not taken, `scf.if` 4 not taken, `scf.if` 5 taken: points 200, 201, … 207: 8 of 208), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14, 15, 16) at anything, handed back at some contents nothing names. -/
noncomputable def kernelRun0_G (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : ¬cond0_4 i) (hc5 : cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) :
    Σ' (L8 : List (View.Piece (Elt F) S512x512 .bf16)), Σ' (LS0 : List (View.Piece (Elt F) S2x512x11008 .bf16)), Σ' (LS1 : List (View.Piece (Elt F) S8x512x512 .f32)), Σ' (LS2 : List (View.Piece (Elt F) S3x512x128 .f32)), { LS3 : List (View.Piece (Elt F) S2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, [], [], [], [], fun E K => ?run⟩
  case run =>
    simp only [cc0_dgrad_eq_skeleton]; unfold cc0_dgrad_skel
    simp only [k0_part339_eq_skeleton, k0_part334_eq_skeleton, k0_part335_eq_skeleton, k0_part336_eq_skeleton, k0_part337_eq_skeleton, k0_part338_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg19.eq_unread hfs0; obtain rfl := harg20.eq_unread hfs1; obtain rfl := harg21.eq_unread hfs2; obtain rfl := harg22.eq_unread hfs3
    sl_exec (disch := first | sl_exact hc0 | sl_exact hc1 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _; isplitr; · ipureintro; exact harg19.read_unread _
      iexact HS0
    isplitl [HS1]
    · iexists _; isplitr; · ipureintro; exact harg20.read_unread _
      iexact HS1
    isplitl [HS2]
    · iexists _; isplitr; · ipureintro; exact harg21.read_unread _
      iexact HS2
    iexists _; isplitr; · ipureintro; exact harg22.read_unread _
    iexact HS3

end Cert.DgradIdeal.Gen

end
-- ==== Proof.DgFrame1.lean ====
/-
  What each case of the kernel's body leaves in the finished block and in the four arrays carried between points.
-/
module

public import proofs.«01_k».proof.Proof.DgBodyG
public import Idealize.ShloMosaic.Lib.Claim

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) : Vec F S512x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).1)

/-- Case A's pieces for scratch `arg19`, which the kernel carries between points, cover it: one of them a store of the WHOLE buffer (Lib/Ring.lean `sl_whole_mem`). -/
theorem scover0_A_0 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (y : S2x512x11008.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.1 (by sl_whole_mem) y

/-- What case A leaves in scratch `arg19`: its pieces read back over junk. -/
def sout0_A_0 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) : Vec F S2x512x11008 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.1)

/-- Case A's pieces for scratch `arg20`, which the kernel carries between points, cover it: 8 pieces of `S1x512x512` tiling it (Lib/Ring.lean `Piece.tiledL`). -/
theorem scover0_A_1 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (y : S8x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.2.1 S1x512x512.size (by sl_kernel_rfl) y

/-- What case A leaves in scratch `arg20`: its pieces read back over junk. -/
def sout0_A_1 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) : Vec F S8x512x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.2.1)

/-- Case A's pieces for scratch `arg21`, which the kernel carries between points, cover it: one of them a store of the WHOLE buffer (Lib/Ring.lean `sl_whole_mem`). -/
theorem scover0_A_2 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (y : S3x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.2.2.1 (by sl_whole_mem) y

/-- What case A leaves in scratch `arg21`: its pieces read back over junk. -/
def sout0_A_2 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) : Vec F S3x512x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.2.2.1)

/-- Case A's pieces for scratch `arg22`, which the kernel carries between points, cover it: 1 piece of `S2x512x128` tiling it (Lib/Ring.lean `Piece.tiledL`). -/
theorem scover0_A_3 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (y : S2x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.2.2.2.1 S2x512x128.size (by sl_kernel_rfl) y

/-- What case A leaves in scratch `arg22`: its pieces read back over junk. -/
def sout0_A_3 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) : Vec F S2x512x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7).2.2.2.2.1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) : Vec F S512x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3).1)

/-- What case B leaves in scratch `arg19`: its pieces (stores, a counted loop's segment) read back over the contents it was handed (`xs0`: what the point before left, or at the first point what the scratch held before it). -/
def sout0_B_0 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) (xs0 : Vec F S2x512x11008 .bf16) : Vec F S2x512x11008 .bf16 :=
  arg19.view.read (Elt F) (arg19.view.writes (Elt F) (harg19.unread xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3).2.1)

/-- Case B stores nothing into scratch `arg20`: it holds what the point before left. -/
def sout0_B_1 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) : Vec F S8x512x512 .f32 := xs1

/-- What case B leaves in scratch `arg21`: its pieces (stores, a counted loop's segment) read back over the contents it was handed (`xs2`: what the point before left, or at the first point what the scratch held before it). -/
def sout0_B_2 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) (xs2 : Vec F S3x512x128 .f32) : Vec F S3x512x128 .f32 :=
  arg21.view.read (Elt F) (arg21.view.writes (Elt F) (harg21.unread xs2) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3).2.2.2.1)

/-- Case B stores nothing into scratch `arg22`: it holds what the point before left. -/
def sout0_B_3 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) : Vec F S2x512x128 .f32 := xs3

/-- Case C stores nothing into output 8 (the window is idle at its points and not written back there):
    no pieces — a placeholder (junk read back) that nothing consults, since at these points the window is neither
    written back nor read at the next point (Lib/Pipeline.lean "Idle points"). -/
def out0_C_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) : Vec F S512x512 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3).1)

/-- What case C leaves in scratch `arg19`: its pieces (stores, a counted loop's segment) read back over the contents it was handed (`xs0`: what the point before left, or at the first point what the scratch held before it). -/
def sout0_C_0 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) (xs0 : Vec F S2x512x11008 .bf16) : Vec F S2x512x11008 .bf16 :=
  arg19.view.read (Elt F) (arg19.view.writes (Elt F) (harg19.unread xs0) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3).2.1)

/-- Case C stores nothing into scratch `arg20`: it holds what the point before left. -/
def sout0_C_1 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) : Vec F S8x512x512 .f32 := xs1

/-- What case C leaves in scratch `arg21`: its pieces (stores, a counted loop's segment) read back over the contents it was handed (`xs2`: what the point before left, or at the first point what the scratch held before it). -/
def sout0_C_2 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) (xs2 : Vec F S3x512x128 .f32) : Vec F S3x512x128 .f32 :=
  arg21.view.read (Elt F) (arg21.view.writes (Elt F) (harg21.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3).2.2.2.1)

/-- Case C stores nothing into scratch `arg22`: it holds what the point before left. -/
def sout0_C_3 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : cond0_3 i) (hc4 : ¬cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs1 : Vec F S8x512x512 .f32) (xs3 : Vec F S2x512x128 .f32) : Vec F S2x512x128 .f32 := xs3

/-- Case D's pieces for output 8 tile its block (8 stores of `S64x512`, checked by the kernel's evaluation: Lib/Ring.lean `Piece.tiledL`, linear in the pieces, through a loop's `@[irreducible]` trip theorem too), so they cover it. -/
theorem cover0_D_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).1 S64x512.size (by sl_kernel_rfl) y

/-- What case D leaves in output 8's staging buffer: its pieces read back over junk. -/
def out0_D_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S512x512 .bf16 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).1)

/-- What case D leaves in scratch `arg19`: its pieces (stores, a counted loop's segment) read back over what the point before left there, which it read first. -/
def sout0_D_0 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S2x512x11008 .bf16 :=
  arg19.view.read (Elt F) (arg19.view.writes (Elt F) (harg19.unread xs0) (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).2.1)

/-- What case D leaves in scratch `arg20`: its pieces (stores, a counted loop's segment) read back over what the point before left there, which it read first. -/
def sout0_D_1 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S8x512x512 .f32 :=
  arg20.view.read (Elt F) (arg20.view.writes (Elt F) (harg20.unread xs1) (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).2.2.1)

/-- What case D leaves in scratch `arg21`: its pieces (stores, a counted loop's segment) read back over what the point before left there, which it read first. -/
def sout0_D_2 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S3x512x128 .f32 :=
  arg21.view.read (Elt F) (arg21.view.writes (Elt F) (harg21.unread xs2) (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).2.2.2.1)

/-- What case D leaves in scratch `arg22`: its pieces (stores, a counted loop's segment) read back over what the point before left there, which it read first. -/
def sout0_D_3 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S2x512x128 .f32 :=
  arg22.view.read (Elt F) (arg22.view.writes (Elt F) (harg22.unread xs3) (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).2.2.2.2.1)

/-- Case E's pieces for output 8 tile its block (8 stores of `S64x512`, checked by the kernel's evaluation: Lib/Ring.lean `Piece.tiledL`, linear in the pieces, through a loop's `@[irreducible]` trip theorem too), so they cover it. -/
theorem cover0_E_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) (y : S512x512.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).1 S64x512.size (by sl_kernel_rfl) y

/-- What case E leaves in output 8's staging buffer: its pieces read back over junk. -/
def out0_E_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S512x512 .bf16 :=
  VO0_8.read (Elt F) (VO0_8.writes (Elt F) VO0_8.junk (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).1)

/-- What case E leaves in scratch `arg19`: its pieces (stores, a counted loop's segment) read back over what the point before left there, which it read first. -/
def sout0_E_0 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S2x512x11008 .bf16 :=
  arg19.view.read (Elt F) (arg19.view.writes (Elt F) (harg19.unread xs0) (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).2.1)

/-- What case E leaves in scratch `arg20`: its pieces (stores, a counted loop's segment) read back over what the point before left there, which it read first. -/
def sout0_E_1 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S8x512x512 .f32 :=
  arg20.view.read (Elt F) (arg20.view.writes (Elt F) (harg20.unread xs1) (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).2.2.1)

/-- What case E leaves in scratch `arg21`: its pieces (stores, a counted loop's segment) read back over what the point before left there, which it read first. -/
def sout0_E_2 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S3x512x128 .f32 :=
  arg21.view.read (Elt F) (arg21.view.writes (Elt F) (harg21.unread xs2) (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).2.2.2.1)

/-- What case E leaves in scratch `arg22`: its pieces (stores, a counted loop's segment) read back over what the point before left there, which it read first. -/
def sout0_E_3 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : cond0_1 i) (hc2 : ¬cond0_2 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S2x512x128 .f32 :=
  arg22.view.read (Elt F) (arg22.view.writes (Elt F) (harg22.unread xs3) (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3).2.2.2.2.1)

/-- Case F's pieces for output 8 tile its block (8 stores of `S64x512`, checked by the kernel's evaluation: Lib/Ring.lean `Piece.tiledL`, linear in the pieces, through a loop's `@[irreducible]` trip theorem too), so they cover it. -/
theorem cover0_F_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) (y : S512x512.Idx) :
    ∃ pc ∈ (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).1, y ∈ pc.1.set :=
  View.cover_of_tiledL (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).1 S64x512.size (by sl_kernel_rfl) y

/-- What case F leaves in output 8's staging buffer: its pieces read back over junk. -/
def out0_F_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S512x512 .bf16 :=
  VO0_8.read (Elt F) (VO0_8.writes (Elt F) VO0_8.junk (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).1)

/-- What case F leaves in scratch `arg19`: its pieces (stores, a counted loop's segment) read back over what the point before left there, which it read first. -/
def sout0_F_0 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S2x512x11008 .bf16 :=
  arg19.view.read (Elt F) (arg19.view.writes (Elt F) (harg19.unread xs0) (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).2.1)

/-- What case F leaves in scratch `arg20`: its pieces (stores, a counted loop's segment) read back over what the point before left there, which it read first. -/
def sout0_F_1 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S8x512x512 .f32 :=
  arg20.view.read (Elt F) (arg20.view.writes (Elt F) (harg20.unread xs1) (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).2.2.1)

/-- What case F leaves in scratch `arg21`: its pieces (stores, a counted loop's segment) read back over what the point before left there, which it read first. -/
def sout0_F_2 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S3x512x128 .f32 :=
  arg21.view.read (Elt F) (arg21.view.writes (Elt F) (harg21.unread xs2) (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).2.2.2.1)

/-- What case F leaves in scratch `arg22`: its pieces (stores, a counted loop's segment) read back over what the point before left there, which it read first. -/
def sout0_F_3 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : cond0_4 i) (hc5 : ¬cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S2x512x128 .f32 :=
  arg22.view.read (Elt F) (arg22.view.writes (Elt F) (harg22.unread xs3) (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).2.2.2.2.1)

/-- Case G's pieces for output 8 tile its block (8 stores of `S64x512`, checked by the kernel's evaluation: Lib/Ring.lean `Piece.tiledL`, linear in the pieces, through a loop's `@[irreducible]` trip theorem too), so they cover it. -/
theorem cover0_G_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : ¬cond0_4 i) (hc5 : cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) (y : S512x512.Idx) :
    ∃ pc ∈ (kernelRun0_G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).1, y ∈ pc.1.set :=
  View.cover_of_tiledL (kernelRun0_G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).1 S64x512.size (by sl_kernel_rfl) y

/-- What case G leaves in output 8's staging buffer: its pieces read back over junk. -/
def out0_G_8 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : ¬cond0_4 i) (hc5 : cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S512x512 .bf16 :=
  VO0_8.read (Elt F) (VO0_8.writes (Elt F) VO0_8.junk (kernelRun0_G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3).1)

/-- Case G stores nothing into scratch `arg19`: it holds what the point before left. -/
def sout0_G_0 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : ¬cond0_4 i) (hc5 : cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S2x512x11008 .bf16 := xs0

/-- Case G stores nothing into scratch `arg20`: it holds what the point before left. -/
def sout0_G_1 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : ¬cond0_4 i) (hc5 : cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S8x512x512 .f32 := xs1

/-- Case G stores nothing into scratch `arg21`: it holds what the point before left. -/
def sout0_G_2 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : ¬cond0_4 i) (hc5 : cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S3x512x128 .f32 := xs2

/-- Case G stores nothing into scratch `arg22`: it holds what the point before left. -/
def sout0_G_3 (c : Dev nD) (i : grid0.Coords) (arg2 : Memref sig .tc .vmem S128x5504 .bf16) (harg2 : arg2.IsWhole) (arg3 : Memref sig .tc .vmem S128x4096 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048 .f32) (harg7 : arg7.IsWhole) (arg8 : Memref sig .tc .vmem S512x11008 .fp8e4m3) (harg8 : arg8.IsWhole) (arg9 : Memref sig .tc .smem S32x86 .f32) (harg9 : arg9.IsWhole) (arg10 : Memref sig .tc .vmem S512x512 .bf16) (harg10 : arg10.IsWhole) (arg11 : Memref sig .tc .vmem S1x4096 .f32) (harg11 : arg11.IsWhole) (arg12 : Memref sig .tc .vmem S128x2048 .fp8e4m3) (harg12 : arg12.IsWhole) (arg13 : Memref sig .tc .vmem S8x4096 .f32) (harg13 : arg13.IsWhole) (arg14 : Memref sig .tc .vmem S128x5504 .fp8e5m2) (harg14 : arg14.IsWhole) (arg15 : Memref sig .tc .vmem S128x86 .f32) (harg15 : arg15.IsWhole) (arg16 : Memref sig .tc .vmem S128x5504 .fp8e5m2) (harg16 : arg16.IsWhole) (arg17 : Memref sig .tc .vmem S8x11008 .f32) (harg17 : arg17.IsWhole) (arg18 : Memref sig .tc .vmem S2048x128 .bf16) (harg18 : arg18.IsWhole) (arg19 : Memref sig .tc .vmem S2x512x11008 .bf16) (harg19 : arg19.IsWhole) (arg20 : Memref sig .tc .vmem S8x512x512 .f32) (harg20 : arg20.IsWhole) (arg21 : Memref sig .tc .vmem S3x512x128 .f32) (harg21 : arg21.IsWhole) (arg22 : Memref sig .tc .vmem S2x512x128 .f32) (harg22 : arg22.IsWhole) (hc0 : ¬cond0_0 i) (hc1 : ¬cond0_1 i) (hc3 : ¬cond0_3 i) (hc4 : ¬cond0_4 i) (hc5 : cond0_5 i)
    (x0 : Vec F S128x5504 .bf16) (x1 : Vec F S128x4096 .bf16) (x2 : Vec F S512x512 .bf16) (x3 : Vec F S512x512 .bf16) (x4 : Vec F S1x512 .f32) (x5 : Vec F S1x2048 .f32) (x6 : Vec F S512x11008 .fp8e4m3) (x7 : Vec F S32x86 .f32) (xs0 : Vec F S2x512x11008 .bf16) (xs1 : Vec F S8x512x512 .f32) (xs2 : Vec F S3x512x128 .f32) (xs3 : Vec F S2x512x128 .f32) : Vec F S2x512x128 .f32 := xs3

/-! ## What the outputs hold after each point -/

end Cert.DgradIdeal.Gen

end
-- ==== Proof.DgFrame2.lean ====
/-
  The contents after each grid point, case by case.
-/
module

public import proofs.«01_k».proof.Proof.DgFrame1

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .bf16 × Vec F S2x512x11008 .bf16 × Vec F S8x512x512 .f32 × Vec F S3x512x128 .f32 × Vec F S2x512x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) ((hcond0_3 ⟨0, hn⟩).mpr (by (try dsimp only); omega)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) ((hcond0_3 ⟨0, hn⟩).mpr (by (try dsimp only); omega)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) ((hcond0_3 ⟨0, hn⟩).mpr (by (try dsimp only); omega)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) ((hcond0_3 ⟨0, hn⟩).mpr (by (try dsimp only); omega)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) ((hcond0_3 ⟨0, hn⟩).mpr (by (try dsimp only); omega)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 208 = 0 then
      if h1 : (n + 1) < 192 then
        if h2 : (n + 1) % 2 = 0 then
          if h3 : (n + 1) < 8 then
            if h4 : (1 ≤ (n + 1) / 8 % 26 ∧ (n + 1) / 8 % 26 ≤ 24) then
              False.elim (by have hN : n + 1 < 208 := lt_of_lt_of_eq hn (show cfg0.N = 208 from N_0); omega)
            else
              if h5 : 200 ≤ (n + 1) then
                False.elim (by have hN : n + 1 < 208 := lt_of_lt_of_eq hn (show cfg0.N = 208 from N_0); omega)
              else
                (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
          else
            False.elim (by have hN : n + 1 < 208 := lt_of_lt_of_eq hn (show cfg0.N = 208 from N_0); omega)
        else
          False.elim (by have hN : n + 1 < 208 := lt_of_lt_of_eq hn (show cfg0.N = 208 from N_0); omega)
      else
        False.elim (by have hN : n + 1 < 208 := lt_of_lt_of_eq hn (show cfg0.N = 208 from N_0); omega)
    else
      if h1 : (n + 1) < 192 then
        if h2 : (n + 1) % 2 = 0 then
          if h3 : (n + 1) < 8 then
            if h4 : (1 ≤ (n + 1) / 8 % 26 ∧ (n + 1) / 8 % 26 ≤ 24) then
              False.elim (by have hN : n + 1 < 208 := lt_of_lt_of_eq hn (show cfg0.N = 208 from N_0); omega)
            else
              if h5 : 200 ≤ (n + 1) then
                False.elim (by have hN : n + 1 < 208 := lt_of_lt_of_eq hn (show cfg0.N = 208 from N_0); omega)
              else
                (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2 (outsAt0 c n (Nat.lt_of_succ_lt hn)).2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2 (outsAt0 c n (Nat.lt_of_succ_lt hn)).2.2.2.1, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2)
          else
            if h4 : (1 ≤ (n + 1) / 8 % 26 ∧ (n + 1) / 8 % 26 ≤ 24) then
              if h5 : 200 ≤ (n + 1) then
                False.elim (by have hN : n + 1 < 208 := lt_of_lt_of_eq hn (show cfg0.N = 208 from N_0); omega)
              else
                (out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
            else
              False.elim (by have hN : n + 1 < 208 := lt_of_lt_of_eq hn (show cfg0.N = 208 from N_0); omega)
        else
          if h3 : (n + 1) < 8 then
            if h4 : (1 ≤ (n + 1) / 8 % 26 ∧ (n + 1) / 8 % 26 ≤ 24) then
              False.elim (by have hN : n + 1 < 208 := lt_of_lt_of_eq hn (show cfg0.N = 208 from N_0); omega)
            else
              if h5 : 200 ≤ (n + 1) then
                False.elim (by have hN : n + 1 < 208 := lt_of_lt_of_eq hn (show cfg0.N = 208 from N_0); omega)
              else
                (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2 (outsAt0 c n (Nat.lt_of_succ_lt hn)).2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2 (outsAt0 c n (Nat.lt_of_succ_lt hn)).2.2.2.1, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.2)
          else
            if h4 : (1 ≤ (n + 1) / 8 % 26 ∧ (n + 1) / 8 % 26 ≤ 24) then
              if h5 : 200 ≤ (n + 1) then
                False.elim (by have hN : n + 1 < 208 := lt_of_lt_of_eq hn (show cfg0.N = 208 from N_0); omega)
              else
                (out0_E_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
            else
              False.elim (by have hN : n + 1 < 208 := lt_of_lt_of_eq hn (show cfg0.N = 208 from N_0); omega)
      else
        if h3 : (n + 1) < 8 then
          False.elim (by have hN : n + 1 < 208 := lt_of_lt_of_eq hn (show cfg0.N = 208 from N_0); omega)
        else
          if h4 : (1 ≤ (n + 1) / 8 % 26 ∧ (n + 1) / 8 % 26 ≤ 24) then
            if h5 : 200 ≤ (n + 1) then
              False.elim (by have hN : n + 1 < 208 := lt_of_lt_of_eq hn (show cfg0.N = 208 from N_0); omega)
            else
              (out0_F_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_F_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_F_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_F_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_F_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
          else
            if h5 : 200 ≤ (n + 1) then
              (out0_G_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_G_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_G_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_G_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_G_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
            else
              False.elim (by have hN : n + 1 < 208 := lt_of_lt_of_eq hn (show cfg0.N = 208 from N_0); omega)

set_option maxHeartbeats 4000000 in
/-- `outsAt0` at a point of case A: that case's contents. -/
theorem outsAt0_A (c : Dev nD) (t : Fin cfg0.N) (h0 : t.val % 208 = 0) (h1 : t.val < 192) (h2 : t.val % 2 = 0) (h3 : t.val < 8) (h4 : ¬(1 ≤ t.val / 8 % 26 ∧ t.val / 8 % 26 ≤ 24)) (h5 : ¬200 ≤ t.val) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans ((dif_pos h2).trans ((dif_pos h3).trans ((dif_neg h4).trans ((dif_neg h5).trans rfl)))))

set_option maxHeartbeats 4000000 in
/-- `outsAt0` at a point of case B: that case's contents, over what the point before left. -/
theorem outsAt0_B (c : Dev nD) (t : Fin cfg0.N) (h0 : ¬t.val % 208 = 0) (h1 : t.val < 192) (h2 : ¬t.val % 2 = 0) (h3 : t.val < 8) (h4 : ¬(1 ≤ t.val / 8 % 26 ∧ t.val / 8 % 26 ≤ 24)) (h5 : ¬200 ≤ t.val) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2 (outsAt0 m c (t.val - 1) (Nat.lt_of_le_of_lt (Nat.sub_le _ _) t.isLt)).2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2 (outsAt0 m c (t.val - 1) (Nat.lt_of_le_of_lt (Nat.sub_le _ _) t.isLt)).2.2.2.1, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans ((dif_neg h5).trans rfl)))))

set_option maxHeartbeats 4000000 in
/-- `outsAt0` at a point of case C: that case's contents, over what the point before left. -/
theorem outsAt0_C (c : Dev nD) (t : Fin cfg0.N) (h0 : ¬t.val % 208 = 0) (h1 : t.val < 192) (h2 : t.val % 2 = 0) (h3 : t.val < 8) (h4 : ¬(1 ≤ t.val / 8 % 26 ∧ t.val / 8 % 26 ≤ 24)) (h5 : ¬200 ≤ t.val) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2 (outsAt0 m c (t.val - 1) (Nat.lt_of_le_of_lt (Nat.sub_le _ _) t.isLt)).2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2 (outsAt0 m c (t.val - 1) (Nat.lt_of_le_of_lt (Nat.sub_le _ _) t.isLt)).2.2.2.1, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_pos h2).trans ((dif_pos h3).trans ((dif_neg h4).trans ((dif_neg h5).trans rfl)))))

set_option maxHeartbeats 4000000 in
/-- `outsAt0` at a point of case D: that case's contents, over what the point before left. -/
theorem outsAt0_D (c : Dev nD) (t : Fin cfg0.N) (h0 : ¬t.val % 208 = 0) (h1 : t.val < 192) (h2 : t.val % 2 = 0) (h3 : ¬t.val < 8) (h4 : (1 ≤ t.val / 8 % 26 ∧ t.val / 8 % 26 ≤ 24)) (h5 : ¬200 ≤ t.val) :
    outsAt0 m c t.val t.isLt = (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_pos h2).trans ((dif_neg h3).trans ((dif_pos h4).trans ((dif_neg h5).trans rfl)))))

set_option maxHeartbeats 4000000 in
/-- `outsAt0` at a point of case E: that case's contents, over what the point before left. -/
theorem outsAt0_E (c : Dev nD) (t : Fin cfg0.N) (h0 : ¬t.val % 208 = 0) (h1 : t.val < 192) (h2 : ¬t.val % 2 = 0) (h3 : ¬t.val < 8) (h4 : (1 ≤ t.val / 8 % 26 ∧ t.val / 8 % 26 ≤ 24)) (h5 : ¬200 ≤ t.val) :
    outsAt0 m c t.val t.isLt = (out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_pos h4).trans ((dif_neg h5).trans rfl)))))

set_option maxHeartbeats 4000000 in
/-- `outsAt0` at a point of case F: that case's contents, over what the point before left. -/
theorem outsAt0_F (c : Dev nD) (t : Fin cfg0.N) (h0 : ¬t.val % 208 = 0) (h1 : ¬t.val < 192) (h3 : ¬t.val < 8) (h4 : (1 ≤ t.val / 8 % 26 ∧ t.val / 8 % 26 ≤ 24)) (h5 : ¬200 ≤ t.val) :
    outsAt0 m c t.val t.isLt = (out0_F_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_F_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_F_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_F_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h3).trans ((dif_pos h4).trans ((dif_neg h5).trans rfl))))

set_option maxHeartbeats 4000000 in
/-- `outsAt0` at a point of case G: that case's contents, over what the point before left. -/
theorem outsAt0_G (c : Dev nD) (t : Fin cfg0.N) (h0 : ¬t.val % 208 = 0) (h1 : ¬t.val < 192) (h3 : ¬t.val < 8) (h4 : ¬(1 ≤ t.val / 8 % 26 ∧ t.val / 8 % 26 ≤ 24)) (h5 : 200 ≤ t.val) :
    outsAt0 m c t.val t.isLt = (out0_G_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_G_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_G_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_G_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_G_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h3).trans ((dif_neg h4).trans ((dif_pos h5).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

end Cert.DgradIdeal.Gen

end
-- ==== Proof.DgFrame3.lean ====
/-
  The kernel's run over its grid, and its frame.
-/
module

public import proofs.«01_k».proof.Proof.DgFrame2

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The output windows this certificate FORGETS (9, 10, 11, 12, 13, 14, 15, 16): nothing reads what the kernel leaves in them, so nothing
    of it is named (Lib/Pipeline/Dat.lean `Dat.toRForget`). -/
def forgets0 : Fin 17 → Bool := fun w => w.val == 9 || w.val == 10 || w.val == 11 || w.val == 12 || w.val == 13 || w.val == 14 || w.val == 15 || w.val == 16
theorem forgets0_8 : forgets0 (8 : Fin 17) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 56000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 208 := lt_of_lt_of_eq t.isLt (show cfg0.N = 208 from N_0)
  by_cases h0 : t.val % 208 = 0
  · by_cases h1 : t.val < 192
    · by_cases h2 : t.val % 2 = 0
      · by_cases h3 : t.val < 8
        · by_cases h4 : (1 ≤ t.val / 8 % 26 ∧ t.val / 8 % 26 ≤ 24)
          · exfalso; omega
          · by_cases h5 : 200 ≤ t.val
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [Dat.leavesExact_idle (dats m 0 c) 8 t (idleAt0_8_A t ((hcond0_0 t).mpr h0) ((hcond0_1 t).mpr h1) ((hcond0_2 t).mpr h2) ((hcond0_3 t).mpr h3) (fun h => h4 ((hcond0_4 t).mp h)) (fun h => h5 ((hcond0_5 t).mp h))) (noFlush0_8_A t ((hcond0_0 t).mpr h0) ((hcond0_1 t).mpr h1) ((hcond0_2 t).mpr h2) ((hcond0_3 t).mpr h3) (fun h => h4 ((hcond0_4 t).mp h)) (fun h => h5 ((hcond0_5 t).mp h)))]
              by_cases hz : t.val = 0
              · rw [PhiS_castSucc m c t, PhiS_zero m c _ _ hz, PhiA0_eq]
                rw [outsAt0_A m c t h0 h1 h2 h3 h4 h5]
                unfold sout0_A_0 sout0_A_1 sout0_A_2 sout0_A_3; (try dsimp only)
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
                iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t)).2.2.2.2.2 _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [H10]; · iexists _; iexact H10
                isplitl [H11]; · iexists _; iexact H11
                isplitl [H12]; · iexists _; iexact H12
                isplitl [H13]; · iexists _; iexact H13
                isplitl [H14]; · iexists _; iexact H14
                isplitl [H15]; · iexists _; iexact H15
                isplitl [H16]; · iexists _; iexact H16
                isplitl [HS0]; · iexact HS0
                isplitl [HS1]; · iexact HS1
                isplitl [HS2]; · iexact HS2
                isplitl [HS3]; · iexact HS3
                iintro ⟨H0, H1, H2, H3, H4, H5, H6, H7, H8, H9, H10, H11, H12, H13, H14, H15, H16, ⟨%es0, HS0⟩, ⟨%es1, HS1⟩, ⟨%es2, HS2⟩, ⟨%es3, HS3⟩⟩
                isplitl [HS0 HS1 HS2 HS3 Hg]
                · isplitl [HS0 HS1 HS2 HS3]
                  · isplitl [HS0]
                    · unfold owns; iexists _; isplitr
                      swap; · iexact HS0
                      ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _)
                    isplitl [HS1]
                    · unfold owns; iexists _; isplitr
                      swap; · iexact HS1
                      ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _)
                    isplitl [HS2]
                    · unfold owns; iexists _; isplitr
                      swap; · iexact HS2
                      ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _)
                    unfold owns; iexists _; isplitr
                    swap; · iexact HS3
                    ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _)
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexists _; iexact H8
                isplitl [H9]; · iexact H9
                isplitl [H10]; · iexact H10
                isplitl [H11]; · iexact H11
                isplitl [H12]; · iexact H12
                isplitl [H13]; · iexact H13
                isplitl [H14]; · iexact H14
                isplitl [H15]; · iexact H15
                iexact H16
              · exfalso; have hN : t.val < 208 := lt_of_lt_of_eq t.isLt (show cfg0.N = 208 from N_0); omega
        · exfalso; omega
      · exfalso; omega
    · exfalso; omega
  · by_cases h1 : t.val < 192
    · by_cases h2 : t.val % 2 = 0
      · by_cases h3 : t.val < 8
        · by_cases h4 : (1 ≤ t.val / 8 % 26 ∧ t.val / 8 % 26 ≤ 24)
          · exfalso; omega
          · by_cases h5 : 200 ≤ t.val
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [Dat.leavesExact_idle (dats m 0 c) 8 t (idleAt0_8_C t (fun h => h0 ((hcond0_0 t).mp h)) ((hcond0_1 t).mpr h1) ((hcond0_2 t).mpr h2) ((hcond0_3 t).mpr h3) (fun h => h4 ((hcond0_4 t).mp h)) (fun h => h5 ((hcond0_5 t).mp h))) (noFlush0_8_C t (fun h => h0 ((hcond0_0 t).mp h)) ((hcond0_1 t).mpr h1) ((hcond0_2 t).mpr h2) ((hcond0_3 t).mpr h3) (fun h => h4 ((hcond0_4 t).mp h)) (fun h => h5 ((hcond0_5 t).mp h)))]
              by_cases hz : t.val = 0
              · exfalso; have hN : t.val < 208 := lt_of_lt_of_eq t.isLt (show cfg0.N = 208 from N_0); omega
              · rw [PhiS_castSucc m c t, PhiS_pos m c _ _ hz]
                rw [outsAt0_C m c t h0 h1 h2 h3 h4 h5]
                unfold sout0_C_0 sout0_C_1 sout0_C_2 sout0_C_3; (try dsimp only)
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
                iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) _ _).2.2.2.2.2 _ _ _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [H10]; · iexists _; iexact H10
                isplitl [H11]; · iexists _; iexact H11
                isplitl [H12]; · iexists _; iexact H12
                isplitl [H13]; · iexists _; iexact H13
                isplitl [H14]; · iexists _; iexact H14
                isplitl [H15]; · iexists _; iexact H15
                isplitl [H16]; · iexists _; iexact H16
                isplitl [HS0]; · iexact HS0
                isplitl [HS1]; · iexact HS1
                isplitl [HS2]; · iexact HS2
                isplitl [HS3]; · iexact HS3
                iintro ⟨H0, H1, H2, H3, H4, H5, H6, H7, H8, H9, H10, H11, H12, H13, H14, H15, H16, HS0, HS1, HS2, HS3⟩
                isplitl [HS0 HS1 HS2 HS3 Hg]
                · isplitl [HS0 HS1 HS2 HS3]
                  · isplitl [HS0]
                    · unfold owns; iexists _; isplitr
                      swap; · iexact HS0
                      ipureintro; rfl
                    isplitl [HS1]
                    · iexact HS1
                    isplitl [HS2]
                    · unfold owns; iexists _; isplitr
                      swap; · iexact HS2
                      ipureintro; rfl
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexists _; iexact H8
                isplitl [H9]; · iexact H9
                isplitl [H10]; · iexact H10
                isplitl [H11]; · iexact H11
                isplitl [H12]; · iexact H12
                isplitl [H13]; · iexact H13
                isplitl [H14]; · iexact H14
                isplitl [H15]; · iexact H15
                iexact H16
        · by_cases h4 : (1 ≤ t.val / 8 % 26 ∧ t.val / 8 % 26 ≤ 24)
          · by_cases h5 : 200 ≤ t.val
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8_D t (fun h => h0 ((hcond0_0 t).mp h)) ((hcond0_1 t).mpr h1) ((hcond0_2 t).mpr h2) (fun h => h3 ((hcond0_3 t).mp h)) ((hcond0_4 t).mpr h4) (fun h => h5 ((hcond0_5 t).mp h))], after0_8]
              by_cases hz : t.val = 0
              · exfalso; have hN : t.val < 208 := lt_of_lt_of_eq t.isLt (show cfg0.N = 208 from N_0); omega
              · rw [PhiS_castSucc m c t, PhiS_pos m c _ _ hz]
                rw [outsAt0_D m c t h0 h1 h2 h3 h4 h5]
                unfold out0_D_8 sout0_D_0 sout0_D_1 sout0_D_2 sout0_D_3; (try dsimp only)
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
                iapply ((kernelRun0_D c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) _ _ _ _).2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexists _; iexact H8
                isplitl [H9]; · iexists _; iexact H9
                isplitl [H10]; · iexists _; iexact H10
                isplitl [H11]; · iexists _; iexact H11
                isplitl [H12]; · iexists _; iexact H12
                isplitl [H13]; · iexists _; iexact H13
                isplitl [H14]; · iexists _; iexact H14
                isplitl [H15]; · iexists _; iexact H15
                isplitl [H16]; · iexists _; iexact H16
                isplitl [HS0]; · iexact HS0
                isplitl [HS1]; · iexact HS1
                isplitl [HS2]; · iexact HS2
                isplitl [HS3]; · iexact HS3
                iintro ⟨H0, H1, H2, H3, H4, H5, H6, H7, ⟨%e8, H8⟩, H9, H10, H11, H12, H13, H14, H15, H16, HS0, HS1, HS2, HS3⟩
                isplitl [HS0 HS1 HS2 HS3 Hg]
                · isplitl [HS0 HS1 HS2 HS3]
                  · isplitl [HS0]
                    · unfold owns; iexists _; isplitr
                      swap; · iexact HS0
                      ipureintro; rfl
                    isplitl [HS1]
                    · unfold owns; iexists _; isplitr
                      swap; · iexact HS1
                      ipureintro; rfl
                    isplitl [HS2]
                    · unfold owns; iexists _; isplitr
                      swap; · iexact HS2
                      ipureintro; rfl
                    unfold owns; iexists _; isplitr
                    swap; · iexact HS3
                    ipureintro; rfl
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]
                · unfold owns; iexists _; isplitr
                  swap; · iexact H8
                  ipureintro; exact View.read_writes_of_cover _ _ _ _ _ (cover0_D_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [H9]; · iexact H9
                isplitl [H10]; · iexact H10
                isplitl [H11]; · iexact H11
                isplitl [H12]; · iexact H12
                isplitl [H13]; · iexact H13
                isplitl [H14]; · iexact H14
                isplitl [H15]; · iexact H15
                iexact H16
          · exfalso; omega
      · by_cases h3 : t.val < 8
        · by_cases h4 : (1 ≤ t.val / 8 % 26 ∧ t.val / 8 % 26 ≤ 24)
          · exfalso; omega
          · by_cases h5 : 200 ≤ t.val
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [Dat.leavesExact_idle (dats m 0 c) 8 t (idleAt0_8_B t (fun h => h0 ((hcond0_0 t).mp h)) ((hcond0_1 t).mpr h1) (fun h => h2 ((hcond0_2 t).mp h)) ((hcond0_3 t).mpr h3) (fun h => h4 ((hcond0_4 t).mp h)) (fun h => h5 ((hcond0_5 t).mp h))) (noFlush0_8_B t (fun h => h0 ((hcond0_0 t).mp h)) ((hcond0_1 t).mpr h1) (fun h => h2 ((hcond0_2 t).mp h)) ((hcond0_3 t).mpr h3) (fun h => h4 ((hcond0_4 t).mp h)) (fun h => h5 ((hcond0_5 t).mp h)))]
              by_cases hz : t.val = 0
              · exfalso; have hN : t.val < 208 := lt_of_lt_of_eq t.isLt (show cfg0.N = 208 from N_0); omega
              · rw [PhiS_castSucc m c t, PhiS_pos m c _ _ hz]
                rw [outsAt0_B m c t h0 h1 h2 h3 h4 h5]
                unfold sout0_B_0 sout0_B_1 sout0_B_2 sout0_B_3; (try dsimp only)
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
                iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) _ _).2.2.2.2.2 _ _ _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [H10]; · iexists _; iexact H10
                isplitl [H11]; · iexists _; iexact H11
                isplitl [H12]; · iexists _; iexact H12
                isplitl [H13]; · iexists _; iexact H13
                isplitl [H14]; · iexists _; iexact H14
                isplitl [H15]; · iexists _; iexact H15
                isplitl [H16]; · iexists _; iexact H16
                isplitl [HS0]; · iexact HS0
                isplitl [HS1]; · iexact HS1
                isplitl [HS2]; · iexact HS2
                isplitl [HS3]; · iexact HS3
                iintro ⟨H0, H1, H2, H3, H4, H5, H6, H7, H8, H9, H10, H11, H12, H13, H14, H15, H16, HS0, HS1, HS2, HS3⟩
                isplitl [HS0 HS1 HS2 HS3 Hg]
                · isplitl [HS0 HS1 HS2 HS3]
                  · isplitl [HS0]
                    · unfold owns; iexists _; isplitr
                      swap; · iexact HS0
                      ipureintro; rfl
                    isplitl [HS1]
                    · iexact HS1
                    isplitl [HS2]
                    · unfold owns; iexists _; isplitr
                      swap; · iexact HS2
                      ipureintro; rfl
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexists _; iexact H8
                isplitl [H9]; · iexact H9
                isplitl [H10]; · iexact H10
                isplitl [H11]; · iexact H11
                isplitl [H12]; · iexact H12
                isplitl [H13]; · iexact H13
                isplitl [H14]; · iexact H14
                isplitl [H15]; · iexact H15
                iexact H16
        · by_cases h4 : (1 ≤ t.val / 8 % 26 ∧ t.val / 8 % 26 ≤ 24)
          · by_cases h5 : 200 ≤ t.val
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8_E t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h))], after0_8]
              by_cases hz : t.val = 0
              · exfalso; have hN : t.val < 208 := lt_of_lt_of_eq t.isLt (show cfg0.N = 208 from N_0); omega
              · rw [PhiS_castSucc m c t, PhiS_pos m c _ _ hz]
                rw [outsAt0_E m c t h0 h1 h2 h3 h4 h5]
                unfold out0_E_8 sout0_E_0 sout0_E_1 sout0_E_2 sout0_E_3; (try dsimp only)
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
                iapply ((kernelRun0_E c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) _ _ _ _).2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexists _; iexact H8
                isplitl [H9]; · iexists _; iexact H9
                isplitl [H10]; · iexists _; iexact H10
                isplitl [H11]; · iexists _; iexact H11
                isplitl [H12]; · iexists _; iexact H12
                isplitl [H13]; · iexists _; iexact H13
                isplitl [H14]; · iexists _; iexact H14
                isplitl [H15]; · iexists _; iexact H15
                isplitl [H16]; · iexists _; iexact H16
                isplitl [HS0]; · iexact HS0
                isplitl [HS1]; · iexact HS1
                isplitl [HS2]; · iexact HS2
                isplitl [HS3]; · iexact HS3
                iintro ⟨H0, H1, H2, H3, H4, H5, H6, H7, ⟨%e8, H8⟩, H9, H10, H11, H12, H13, H14, H15, H16, HS0, HS1, HS2, HS3⟩
                isplitl [HS0 HS1 HS2 HS3 Hg]
                · isplitl [HS0 HS1 HS2 HS3]
                  · isplitl [HS0]
                    · unfold owns; iexists _; isplitr
                      swap; · iexact HS0
                      ipureintro; rfl
                    isplitl [HS1]
                    · unfold owns; iexists _; isplitr
                      swap; · iexact HS1
                      ipureintro; rfl
                    isplitl [HS2]
                    · unfold owns; iexists _; isplitr
                      swap; · iexact HS2
                      ipureintro; rfl
                    unfold owns; iexists _; isplitr
                    swap; · iexact HS3
                    ipureintro; rfl
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]
                · unfold owns; iexists _; isplitr
                  swap; · iexact H8
                  ipureintro; exact View.read_writes_of_cover _ _ _ _ _ (cover0_E_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [H9]; · iexact H9
                isplitl [H10]; · iexact H10
                isplitl [H11]; · iexact H11
                isplitl [H12]; · iexact H12
                isplitl [H13]; · iexact H13
                isplitl [H14]; · iexact H14
                isplitl [H15]; · iexact H15
                iexact H16
          · exfalso; omega
    · by_cases h3 : t.val < 8
      · exfalso; omega
      · by_cases h4 : (1 ≤ t.val / 8 % 26 ∧ t.val / 8 % 26 ≤ 24)
        · by_cases h5 : 200 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8_F t (fun h => h0 ((hcond0_0 t).mp h)) (fun h => h1 ((hcond0_1 t).mp h)) (fun h => h3 ((hcond0_3 t).mp h)) ((hcond0_4 t).mpr h4) (fun h => h5 ((hcond0_5 t).mp h))], after0_8]
            by_cases hz : t.val = 0
            · exfalso; have hN : t.val < 208 := lt_of_lt_of_eq t.isLt (show cfg0.N = 208 from N_0); omega
            · rw [PhiS_castSucc m c t, PhiS_pos m c _ _ hz]
              rw [outsAt0_F m c t h0 h1 h3 h4 h5]
              unfold out0_F_8 sout0_F_0 sout0_F_1 sout0_F_2 sout0_F_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_F c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) _ _ _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexists _; iexact H8
              isplitl [H9]; · iexists _; iexact H9
              isplitl [H10]; · iexists _; iexact H10
              isplitl [H11]; · iexists _; iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              isplitl [HS1]; · iexact HS1
              isplitl [HS2]; · iexact HS2
              isplitl [HS3]; · iexact HS3
              iintro ⟨H0, H1, H2, H3, H4, H5, H6, H7, ⟨%e8, H8⟩, H9, H10, H11, H12, H13, H14, H15, H16, HS0, HS1, HS2, HS3⟩
              isplitl [HS0 HS1 HS2 HS3 Hg]
              · isplitl [HS0 HS1 HS2 HS3]
                · isplitl [HS0]
                  · unfold owns; iexists _; isplitr
                    swap; · iexact HS0
                    ipureintro; rfl
                  isplitl [HS1]
                  · unfold owns; iexists _; isplitr
                    swap; · iexact HS1
                    ipureintro; rfl
                  isplitl [HS2]
                  · unfold owns; iexists _; isplitr
                    swap; · iexact HS2
                    ipureintro; rfl
                  unfold owns; iexists _; isplitr
                  swap; · iexact HS3
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]
              · unfold owns; iexists _; isplitr
                swap; · iexact H8
                ipureintro; exact View.read_writes_of_cover _ _ _ _ _ (cover0_F_8 c _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H9]; · iexact H9
              isplitl [H10]; · iexact H10
              isplitl [H11]; · iexact H11
              isplitl [H12]; · iexact H12
              isplitl [H13]; · iexact H13
              isplitl [H14]; · iexact H14
              isplitl [H15]; · iexact H15
              iexact H16
        · by_cases h5 : 200 ≤ t.val
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8_G t (fun h => h0 ((hcond0_0 t).mp h)) (fun h => h1 ((hcond0_1 t).mp h)) (fun h => h3 ((hcond0_3 t).mp h)) (fun h => h4 ((hcond0_4 t).mp h)) ((hcond0_5 t).mpr h5)], after0_8]
            by_cases hz : t.val = 0
            · exfalso; have hN : t.val < 208 := lt_of_lt_of_eq t.isLt (show cfg0.N = 208 from N_0); omega
            · rw [PhiS_castSucc m c t, PhiS_pos m c _ _ hz]
              rw [outsAt0_G m c t h0 h1 h3 h4 h5]
              unfold out0_G_8 sout0_G_0 sout0_G_1 sout0_G_2 sout0_G_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_G c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) _ _ _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexists _; iexact H8
              isplitl [H9]; · iexists _; iexact H9
              isplitl [H10]; · iexists _; iexact H10
              isplitl [H11]; · iexists _; iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              isplitl [HS1]; · iexact HS1
              isplitl [HS2]; · iexact HS2
              isplitl [HS3]; · iexact HS3
              iintro ⟨H0, H1, H2, H3, H4, H5, H6, H7, ⟨%e8, H8⟩, H9, H10, H11, H12, H13, H14, H15, H16, HS0, HS1, HS2, HS3⟩
              isplitl [HS0 HS1 HS2 HS3 Hg]
              · isplitl [HS0 HS1 HS2 HS3]
                · isplitl [HS0]
                  · iexact HS0
                  isplitl [HS1]
                  · iexact HS1
                  isplitl [HS2]
                  · iexact HS2
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]
              · unfold owns; iexists _; isplitr
                swap; · iexact H8
                ipureintro; exact View.read_writes_of_cover _ _ _ _ _ (cover0_G_8 c _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [H9]; · iexact H9
              isplitl [H10]; · iexact H10
              isplitl [H11]; · iexact H11
              isplitl [H12]; · iexact H12
              isplitl [H13]; · iexact H13
              isplitl [H14]; · iexact H14
              isplitl [H15]; · iexact H15
              iexact H16
          · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 208 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 9, 10, 11, 12, 13, 14, 15, 16) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_DgradIdeal`'s statement (Defs.lean) at any `F` — Proof.lean cites it at `Bits`:
    `theorem Cert.Proof.claim : Cert.Claim := ⟨Cert.DgradIdeal.Gen.facts, fun m ρ _ => Cert.DgradIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.DgradIdeal.Gen

end
-- ==== Proof.DgSpec.lean ====
/-
  The input gradient as a formula: the inverse root mean square of a token, the output gradient quantised in groups of 128
  and widened again, its product with the widened weights, and the gradient of the normalisation.
-/
module

public import proofs.«01_k».proof.Proof.Gen.DgradIdeal.Skeleton
public import Idealize.ShloMosaic.Lib.Pointwise
public import Idealize.ShloMosaic.Lib.MatmulPlain
public import Idealize.ShloMosaic.Lib.ValueIdx

@[expose] public section

set_option maxRecDepth 16384

noncomputable section

namespace Cert.DgradIdeal.Dgrad

open Cert.DgradIdeal Cert.DgradIdeal.Gen Idealize.ShloMosaic Idealize.ShloMosaic.TcCoe Idealize.SL.Sem
open scoped BigOperators

/-- The group's largest absolute value over the largest code. -/
def ratio (f : Fin 128 → EReal) : EReal :=
  Finset.fold max (Ideal.ofBits .f32 0xFF800000#32) (fun u => FloatOps.absf (F := Ideal) (φ := .bf16) (f u)) Finset.univ
    * Ideal.ofBits .f32 0x37924925#32

/-- The exponent of the group's scale: the next power of two above the ratio, zero for a group of zeros. -/
def expo (f : Fin 128 → EReal) : EReal :=
  if ratio f = 0 then 0 else
    Ideal.liftRound Int.floor (Ideal.div (Ideal.log (ratio f)) (Ideal.log (Ideal.ofBits .f32 0x40000000#32))) + 1

/-- The `l`-th entry of a group, quantised by the group's scale and widened again. -/
def quant (f : Fin 128 → EReal) (l : Fin 128) : EReal :=
  min (Ideal.ofBits .f32 0x47600000#32) (max (Ideal.ofBits .f32 0xC7600000#32)
    (f l * FloatOps.exp2 (F := Ideal) (φ := .f32) (0 - expo f))) * FloatOps.exp2 (F := Ideal) (φ := .f32) (expo f)

/-- The inverse root mean square of a row of 4096. -/
def rms (f : Fin 4096 → EReal) : EReal :=
  Ideal.rsqrt ((∑ q, f q * f q) * Ideal.ofBits .f32 0x39800000#32 + Ideal.ofBits .f32 0x358637BD#32)

variable (X : Vec Ideal S12288x4096 .bf16) (Γ : Vec Ideal S1x4096 .f32) (W : Vec Ideal S4096x11008 .fp8e4m3)
  (S : Vec Ideal S32x86 .f32) (D : Vec Ideal S12288x11008 .bf16)

/-- The quantised output gradient. -/
def dyq (R : Fin 12288) (o : Fin 11008) : EReal :=
  quant (fun u : Fin 128 => D (ix2 R (⟨128 * (o.val / 128) + u.val, by omega⟩ : Fin 11008))) ⟨o.val % 128, by omega⟩

/-- The widened weights. -/
def wide (C : Fin 4096) (o : Fin 11008) : EReal :=
  (W (ix2 C o) : EReal) * S (ix2 (⟨C.val / 128, by omega⟩ : Fin 32) (⟨o.val / 128, by omega⟩ : Fin 86))

/-- The gradient of the normalised input times gamma. -/
def dxn (R : Fin 12288) (C : Fin 4096) : EReal := ∑ o : Fin 11008, dyq D R o * wide W S C o

def rr (R : Fin 12288) : EReal := rms fun q => X (ix2 R q)

/-- One column's share of the row's mean. -/
def share (R : Fin 12288) (C : Fin 4096) : EReal :=
  (dxn W S D R C * ((X (ix2 R C) : EReal) * rr X R)) * Γ (ix2 0 C)

def mean (R : Fin 12288) : EReal := (∑ C : Fin 4096, share X Γ W S D R C) * Ideal.ofBits .f32 0x39800000#32

/-- The input gradient. -/
def dx : Vec Ideal S12288x4096 .bf16 := fun i =>
  rr X (i 0) * (dxn W S D (i 0) (i 1) * Γ (ix2 0 (i 1)) - ((X (ix2 (i 0) (i 1)) : EReal) * rr X (i 0)) * mean X Γ W S D (i 0))

/-- A group's quantised values as the body computes them. -/
def dyb {F : FTy → Type} [FloatOps F] (v : Vec F S128x128 .bf16) : FVec F S1x128x128 .bf16 := k0_pay16 v (k0_pay13 v) (k0_pay14 v)

theorem pay13_apply (v : Vec Ideal S128x128 .bf16) (r : Fin 128) : k0_pay13 v (ix2 r 0) = expo fun u => v (ix2 r u) := by
  unfold k0_pay13 k0_pay12
  pointwise
  rfl

theorem dyb_apply (v : Vec Ideal S128x128 .bf16) (r l : Fin 128) : dyb v (ix3 0 r l) = quant (fun u => v (ix2 r u)) l := by
  unfold dyb k0_pay16 k0_pay15 k0_pay14
  pointwise
  rw [pay13_apply]
  rfl

end Cert.DgradIdeal.Dgrad

end
-- ==== Proof.DgPieces.lean ====
/-
  What one grid point writes, as lists by recursion: the quantised blocks of the output gradient, the row factors, the
  accumulated product over the 43 column chunks, its eight row slices, the row sums and the finished block.
-/
module

public import proofs.«01_k».proof.Proof.DgSpec
public import Idealize.ShloMosaic.Lib.WritesUnit
public import Idealize.ShloMosaic.Lib.WholeRead

@[expose] public section

set_option maxRecDepth 16384

noncomputable section

namespace Cert.DgradIdeal.Dgrad

open Cert.DgradIdeal Cert.DgradIdeal.Gen Idealize.ShloMosaic Idealize.ShloMosaic.TcCoe Idealize.SL.Sem

/-! ### Where things are read and written -/

/-- Slot `m + a` of the row factors, row slice `s`. -/
def rOff (i : grid0.Coords) (a s : Nat) : Fin 3 → Nat :=
  ![(Scalar.indexCast (Scalar.remsi (Scalar.addi (BitVec.ofNat 32 (i 0).val) (BitVec.ofNat 32 a)) 3#32)).toNat, 64 * s, 0]

/-- The slot of the row sums being read out, row slice `s`. -/
def cOff (i : grid0.Coords) (s : Nat) : Fin 3 → Nat :=
  ![(Scalar.indexCast (Scalar.remsi (BitVec.ofNat 32 (i 0).val) 2#32)).toNat, 64 * s, 0]

/-- The slot of the row sums being added to, row slice `s`. -/
def eOff (i : grid0.Coords) (s : Nat) : Fin 3 → Nat :=
  ![(Scalar.indexCast (Scalar.remsi (Scalar.addi (BitVec.ofNat 32 (i 0).val) 1#32) 2#32)).toNat, 64 * s, 0]

/-- The product's block `j`, row slice `s`. -/
def nOff (i : grid0.Coords) (s : Nat) : Fin 3 → Nat := ![(Scalar.indexCast (BitVec.ofNat 32 (i 1).val)).toNat, 64 * s, 0]

/-- The quantised output gradient of the block before, column chunk `k`. -/
def qOff (i : grid0.Coords) (k : Nat) : Fin 3 → Nat :=
  ![(Scalar.indexCast (Scalar.remsi (Scalar.addi (BitVec.ofNat 32 (i 0).val) 1#32) 2#32)).toNat, 0, 256 * k]

/-- The weight scale of row group `a` and column group `c`. -/
def sOff (i : grid0.Coords) (a c : Nat) : Fin 2 → Nat :=
  ![(Scalar.indexCast (Scalar.addi (Scalar.muli 4#32 (BitVec.ofNat 32 (i 1).val)) (BitVec.ofNat 32 a))).toNat, c]

/-- Where block `n` of the quantised output gradient goes. -/
def dOff (i : grid0.Coords) (n : Nat) : Fin 3 → Nat := k0_off3 i (BitVec.ofNat 32 (128 * n))

/-- All of these lie inside the arrays they index. -/
structure Inb (i : grid0.Coords) : Prop where
  r : ∀ a < 3, ∀ s < 8, ∀ x, rOff i a s x + S1x64x128.size x ≤ S3x512x128.size x
  c : ∀ s < 8, ∀ x, cOff i s x + S1x64x128.size x ≤ S2x512x128.size x
  e : ∀ s < 8, ∀ x, eOff i s x + S1x64x128.size x ≤ S2x512x128.size x
  n : ∀ s < 8, ∀ x, nOff i s x + S1x64x512.size x ≤ S8x512x512.size x
  q : ∀ k < 43, ∀ x, qOff i k x + S1x512x256.size x ≤ S2x512x11008.size x
  s : ∀ a < 4, ∀ c < 86, ∀ x, sOff i a c x + S1x1.size x ≤ S32x86.size x
  d : ∀ n < 43, ∀ x, dOff i n x + S1x128x128.size x ≤ S2x512x11008.size x
  g : ∀ x, k0_off2 i x + S1x128x128.size x ≤ S3x512x128.size x

theorem inbV (n : Nat) (hn : n < 43) : ∀ a, (![0, 128 * n] : Fin 2 → Nat) a + S128x128.size a ≤ S128x5504.size a := by
  intro a
  match a with
  | ⟨0, _⟩ => show 0 + 128 ≤ 128; omega
  | ⟨1, _⟩ => show 128 * n + 128 ≤ 5504; omega

theorem inbX (n : Nat) (hn : n < 32) : ∀ a, (![0, 128 * n] : Fin 2 → Nat) a + S128x128.size a ≤ S128x4096.size a := by
  intro a
  match a with
  | ⟨0, _⟩ => show 0 + 128 ≤ 128; omega
  | ⟨1, _⟩ => show 128 * n + 128 ≤ 4096; omega

theorem inbW (a c : Nat) (ha : a < 4) (hc : c < 86) :
    ∀ x, (![128 * a, 128 * c] : Fin 2 → Nat) x + S128x128.size x ≤ S512x11008.size x := by
  intro x
  match x with
  | ⟨0, _⟩ => show 128 * a + 128 ≤ 512; omega
  | ⟨1, _⟩ => show 128 * c + 128 ≤ 11008; omega

theorem inbR (s : Nat) (hs : s < 8) : ∀ x, (![64 * s, 0] : Fin 2 → Nat) x + S64x512.size x ≤ S512x512.size x := by
  intro x
  match x with
  | ⟨0, _⟩ => show 64 * s + 64 ≤ 512; omega
  | ⟨1, _⟩ => show 0 + 512 ≤ 512; omega

theorem slicesR (s : Nat) (hs : s < 8) : S512x512.Slices ![64 * s, 0] S64x512 := ⟨rfl, inbR s hs⟩

theorem inbG : ∀ x, (![0, 0] : Fin 2 → Nat) x + S1x512.size x ≤ S1x512.size x := by decide

section
variable {F : FTy → Type} [FloatOps F]

/-! ### The quantised blocks and the row factors -/

variable (i : grid0.Coords) (hi : Inb i) (a2 : Memref sig .tc .vmem S128x5504 .bf16) (h2 : a2.IsWhole) (x0 : Vec F S128x5504 .bf16)

/-- A quantised block. -/
def dPay (n : Fin 43) : FVec F S1x128x128 .bf16 :=
  dyb (View.readAt (Elt F) a2.view (Rect.unit (s := S128x5504) ![0, 128 * n.val] S128x128.size (inbV n.val n.isLt)).toLoadRect (h2.unread x0))

/-- The first `n` quantised blocks, the last one first. -/
def dyPieces (n : Nat) (h : n ≤ 43) : List (View.Piece (Elt F) S2x512x11008 .bf16) :=
  View.tilePieces (s := S2x512x11008) S1x128x128.size (fun n : Fin 43 => dOff i n.val) (fun n => hi.d n.val n.isLt) (dPay a2 h2 x0) n h

variable (a3 : Memref sig .tc .vmem S128x4096 .bf16) (h3 : a3.IsWhole) (x1 : Vec F S128x4096 .bf16)

/-- The sum of the squares of the first `n` column groups. -/
def squares : (n : Nat) → n ≤ 32 → FVec F S128x128 .f32
  | 0, _ => broadcast S128x128 (Scalar.ofBits .f32 0x00000000#32)
  | n + 1, h =>
    let x : FVec F S128x128 .f32 := extf .f32 (View.readAt (Elt F) a3.view (Rect.unit (s := S128x4096) ![0, 128 * n] S128x128.size (inbX n (by omega))).toLoadRect (h3.unread x1)) bitsLt_bf16_f32
    addf (squares n (by omega)) (mulf x x)

/-- The row factors of a group of rows. -/
def rowPay : FVec F S1x128x128 .f32 :=
  k0_pay630 (multiReduction .add [1] S128 (squares a3 h3 x1 32 (le_refl _)) 0x00000000#32 reduces_S128x128_S128 (.inl rfl) rfl)

def rPiece : View.Piece (Elt F) S3x512x128 .f32 := ⟨Rect.unit (k0_off2 i) S1x128x128.size hi.g, rowPay a3 h3 x1⟩

/-! ### The product -/

variable (a8 : Memref sig .tc .vmem S512x11008 .fp8e4m3) (h8 : a8.IsWhole) (x6 : Vec F S512x11008 .fp8e4m3)
  (a9 : Memref sig .tc .smem S32x86 .f32) (h9 : a9.IsWhole) (x7 : Vec F S32x86 .f32)
  (a19 : Memref sig .tc .vmem S2x512x11008 .bf16) (h19 : a19.IsWhole) (xs0 : Vec F S2x512x11008 .bf16)

/-- One widened block of the weights. -/
def wBlock (a c : Nat) (ha : a < 4) (hc : c < 86) : FVec F S128x128 .bf16 :=
  mulf (extf .bf16 (View.readAt (Elt F) a8.view (Rect.unit (s := S512x11008) ![128 * a, 128 * c] S128x128.size (inbW a c ha hc)).toLoadRect (h8.unread x6)) bitsLt_fp8e4m3_bf16)
    (broadcast S128x128 (Scalar.truncf .bf16 bitsLt_bf16_f32
      (View.readAt (Elt F) a9.view (Rect.unit (s := S32x86) (sOff i a c) S1x1.size (hi.s a ha c hc)).toLoadRect (h9.unread x7) (Shape.Idx.first (show 0 < (S1x1).numel by decide)))))

/-- A row group's two widened blocks of a chunk. -/
def wPair (a k : Nat) (ha : a < 4) (hk : k < 43) : FVec F S128x256 .bf16 :=
  concatenate S128x256 1 [⟨S128x128, wBlock i hi a8 h8 x6 a9 h9 x7 a (2 * k) ha (by omega)⟩, ⟨S128x128, wBlock i hi a8 h8 x6 a9 h9 x7 a (2 * k + 1) ha (by omega)⟩]
    concatenates_S128x128_S128x128_S128x256_d1

/-- The widened weights of a chunk. -/
def wChunk (k : Nat) (hk : k < 43) : FVec F S512x256 .bf16 :=
  concatenate S512x256 0 [⟨S128x256, wPair i hi a8 h8 x6 a9 h9 x7 0 k (by omega) hk⟩, ⟨S128x256, wPair i hi a8 h8 x6 a9 h9 x7 1 k (by omega) hk⟩,
      ⟨S128x256, wPair i hi a8 h8 x6 a9 h9 x7 2 k (by omega) hk⟩, ⟨S128x256, wPair i hi a8 h8 x6 a9 h9 x7 3 k (by omega) hk⟩]
    concatenates_S128x256_S128x256_S128x256_S128x256_S512x256_d0

/-- The quantised output gradient's columns of a chunk, read after `k` blocks of the next one were written. -/
def qChunk (k : Nat) (hk : k < 43) : FVec F S512x256 .bf16 :=
  shapeCast S512x256 (View.readAt (Elt F) a19.view (Rect.unit (s := S2x512x11008) (qOff i k) S1x512x256.size (hi.q k hk)).toLoadRect
    (a19.view.writes (Elt F) (h19.unread xs0) (dyPieces i hi a2 h2 x0 k (by omega)))) shapeCasts_S1x512x256_S512x256

def prod (k : Nat) (hk : k < 43) : FVec F S512x512 .f32 :=
  matmul dot_S512x256_S512x256_S512x512_1_1_0_0_n_n none (qChunk i hi a2 h2 x0 a19 h19 xs0 k hk) (wChunk i hi a8 h8 x6 a9 h9 x7 k hk)
    (constant S512x512 .f32 0x00000000#32)

/-- The product over the chunks up to `n`. -/
def acc : (n : Nat) → n < 43 → FVec F S512x512 .f32
  | 0, h => prod i hi a2 h2 x0 a8 h8 x6 a9 h9 x7 a19 h19 xs0 0 h
  | n + 1, h => addf (acc n (by omega)) (prod i hi a2 h2 x0 a8 h8 x6 a9 h9 x7 a19 h19 xs0 (n + 1) h)

end

section
variable {F : FTy → Type} [FloatOps F] (i : grid0.Coords) (hi : Inb i)

/-! ### What is made of the product -/

def nPay (p : FVec F S512x512 .f32) (n : Fin 8) : FVec F S1x64x512 .f32 :=
  shapeCast S1x64x512 (extractStridedSlice S64x512 ![64 * n.val, 0] p (slicesR n.val n.isLt)) shapeCasts_S64x512_S1x64x512

/-- The product's row slices. -/
def nPieces (p : FVec F S512x512 .f32) : List (View.Piece (Elt F) S8x512x512 .f32) :=
  View.tilePieces (s := S8x512x512) S1x64x512.size (fun n : Fin 8 => nOff i n.val) (fun n => hi.n n.val n.isLt) (nPay p) 8 (le_refl _)

/-- A slice of the product times the normalised input times gamma. -/
def share3 (v : FVec F S64x512 .f32) (r : Vec F S1x64x128 .f32) (x : Vec F S64x512 .bf16) (g : Vec F S1x512 .f32) : FVec F S64x512 .f32 :=
  mulf (mulf v (mulf (extf .f32 x bitsLt_bf16_f32)
    (broadcastTo S64x512 (extractStridedSlice S64x1 ![0, 0] (shapeCast S64x128 r shapeCasts_S1x64x128_S64x128 : FVec F S64x128 .f32) slices_S64x128_o0_0_S64x1 : FVec F S64x1 .f32) broadcasts_S64x1_S64x512)))
    (broadcastTo S64x512 g broadcasts_S1x512_S64x512)

/-- The row sums after adding a slice's four column groups. -/
def sumPay (v : FVec F S64x512 .f32) (old : Vec F S1x64x128 .f32) : FVec F S1x64x128 .f32 :=
  shapeCast S1x64x128 (addf (Scalar.select (Scalar.cmpi .eq (BitVec.ofNat 32 (i 1).val) 0#32) (broadcast S64x128 (Scalar.ofBits .f32 0x00000000#32))
      (shapeCast S64x128 old shapeCasts_S1x64x128_S64x128 : FVec F S64x128 .f32))
    (addf (addf (addf (extractStridedSlice S64x128 ![0, 0] v slices_S64x512_o0_0_S64x128) (extractStridedSlice S64x128 ![0, 128] v slices_S64x512_o0_128_S64x128))
      (extractStridedSlice S64x128 ![0, 256] v slices_S64x512_o0_256_S64x128)) (extractStridedSlice S64x128 ![0, 384] v slices_S64x512_o0_384_S64x128)) : FVec F S64x128 .f32)
    shapeCasts_S64x128_S1x64x128

variable (a4 : Memref sig .tc .vmem S512x512 .bf16) (h4 : a4.IsWhole) (x2 : Vec F S512x512 .bf16)
  (a6 : Memref sig .tc .vmem S1x512 .f32) (h6 : a6.IsWhole) (x4 : Vec F S1x512 .f32)
  (a21 : Memref sig .tc .vmem S3x512x128 .f32) (h21 : a21.IsWhole) (xs2 : Vec F S3x512x128 .f32)
  (a22 : Memref sig .tc .vmem S2x512x128 .f32) (h22 : a22.IsWhole) (xs3 : Vec F S2x512x128 .f32)

/-- A slice of the row sums; the row factors are read after the piece `rp` was written. -/
def sPay (rp : View.Piece (Elt F) S3x512x128 .f32) (p : FVec F S512x512 .f32) (n : Fin 8) : FVec F S1x64x128 .f32 :=
  sumPay i (share3 (extractStridedSlice S64x512 ![64 * n.val, 0] p (slicesR n.val n.isLt))
      (View.readAt (Elt F) a21.view (Rect.unit (s := S3x512x128) (rOff i 2 n.val) S1x64x128.size (hi.r 2 (by omega) n.val n.isLt)).toLoadRect
        (a21.view.writes (Elt F) (h21.unread xs2) [rp]))
      (View.readAt (Elt F) a4.view (Rect.unit (s := S512x512) ![64 * n.val, 0] S64x512.size (inbR n.val n.isLt)).toLoadRect (h4.unread x2))
      (View.readAt (Elt F) a6.view (Rect.unit (s := S1x512) ![0, 0] S1x512.size inbG).toLoadRect (h6.unread x4)))
    (View.readAt (Elt F) a22.view (Rect.unit (s := S2x512x128) (eOff i n.val) S1x64x128.size (hi.e n.val n.isLt)).toLoadRect (h22.unread xs3))

def sPieces (rp : View.Piece (Elt F) S3x512x128 .f32) (p : FVec F S512x512 .f32) : List (View.Piece (Elt F) S2x512x128 .f32) :=
  View.tilePieces (s := S2x512x128) S1x64x128.size (fun n : Fin 8 => eOff i n.val) (fun n => hi.e n.val n.isLt)
    (sPay i hi a4 h4 x2 a6 h6 x4 a21 h21 xs2 a22 h22 xs3 rp p) 8 (le_refl _)

variable (a5 : Memref sig .tc .vmem S512x512 .bf16) (h5 : a5.IsWhole) (x3 : Vec F S512x512 .bf16)
  (a20 : Memref sig .tc .vmem S8x512x512 .f32) (h20 : a20.IsWhole) (xs1 : Vec F S8x512x512 .f32)

/-- A slice of the finished block. -/
def oPay (n : Fin 8) : FVec F S64x512 .bf16 :=
  k0_pay3 (View.readAt (Elt F) a21.view (Rect.unit (s := S3x512x128) (rOff i 1 n.val) S1x64x128.size (hi.r 1 (by omega) n.val n.isLt)).toLoadRect (h21.unread xs2))
    (View.readAt (Elt F) a22.view (Rect.unit (s := S2x512x128) (cOff i n.val) S1x64x128.size (hi.c n.val n.isLt)).toLoadRect (h22.unread xs3))
    (View.readAt (Elt F) a5.view (Rect.unit (s := S512x512) ![64 * n.val, 0] S64x512.size (inbR n.val n.isLt)).toLoadRect (h5.unread x3))
    (View.readAt (Elt F) a20.view (Rect.unit (s := S8x512x512) (nOff i n.val) S1x64x512.size (hi.n n.val n.isLt)).toLoadRect (h20.unread xs1))
    (View.readAt (Elt F) a6.view (Rect.unit (s := S1x512) ![0, 0] S1x512.size inbG).toLoadRect (h6.unread x4))

def oPieces : List (View.Piece (Elt F) S512x512 .bf16) :=
  View.tilePieces (s := S512x512) S64x512.size (fun n : Fin 8 => ![64 * n.val, 0]) (fun n => inbR n.val n.isLt)
    (oPay i hi a6 h6 x4 a21 h21 xs2 a22 h22 xs3 a5 h5 x3 a20 h20 xs1) 8 (le_refl _)

end

end Cert.DgradIdeal.Dgrad

end
-- ==== Proof.DgRun.lean ====
/-
  What each case leaves, as the lists of pieces: all cases of one branch write the same lists.
-/
module

public import proofs.«01_k».proof.Proof.DgFrame1
public import proofs.«01_k».proof.Proof.DgPieces

@[expose] public section

-- membership in a rectangle of production extents (`View.cover_of_tiled`): the elaborator's structural look
-- recurses once per coordinate of the long axes
set_option maxRecDepth 16384

noncomputable section

namespace Cert.DgradIdeal.Dgrad

open Cert.DgradIdeal Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem run_A {c : Dev nD} {i : grid0.Coords} {arg2 : Memref sig .tc .vmem S128x5504 .bf16} {harg2 : arg2.IsWhole} {arg3 : Memref sig .tc .vmem S128x4096 .bf16} {harg3 : arg3.IsWhole} {arg4 : Memref sig .tc .vmem S512x512 .bf16} {harg4 : arg4.IsWhole} {arg5 : Memref sig .tc .vmem S512x512 .bf16} {harg5 : arg5.IsWhole} {arg6 : Memref sig .tc .vmem S1x512 .f32} {harg6 : arg6.IsWhole} {arg7 : Memref sig .tc .vmem S1x2048 .f32} {harg7 : arg7.IsWhole} {arg8 : Memref sig .tc .vmem S512x11008 .fp8e4m3} {harg8 : arg8.IsWhole} {arg9 : Memref sig .tc .smem S32x86 .f32} {harg9 : arg9.IsWhole} {arg10 : Memref sig .tc .vmem S512x512 .bf16} {harg10 : arg10.IsWhole} {arg11 : Memref sig .tc .vmem S1x4096 .f32} {harg11 : arg11.IsWhole} {arg12 : Memref sig .tc .vmem S128x2048 .fp8e4m3} {harg12 : arg12.IsWhole} {arg13 : Memref sig .tc .vmem S8x4096 .f32} {harg13 : arg13.IsWhole} {arg14 : Memref sig .tc .vmem S128x5504 .fp8e5m2} {harg14 : arg14.IsWhole} {arg15 : Memref sig .tc .vmem S128x86 .f32} {harg15 : arg15.IsWhole} {arg16 : Memref sig .tc .vmem S128x5504 .fp8e5m2} {harg16 : arg16.IsWhole} {arg17 : Memref sig .tc .vmem S8x11008 .f32} {harg17 : arg17.IsWhole} {arg18 : Memref sig .tc .vmem S2048x128 .bf16} {harg18 : arg18.IsWhole} {arg19 : Memref sig .tc .vmem S2x512x11008 .bf16} {harg19 : arg19.IsWhole} {arg20 : Memref sig .tc .vmem S8x512x512 .f32} {harg20 : arg20.IsWhole} {arg21 : Memref sig .tc .vmem S3x512x128 .f32} {harg21 : arg21.IsWhole} {arg22 : Memref sig .tc .vmem S2x512x128 .f32} {harg22 : arg22.IsWhole} {hc0 : cond0_0 i} {hc1 : cond0_1 i} {hc2 : cond0_2 i} {hc3 : cond0_3 i} {hc4 : ¬cond0_4 i} {hc5 : ¬cond0_5 i} {x0 : Vec F S128x5504 .bf16} {x1 : Vec F S128x4096 .bf16} {x2 : Vec F S512x512 .bf16} {x3 : Vec F S512x512 .bf16} {x4 : Vec F S1x512 .f32} {x5 : Vec F S1x2048 .f32} {x6 : Vec F S512x11008 .fp8e4m3} {x7 : Vec F S32x86 .f32} (hi : Inb i) :
    (∃ Z0 : VS0_0.ty.Contents (Elt F), sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 = VS0_0.read (Elt F) (VS0_0.writes (Elt F) Z0 (dyPieces i hi arg2 harg2 x0 43 (le_refl _))))
    ∧ (∃ Z2 : VS0_2.ty.Contents (Elt F), sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 = VS0_2.read (Elt F) (VS0_2.writes (Elt F) Z2 [(rPiece i hi arg3 harg3 x1)])) :=
  ⟨⟨View.writes _ (Elt F) (View.junk _) [_], by rfl⟩, ⟨View.writes _ (Elt F) (View.junk _) [_], by rfl⟩⟩

theorem run_B {c : Dev nD} {i : grid0.Coords} {arg2 : Memref sig .tc .vmem S128x5504 .bf16} {harg2 : arg2.IsWhole} {arg3 : Memref sig .tc .vmem S128x4096 .bf16} {harg3 : arg3.IsWhole} {arg4 : Memref sig .tc .vmem S512x512 .bf16} {harg4 : arg4.IsWhole} {arg5 : Memref sig .tc .vmem S512x512 .bf16} {harg5 : arg5.IsWhole} {arg6 : Memref sig .tc .vmem S1x512 .f32} {harg6 : arg6.IsWhole} {arg7 : Memref sig .tc .vmem S1x2048 .f32} {harg7 : arg7.IsWhole} {arg8 : Memref sig .tc .vmem S512x11008 .fp8e4m3} {harg8 : arg8.IsWhole} {arg9 : Memref sig .tc .smem S32x86 .f32} {harg9 : arg9.IsWhole} {arg10 : Memref sig .tc .vmem S512x512 .bf16} {harg10 : arg10.IsWhole} {arg11 : Memref sig .tc .vmem S1x4096 .f32} {harg11 : arg11.IsWhole} {arg12 : Memref sig .tc .vmem S128x2048 .fp8e4m3} {harg12 : arg12.IsWhole} {arg13 : Memref sig .tc .vmem S8x4096 .f32} {harg13 : arg13.IsWhole} {arg14 : Memref sig .tc .vmem S128x5504 .fp8e5m2} {harg14 : arg14.IsWhole} {arg15 : Memref sig .tc .vmem S128x86 .f32} {harg15 : arg15.IsWhole} {arg16 : Memref sig .tc .vmem S128x5504 .fp8e5m2} {harg16 : arg16.IsWhole} {arg17 : Memref sig .tc .vmem S8x11008 .f32} {harg17 : arg17.IsWhole} {arg18 : Memref sig .tc .vmem S2048x128 .bf16} {harg18 : arg18.IsWhole} {arg19 : Memref sig .tc .vmem S2x512x11008 .bf16} {harg19 : arg19.IsWhole} {arg20 : Memref sig .tc .vmem S8x512x512 .f32} {harg20 : arg20.IsWhole} {arg21 : Memref sig .tc .vmem S3x512x128 .f32} {harg21 : arg21.IsWhole} {arg22 : Memref sig .tc .vmem S2x512x128 .f32} {harg22 : arg22.IsWhole} {hc0 : ¬cond0_0 i} {hc1 : cond0_1 i} {hc2 : ¬cond0_2 i} {hc3 : cond0_3 i} {hc4 : ¬cond0_4 i} {hc5 : ¬cond0_5 i} {x0 : Vec F S128x5504 .bf16} {x1 : Vec F S128x4096 .bf16} {x2 : Vec F S512x512 .bf16} {x3 : Vec F S512x512 .bf16} {x4 : Vec F S1x512 .f32} {x5 : Vec F S1x2048 .f32} {x6 : Vec F S512x11008 .fp8e4m3} {x7 : Vec F S32x86 .f32} {xs1 : Vec F S8x512x512 .f32} {xs3 : Vec F S2x512x128 .f32} {xs0 : Vec F S2x512x11008 .bf16} {xs2 : Vec F S3x512x128 .f32} (hi : Inb i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3 xs0 = arg19.view.read (Elt F) (arg19.view.writes (Elt F) (harg19.unread xs0) (dyPieces i hi arg2 harg2 x0 43 (le_refl _)))
    ∧ sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3 xs2 = arg21.view.read (Elt F) (arg21.view.writes (Elt F) (harg21.unread xs2) [(rPiece i hi arg3 harg3 x1)]) :=
  ⟨by rfl, by rfl⟩

theorem run_C {c : Dev nD} {i : grid0.Coords} {arg2 : Memref sig .tc .vmem S128x5504 .bf16} {harg2 : arg2.IsWhole} {arg3 : Memref sig .tc .vmem S128x4096 .bf16} {harg3 : arg3.IsWhole} {arg4 : Memref sig .tc .vmem S512x512 .bf16} {harg4 : arg4.IsWhole} {arg5 : Memref sig .tc .vmem S512x512 .bf16} {harg5 : arg5.IsWhole} {arg6 : Memref sig .tc .vmem S1x512 .f32} {harg6 : arg6.IsWhole} {arg7 : Memref sig .tc .vmem S1x2048 .f32} {harg7 : arg7.IsWhole} {arg8 : Memref sig .tc .vmem S512x11008 .fp8e4m3} {harg8 : arg8.IsWhole} {arg9 : Memref sig .tc .smem S32x86 .f32} {harg9 : arg9.IsWhole} {arg10 : Memref sig .tc .vmem S512x512 .bf16} {harg10 : arg10.IsWhole} {arg11 : Memref sig .tc .vmem S1x4096 .f32} {harg11 : arg11.IsWhole} {arg12 : Memref sig .tc .vmem S128x2048 .fp8e4m3} {harg12 : arg12.IsWhole} {arg13 : Memref sig .tc .vmem S8x4096 .f32} {harg13 : arg13.IsWhole} {arg14 : Memref sig .tc .vmem S128x5504 .fp8e5m2} {harg14 : arg14.IsWhole} {arg15 : Memref sig .tc .vmem S128x86 .f32} {harg15 : arg15.IsWhole} {arg16 : Memref sig .tc .vmem S128x5504 .fp8e5m2} {harg16 : arg16.IsWhole} {arg17 : Memref sig .tc .vmem S8x11008 .f32} {harg17 : arg17.IsWhole} {arg18 : Memref sig .tc .vmem S2048x128 .bf16} {harg18 : arg18.IsWhole} {arg19 : Memref sig .tc .vmem S2x512x11008 .bf16} {harg19 : arg19.IsWhole} {arg20 : Memref sig .tc .vmem S8x512x512 .f32} {harg20 : arg20.IsWhole} {arg21 : Memref sig .tc .vmem S3x512x128 .f32} {harg21 : arg21.IsWhole} {arg22 : Memref sig .tc .vmem S2x512x128 .f32} {harg22 : arg22.IsWhole} {hc0 : ¬cond0_0 i} {hc1 : cond0_1 i} {hc2 : cond0_2 i} {hc3 : cond0_3 i} {hc4 : ¬cond0_4 i} {hc5 : ¬cond0_5 i} {x0 : Vec F S128x5504 .bf16} {x1 : Vec F S128x4096 .bf16} {x2 : Vec F S512x512 .bf16} {x3 : Vec F S512x512 .bf16} {x4 : Vec F S1x512 .f32} {x5 : Vec F S1x2048 .f32} {x6 : Vec F S512x11008 .fp8e4m3} {x7 : Vec F S32x86 .f32} {xs1 : Vec F S8x512x512 .f32} {xs3 : Vec F S2x512x128 .f32} {xs0 : Vec F S2x512x11008 .bf16} {xs2 : Vec F S3x512x128 .f32} (hi : Inb i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3 xs0 = arg19.view.read (Elt F) (arg19.view.writes (Elt F) (harg19.unread xs0) (dyPieces i hi arg2 harg2 x0 43 (le_refl _)))
    ∧ sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs1 xs3 xs2 = arg21.view.read (Elt F) (arg21.view.writes (Elt F) (harg21.unread xs2) [(rPiece i hi arg3 harg3 x1)]) :=
  ⟨by rfl, by rfl⟩

theorem run_D {c : Dev nD} {i : grid0.Coords} {arg2 : Memref sig .tc .vmem S128x5504 .bf16} {harg2 : arg2.IsWhole} {arg3 : Memref sig .tc .vmem S128x4096 .bf16} {harg3 : arg3.IsWhole} {arg4 : Memref sig .tc .vmem S512x512 .bf16} {harg4 : arg4.IsWhole} {arg5 : Memref sig .tc .vmem S512x512 .bf16} {harg5 : arg5.IsWhole} {arg6 : Memref sig .tc .vmem S1x512 .f32} {harg6 : arg6.IsWhole} {arg7 : Memref sig .tc .vmem S1x2048 .f32} {harg7 : arg7.IsWhole} {arg8 : Memref sig .tc .vmem S512x11008 .fp8e4m3} {harg8 : arg8.IsWhole} {arg9 : Memref sig .tc .smem S32x86 .f32} {harg9 : arg9.IsWhole} {arg10 : Memref sig .tc .vmem S512x512 .bf16} {harg10 : arg10.IsWhole} {arg11 : Memref sig .tc .vmem S1x4096 .f32} {harg11 : arg11.IsWhole} {arg12 : Memref sig .tc .vmem S128x2048 .fp8e4m3} {harg12 : arg12.IsWhole} {arg13 : Memref sig .tc .vmem S8x4096 .f32} {harg13 : arg13.IsWhole} {arg14 : Memref sig .tc .vmem S128x5504 .fp8e5m2} {harg14 : arg14.IsWhole} {arg15 : Memref sig .tc .vmem S128x86 .f32} {harg15 : arg15.IsWhole} {arg16 : Memref sig .tc .vmem S128x5504 .fp8e5m2} {harg16 : arg16.IsWhole} {arg17 : Memref sig .tc .vmem S8x11008 .f32} {harg17 : arg17.IsWhole} {arg18 : Memref sig .tc .vmem S2048x128 .bf16} {harg18 : arg18.IsWhole} {arg19 : Memref sig .tc .vmem S2x512x11008 .bf16} {harg19 : arg19.IsWhole} {arg20 : Memref sig .tc .vmem S8x512x512 .f32} {harg20 : arg20.IsWhole} {arg21 : Memref sig .tc .vmem S3x512x128 .f32} {harg21 : arg21.IsWhole} {arg22 : Memref sig .tc .vmem S2x512x128 .f32} {harg22 : arg22.IsWhole} {hc0 : ¬cond0_0 i} {hc1 : cond0_1 i} {hc2 : cond0_2 i} {hc3 : ¬cond0_3 i} {hc4 : cond0_4 i} {hc5 : ¬cond0_5 i} {x0 : Vec F S128x5504 .bf16} {x1 : Vec F S128x4096 .bf16} {x2 : Vec F S512x512 .bf16} {x3 : Vec F S512x512 .bf16} {x4 : Vec F S1x512 .f32} {x5 : Vec F S1x2048 .f32} {x6 : Vec F S512x11008 .fp8e4m3} {x7 : Vec F S32x86 .f32} {xs0 : Vec F S2x512x11008 .bf16} {xs1 : Vec F S8x512x512 .f32} {xs2 : Vec F S3x512x128 .f32} {xs3 : Vec F S2x512x128 .f32} (hi : Inb i) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = arg19.view.read (Elt F) (arg19.view.writes (Elt F) (harg19.unread xs0) (dyPieces i hi arg2 harg2 x0 43 (le_refl _)))
    ∧ sout0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = arg20.view.read (Elt F) (arg20.view.writes (Elt F) (harg20.unread xs1) (nPieces i hi (acc i hi arg2 harg2 x0 arg8 harg8 x6 arg9 harg9 x7 arg19 harg19 xs0 42 (by omega))))
    ∧ sout0_D_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = arg21.view.read (Elt F) (arg21.view.writes (Elt F) (harg21.unread xs2) [(rPiece i hi arg3 harg3 x1)])
    ∧ sout0_D_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = arg22.view.read (Elt F) (arg22.view.writes (Elt F) (harg22.unread xs3) (sPieces i hi arg4 harg4 x2 arg6 harg6 x4 arg21 harg21 xs2 arg22 harg22 xs3 (rPiece i hi arg3 harg3 x1) (acc i hi arg2 harg2 x0 arg8 harg8 x6 arg9 harg9 x7 arg19 harg19 xs0 42 (by omega))))
    ∧ out0_D_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = VO0_8.read (Elt F) (VO0_8.writes (Elt F) VO0_8.junk (oPieces i hi arg6 harg6 x4 arg21 harg21 xs2 arg22 harg22 xs3 arg5 harg5 x3 arg20 harg20 xs1)) :=
  ⟨by rfl, by rfl, by rfl, by rfl, by rfl⟩

theorem run_E {c : Dev nD} {i : grid0.Coords} {arg2 : Memref sig .tc .vmem S128x5504 .bf16} {harg2 : arg2.IsWhole} {arg3 : Memref sig .tc .vmem S128x4096 .bf16} {harg3 : arg3.IsWhole} {arg4 : Memref sig .tc .vmem S512x512 .bf16} {harg4 : arg4.IsWhole} {arg5 : Memref sig .tc .vmem S512x512 .bf16} {harg5 : arg5.IsWhole} {arg6 : Memref sig .tc .vmem S1x512 .f32} {harg6 : arg6.IsWhole} {arg7 : Memref sig .tc .vmem S1x2048 .f32} {harg7 : arg7.IsWhole} {arg8 : Memref sig .tc .vmem S512x11008 .fp8e4m3} {harg8 : arg8.IsWhole} {arg9 : Memref sig .tc .smem S32x86 .f32} {harg9 : arg9.IsWhole} {arg10 : Memref sig .tc .vmem S512x512 .bf16} {harg10 : arg10.IsWhole} {arg11 : Memref sig .tc .vmem S1x4096 .f32} {harg11 : arg11.IsWhole} {arg12 : Memref sig .tc .vmem S128x2048 .fp8e4m3} {harg12 : arg12.IsWhole} {arg13 : Memref sig .tc .vmem S8x4096 .f32} {harg13 : arg13.IsWhole} {arg14 : Memref sig .tc .vmem S128x5504 .fp8e5m2} {harg14 : arg14.IsWhole} {arg15 : Memref sig .tc .vmem S128x86 .f32} {harg15 : arg15.IsWhole} {arg16 : Memref sig .tc .vmem S128x5504 .fp8e5m2} {harg16 : arg16.IsWhole} {arg17 : Memref sig .tc .vmem S8x11008 .f32} {harg17 : arg17.IsWhole} {arg18 : Memref sig .tc .vmem S2048x128 .bf16} {harg18 : arg18.IsWhole} {arg19 : Memref sig .tc .vmem S2x512x11008 .bf16} {harg19 : arg19.IsWhole} {arg20 : Memref sig .tc .vmem S8x512x512 .f32} {harg20 : arg20.IsWhole} {arg21 : Memref sig .tc .vmem S3x512x128 .f32} {harg21 : arg21.IsWhole} {arg22 : Memref sig .tc .vmem S2x512x128 .f32} {harg22 : arg22.IsWhole} {hc0 : ¬cond0_0 i} {hc1 : cond0_1 i} {hc2 : ¬cond0_2 i} {hc3 : ¬cond0_3 i} {hc4 : cond0_4 i} {hc5 : ¬cond0_5 i} {x0 : Vec F S128x5504 .bf16} {x1 : Vec F S128x4096 .bf16} {x2 : Vec F S512x512 .bf16} {x3 : Vec F S512x512 .bf16} {x4 : Vec F S1x512 .f32} {x5 : Vec F S1x2048 .f32} {x6 : Vec F S512x11008 .fp8e4m3} {x7 : Vec F S32x86 .f32} {xs0 : Vec F S2x512x11008 .bf16} {xs1 : Vec F S8x512x512 .f32} {xs2 : Vec F S3x512x128 .f32} {xs3 : Vec F S2x512x128 .f32} (hi : Inb i) :
    sout0_E_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = arg19.view.read (Elt F) (arg19.view.writes (Elt F) (harg19.unread xs0) (dyPieces i hi arg2 harg2 x0 43 (le_refl _)))
    ∧ sout0_E_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = arg20.view.read (Elt F) (arg20.view.writes (Elt F) (harg20.unread xs1) (nPieces i hi (acc i hi arg2 harg2 x0 arg8 harg8 x6 arg9 harg9 x7 arg19 harg19 xs0 42 (by omega))))
    ∧ sout0_E_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = arg21.view.read (Elt F) (arg21.view.writes (Elt F) (harg21.unread xs2) [(rPiece i hi arg3 harg3 x1)])
    ∧ sout0_E_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = arg22.view.read (Elt F) (arg22.view.writes (Elt F) (harg22.unread xs3) (sPieces i hi arg4 harg4 x2 arg6 harg6 x4 arg21 harg21 xs2 arg22 harg22 xs3 (rPiece i hi arg3 harg3 x1) (acc i hi arg2 harg2 x0 arg8 harg8 x6 arg9 harg9 x7 arg19 harg19 xs0 42 (by omega))))
    ∧ out0_E_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 x0 x1 x2 x3 x4 x5 x6 x7 xs0 xs1 xs2 xs3 = VO0_8.read (Elt F) (VO0_8.writes (Elt F) VO0_8.junk (oPieces i hi arg6 harg6 x4 arg21 harg21 xs2 arg22 harg22 xs3 arg5 harg5 x3 arg20 harg20 xs1)) :=
  ⟨by rfl, by rfl, by rfl, by rfl, by rfl⟩

theorem run_F {c : Dev nD} {i : grid0.Coords} {arg2 : Memref sig .tc .vmem S128x5504 .bf16} {harg2 : arg2.IsWhole} {arg3 : Memref sig .tc .vmem S128x4096 .bf16} {harg3 : arg3.IsWhole} {arg4 : Memref sig .tc .vmem S512x512 .bf16} {harg4 : arg4.IsWhole} {arg5 : Memref sig .tc .vmem S512x512 .bf16} {harg5 : arg5.IsWhole} {arg6 : Memref sig .tc .vmem S1x512 .f32} {harg6 : arg6.IsWhole} {arg7 : Memref sig .tc .vmem S1x2048 .f32} {harg7 : arg7.IsWhole} {arg8 : Memref sig .tc .vmem S512x11008 .fp8e4m3} {harg8 : arg8.IsWhole} {arg9 : Memref sig .tc .smem S32x86 .f32} {harg9 : arg9.IsWhole} {arg10 : Memref sig .tc .vmem S512x512 .bf16} {harg10 : arg10.IsWhole} {arg11 : Memref sig .tc .vmem S1x4096 .f32} {harg11 : arg11.IsWhole} {arg12 : Memref sig .tc .vmem S128x2048 .fp8e4m3} {harg12 : arg12.IsWhole} {arg13 : Memref sig .tc .vmem S8x4096 .f32} {harg13 : arg13.IsWhole} {arg14 : Memref sig .tc .vmem S128x5504 .fp8e5m2} {harg14 : arg14.IsWhole} {arg15 : Memref sig .tc .vmem S128x86 .f32} {harg15 : arg15.IsWhole} {arg16 : Memref sig .tc .vmem S128x5504 .fp8e5m2} {harg16 : arg16.IsWhole} {arg17 : Memref sig .tc .vmem S8x11008 .f32} {harg17 : arg17.IsWhole} {arg18 : Memref sig .tc .vmem S2048x128 .bf16} {harg18 : arg18.IsWhole} {arg19 : Memref sig .tc .vmem S2x512x11008 .bf16} {harg19 : arg19.IsWhole} {arg20 : Memref sig .tc .vmem S8x512x512 .f32} {harg20 : arg20.IsWhole} {arg21 : Memref sig .tc .vmem S3x512x128 .f32} {harg21 : arg21.IsWhole} {arg22 : Memref sig .tc .vmem S2x512x128 .f32} {harg22 : arg22.IsWhole} {hc0 : ¬cond0_0 i} {hc1 : ¬cond0_1 i} {hc3 : ¬cond0_3 i} {hc4 : cond0_4 i} {hc5 : ¬cond0_5 i} {x0 : Vec F S128x5504 .bf16} {x1 : Vec F S128x4096 .bf16} {x2 : Vec F S512x512 .bf16} {x3 : Vec F S512x512 .bf16} {x4 : Vec F S1x512 .f32} {x5 : Vec F S1x2048 .f32} {x6 : Vec F S512x11008 .fp8e4m3} {x7 : Vec F S32x86 .f32} {xs0 : Vec F S2x512x11008 .bf16} {xs1 : Vec F S8x512x512 .f32} {xs2 : Vec F S3x512x128 .f32} {xs3 : Vec F S2x512x128 .f32} (hi : Inb i) :
    sout0_F_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3 = arg19.view.read (Elt F) (arg19.view.writes (Elt F) (harg19.unread xs0) (dyPieces i hi arg2 harg2 x0 43 (le_refl _)))
    ∧ sout0_F_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3 = arg20.view.read (Elt F) (arg20.view.writes (Elt F) (harg20.unread xs1) (nPieces i hi (acc i hi arg2 harg2 x0 arg8 harg8 x6 arg9 harg9 x7 arg19 harg19 xs0 42 (by omega))))
    ∧ sout0_F_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3 = arg21.view.read (Elt F) (arg21.view.writes (Elt F) (harg21.unread xs2) [(rPiece i hi arg3 harg3 x1)])
    ∧ sout0_F_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3 = arg22.view.read (Elt F) (arg22.view.writes (Elt F) (harg22.unread xs3) (sPieces i hi arg4 harg4 x2 arg6 harg6 x4 arg21 harg21 xs2 arg22 harg22 xs3 (rPiece i hi arg3 harg3 x1) (acc i hi arg2 harg2 x0 arg8 harg8 x6 arg9 harg9 x7 arg19 harg19 xs0 42 (by omega))))
    ∧ out0_F_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3 = VO0_8.read (Elt F) (VO0_8.writes (Elt F) VO0_8.junk (oPieces i hi arg6 harg6 x4 arg21 harg21 xs2 arg22 harg22 xs3 arg5 harg5 x3 arg20 harg20 xs1)) :=
  ⟨by rfl, by rfl, by rfl, by rfl, by rfl⟩

theorem run_G {c : Dev nD} {i : grid0.Coords} {arg2 : Memref sig .tc .vmem S128x5504 .bf16} {harg2 : arg2.IsWhole} {arg3 : Memref sig .tc .vmem S128x4096 .bf16} {harg3 : arg3.IsWhole} {arg4 : Memref sig .tc .vmem S512x512 .bf16} {harg4 : arg4.IsWhole} {arg5 : Memref sig .tc .vmem S512x512 .bf16} {harg5 : arg5.IsWhole} {arg6 : Memref sig .tc .vmem S1x512 .f32} {harg6 : arg6.IsWhole} {arg7 : Memref sig .tc .vmem S1x2048 .f32} {harg7 : arg7.IsWhole} {arg8 : Memref sig .tc .vmem S512x11008 .fp8e4m3} {harg8 : arg8.IsWhole} {arg9 : Memref sig .tc .smem S32x86 .f32} {harg9 : arg9.IsWhole} {arg10 : Memref sig .tc .vmem S512x512 .bf16} {harg10 : arg10.IsWhole} {arg11 : Memref sig .tc .vmem S1x4096 .f32} {harg11 : arg11.IsWhole} {arg12 : Memref sig .tc .vmem S128x2048 .fp8e4m3} {harg12 : arg12.IsWhole} {arg13 : Memref sig .tc .vmem S8x4096 .f32} {harg13 : arg13.IsWhole} {arg14 : Memref sig .tc .vmem S128x5504 .fp8e5m2} {harg14 : arg14.IsWhole} {arg15 : Memref sig .tc .vmem S128x86 .f32} {harg15 : arg15.IsWhole} {arg16 : Memref sig .tc .vmem S128x5504 .fp8e5m2} {harg16 : arg16.IsWhole} {arg17 : Memref sig .tc .vmem S8x11008 .f32} {harg17 : arg17.IsWhole} {arg18 : Memref sig .tc .vmem S2048x128 .bf16} {harg18 : arg18.IsWhole} {arg19 : Memref sig .tc .vmem S2x512x11008 .bf16} {harg19 : arg19.IsWhole} {arg20 : Memref sig .tc .vmem S8x512x512 .f32} {harg20 : arg20.IsWhole} {arg21 : Memref sig .tc .vmem S3x512x128 .f32} {harg21 : arg21.IsWhole} {arg22 : Memref sig .tc .vmem S2x512x128 .f32} {harg22 : arg22.IsWhole} {hc0 : ¬cond0_0 i} {hc1 : ¬cond0_1 i} {hc3 : ¬cond0_3 i} {hc4 : ¬cond0_4 i} {hc5 : cond0_5 i} {x0 : Vec F S128x5504 .bf16} {x1 : Vec F S128x4096 .bf16} {x2 : Vec F S512x512 .bf16} {x3 : Vec F S512x512 .bf16} {x4 : Vec F S1x512 .f32} {x5 : Vec F S1x2048 .f32} {x6 : Vec F S512x11008 .fp8e4m3} {x7 : Vec F S32x86 .f32} {xs0 : Vec F S2x512x11008 .bf16} {xs1 : Vec F S8x512x512 .f32} {xs2 : Vec F S3x512x128 .f32} {xs3 : Vec F S2x512x128 .f32} (hi : Inb i) :
    out0_G_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc3 hc4 hc5 x0 x1 x2 x3 x4 x5 x6 x7 xs0 xs1 xs2 xs3 = VO0_8.read (Elt F) (VO0_8.writes (Elt F) VO0_8.junk (oPieces i hi arg6 harg6 x4 arg21 harg21 xs2 arg22 harg22 xs3 arg5 harg5 x3 arg20 harg20 xs1)) :=
  by rfl

end Cert.DgradIdeal.Dgrad

end
-- ==== Proof.DgVal.lean ====
/-
  The values of what one grid point writes, entry by entry over the extended reals.
-/
module

public import proofs.«01_k».proof.Proof.DgPieces

@[expose] public section

set_option maxRecDepth 16384

noncomputable section

namespace Cert.DgradIdeal.Dgrad

open Cert.DgradIdeal Cert.DgradIdeal.Gen Idealize.ShloMosaic Idealize.ShloMosaic.TcCoe Idealize.SL.Sem
open scoped BigOperators

/-! ### The offsets in closed form -/

/-- The column half and row group quantised at a point. -/
def qj (t : Nat) : Nat := if t < 192 then t % 8 else 7

theorem vec3 {a a' b b' c c' : Nat} (h : a = a') (h' : b = b') (h'' : c = c') : (![a, b, c] : Fin 3 → Nat) = ![a', b', c'] := by
  subst h h' h''; rfl

theorem rOff0 : ∀ t : Fin grid0.N, ∀ a : Fin 3, rOff (grid0.coords t) a.val 0 0 = (t.val / 8 + a.val) % 3 := by decide +kernel
theorem cOff0 : ∀ t : Fin grid0.N, cOff (grid0.coords t) 0 0 = t.val / 8 % 2 := by decide +kernel
theorem eOff0 : ∀ t : Fin grid0.N, eOff (grid0.coords t) 0 0 = (t.val / 8 + 1) % 2 := by decide +kernel
theorem nOff0 : ∀ t : Fin grid0.N, nOff (grid0.coords t) 0 0 = t.val % 8 := by decide +kernel
theorem sOff0 : ∀ t : Fin grid0.N, ∀ a : Fin 4, sOff (grid0.coords t) a.val 0 0 = 4 * (t.val % 8) + a.val := by decide +kernel
theorem gOff_eq : ∀ t : Fin grid0.N, k0_off2 (grid0.coords t) = ![t.val / 8 % 3, 128 * (qj t.val / 2), 0] := by decide +kernel
theorem dOff0 : ∀ t : Fin grid0.N, ∀ n : Fin 43, dOff (grid0.coords t) n.val = ![t.val / 8 % 2, 128 * (qj t.val / 2), 5504 * (qj t.val % 2) + 128 * n.val] := by
  decide +kernel
theorem zero_iff : ∀ t : Fin grid0.N, Scalar.cmpi .eq (BitVec.ofNat 32 ((grid0.coords t) 1).val) 0#32 = if t.val % 8 = 0 then 1#1 else 0#1 := by
  decide +kernel

variable (t : Fin grid0.N)

theorem rOff_eq (a : Nat) (ha : a < 3) (s : Nat) : rOff (grid0.coords t) a s = ![(t.val / 8 + a) % 3, 64 * s, 0] := vec3 (rOff0 t ⟨a, ha⟩) rfl rfl
theorem cOff_eq (s : Nat) : cOff (grid0.coords t) s = ![t.val / 8 % 2, 64 * s, 0] := vec3 (cOff0 t) rfl rfl
theorem eOff_eq (s : Nat) : eOff (grid0.coords t) s = ![(t.val / 8 + 1) % 2, 64 * s, 0] := vec3 (eOff0 t) rfl rfl
theorem nOff_eq (s : Nat) : nOff (grid0.coords t) s = ![t.val % 8, 64 * s, 0] := vec3 (nOff0 t) rfl rfl
theorem qOff_eq (k : Nat) : qOff (grid0.coords t) k = ![(t.val / 8 + 1) % 2, 0, 256 * k] := vec3 (eOff0 t) rfl rfl
theorem sOff_eq (a c : Nat) (ha : a < 4) : sOff (grid0.coords t) a c = ![4 * (t.val % 8) + a, c] := by
  have h := sOff0 t ⟨a, ha⟩
  funext x
  match x with
  | ⟨0, _⟩ => exact h
  | ⟨1, _⟩ => rfl
theorem dOff_eq (n : Nat) (hn : n < 43) :
    dOff (grid0.coords t) n = ![t.val / 8 % 2, 128 * (qj t.val / 2), 5504 * (qj t.val % 2) + 128 * n] := dOff0 t ⟨n, hn⟩

theorem qj_lt : qj t.val < 8 := by
  unfold qj
  split <;> omega

theorem le3 {a b c x y z A B C : Nat} (h : a + x ≤ A) (h' : b + y ≤ B) (h'' : c + z ≤ C) :
    ∀ k : Fin 3, (![a, b, c] : Fin 3 → Nat) k + (![x, y, z] : Fin 3 → Nat) k ≤ (![A, B, C] : Fin 3 → Nat) k := by
  intro k
  match k with
  | ⟨0, _⟩ => exact h
  | ⟨1, _⟩ => exact h'
  | ⟨2, _⟩ => exact h''

theorem inb : Inb (grid0.coords t) where
  r a ha s hs := by rw [rOff_eq t a ha s]; exact le3 (by omega) (by omega) (by omega)
  c s hs := by rw [cOff_eq]; exact le3 (by omega) (by omega) (by omega)
  e s hs := by rw [eOff_eq]; exact le3 (by omega) (by omega) (by omega)
  n s hs := by rw [nOff_eq]; exact le3 (by omega) (by omega) (by omega)
  q k hk := by rw [qOff_eq]; exact le3 (by omega) (by omega) (by omega)
  s a ha c hc := by
    rw [sOff_eq t a c ha]
    intro x
    match x with
    | ⟨0, _⟩ => show 4 * (t.val % 8) + a + 1 ≤ 32; omega
    | ⟨1, _⟩ => show c + 1 ≤ 86; omega
  d n hn := by
    have := qj_lt t
    rw [dOff_eq t n hn]; exact le3 (by omega) (by omega) (by omega)
  g := by
    have := qj_lt t
    rw [gOff_eq]; exact le3 (by omega) (by omega) (by omega)

/-! ### The quantised blocks -/

section
variable (a2 : Memref sig .tc .vmem S128x5504 .bf16) (h2 : a2.IsWhole) (x0 : Vec Ideal S128x5504 .bf16)

theorem dPay_apply (n : Fin 43) (r l : Fin 128) :
    dPay a2 h2 x0 n (ix3 0 r l) = quant (fun u : Fin 128 => x0 (ix2 r ⟨128 * n.val + u.val, by omega⟩)) l := by
  unfold dPay
  rw [dyb_apply]
  congr 1
  funext u
  rw [h2.readAt_unread x0]
  congr 1
  funext a
  match a with
  | ⟨0, _⟩ => apply Fin.ext; show 0 + 1 * r.val = r.val; omega
  | ⟨1, _⟩ => apply Fin.ext; show 128 * n.val + 1 * u.val = 128 * n.val + u.val; omega

variable (a19 : Memref sig .tc .vmem S2x512x11008 .bf16) (B : a19.view.ty.Contents (Elt Ideal))

theorem dy_read_mem (n : Nat) (hn : n ≤ 43) (s : Fin 2) (ρ : Fin 512) (κ : Fin 11008) (hs : s.val = t.val / 8 % 2)
    (r : Fin 128) (hr : ρ.val = 128 * (qj t.val / 2) + r.val) (b : Nat) (hb : b < n) (l : Fin 128)
    (hκ : κ.val = 5504 * (qj t.val % 2) + 128 * b + l.val) :
    a19.view.read (Elt Ideal) (a19.view.writes (Elt Ideal) B (dyPieces (grid0.coords t) (inb t) a2 h2 x0 n hn)) (ix3 s ρ κ)
      = quant (fun u : Fin 128 => x0 (ix2 r ⟨128 * b + u.val, by omega⟩)) l := by
  unfold dyPieces
  rw [View.read_tilePieces a19.view B S1x128x128.size _ _ (dPay a2 h2 x0) n hn (ix3 s ρ κ) ⟨b, by omega⟩ hb (ix3 0 r l) ?_ 2 ?_, dPay_apply]
  · intro a
    dsimp only
    rw [dOff_eq t b (by omega)]
    match a with
    | ⟨0, _⟩ => show s.val = t.val / 8 % 2 + 0; omega
    | ⟨1, _⟩ => exact hr
    | ⟨2, _⟩ => exact hκ
  · intro i' hne
    have hne' : i'.val ≠ b := fun h => hne (Fin.ext h)
    dsimp only
    rw [dOff_eq t i'.val i'.isLt]
    show κ.val < 5504 * (qj t.val % 2) + 128 * i'.val ∨ 5504 * (qj t.val % 2) + 128 * i'.val + 128 ≤ κ.val
    omega

theorem dy_read_miss (n : Nat) (hn : n ≤ 43) (s : Fin 2) (ρ : Fin 512) (κ : Fin 11008)
    (h : s.val ≠ t.val / 8 % 2 ∨ ρ.val / 128 ≠ qj t.val / 2 ∨ κ.val / 5504 ≠ qj t.val % 2) :
    a19.view.read (Elt Ideal) (a19.view.writes (Elt Ideal) B (dyPieces (grid0.coords t) (inb t) a2 h2 x0 n hn)) (ix3 s ρ κ)
      = a19.view.read (Elt Ideal) B (ix3 s ρ κ) := by
  unfold dyPieces
  rcases h with h | h | h
  · refine View.read_tilePieces_miss a19.view B S1x128x128.size _ _ (dPay a2 h2 x0) n hn (ix3 s ρ κ) 0 fun i' _ => ?_
    dsimp only
    rw [dOff_eq t i'.val i'.isLt]
    show s.val < t.val / 8 % 2 ∨ t.val / 8 % 2 + 1 ≤ s.val
    omega
  · refine View.read_tilePieces_miss a19.view B S1x128x128.size _ _ (dPay a2 h2 x0) n hn (ix3 s ρ κ) 1 fun i' _ => ?_
    dsimp only
    rw [dOff_eq t i'.val i'.isLt]
    show ρ.val < 128 * (qj t.val / 2) ∨ 128 * (qj t.val / 2) + 128 ≤ ρ.val
    omega
  · refine View.read_tilePieces_miss a19.view B S1x128x128.size _ _ (dPay a2 h2 x0) n hn (ix3 s ρ κ) 2 fun i' _ => ?_
    have := i'.isLt
    dsimp only
    rw [dOff_eq t i'.val i'.isLt]
    show κ.val < 5504 * (qj t.val % 2) + 128 * i'.val ∨ 5504 * (qj t.val % 2) + 128 * i'.val + 128 ≤ κ.val
    omega

/-! ### The product -/

variable (a8 : Memref sig .tc .vmem S512x11008 .fp8e4m3) (h8 : a8.IsWhole) (x6 : Vec Ideal S512x11008 .fp8e4m3)
  (a9 : Memref sig .tc .smem S32x86 .f32) (h9 : a9.IsWhole) (x7 : Vec Ideal S32x86 .f32)
  (h19 : a19.IsWhole) (xs0 : Vec Ideal S2x512x11008 .bf16)

theorem wBlock_apply (a c : Nat) (ha : a < 4) (hc : c < 86) (g u : Fin 128) :
    wBlock (grid0.coords t) (inb t) a8 h8 x6 a9 h9 x7 a c ha hc (ix2 g u)
      = (x6 (ix2 (⟨128 * a + g.val, by omega⟩ : Fin 512) (⟨128 * c + u.val, by omega⟩ : Fin 11008)) : EReal)
        * x7 (ix2 (⟨4 * (t.val % 8) + a, by omega⟩ : Fin 32) (⟨c, hc⟩ : Fin 86)) := by
  unfold wBlock
  rw [mulf_apply, extf_apply, h8.readAt_unread x6]
  congr 1
  · refine congrArg x6 (funext fun x => ?_)
    match x with
    | ⟨0, _⟩ => apply Fin.ext; show 128 * a + 1 * g.val = 128 * a + g.val; omega
    | ⟨1, _⟩ => apply Fin.ext; show 128 * c + 1 * u.val = 128 * c + u.val; omega
  · show View.readAt (Elt Ideal) a9.view _ _ _ = _
    rw [h9.readAt_unread x7]
    have h := sOff_eq t a c ha
    refine congrArg x7 (funext fun x => ?_)
    match x with
    | ⟨0, _⟩ => apply Fin.ext; show sOff (grid0.coords t) a c 0 + 1 * 0 = _; rw [h]; rfl
    | ⟨1, _⟩ => apply Fin.ext; show sOff (grid0.coords t) a c 1 + 1 * 0 = _; rw [h]; rfl

/-- The widened weight at column `o` of the point's row block. -/
def wv (g : Fin 512) (o : Fin 11008) : EReal :=
  (x6 (ix2 g o) : EReal) * x7 (ix2 (⟨4 * (t.val % 8) + g.val / 128, by omega⟩ : Fin 32) (⟨o.val / 128, by omega⟩ : Fin 86))

theorem wBlock_wv (a c : Nat) (ha : a < 4) (hc : c < 86) (g u : Fin 128) (G : Fin 512) (O : Fin 11008) (hG : G.val = 128 * a + g.val)
    (hO : O.val = 128 * c + u.val) :
    wBlock (grid0.coords t) (inb t) a8 h8 x6 a9 h9 x7 a c ha hc (ix2 g u) = wv t x6 x7 G O := by
  rw [wBlock_apply, wv]
  congr 3 <;> (apply Fin.ext; dsimp only; omega)

theorem wPair_apply (a k : Nat) (ha : a < 4) (hk : k < 43) (g : Fin 128) (u : Fin 256) (G : Fin 512) (O : Fin 11008)
    (hG : G.val = 128 * a + g.val) (hO : O.val = 256 * k + u.val) :
    wPair (grid0.coords t) (inb t) a8 h8 x6 a9 h9 x7 a k ha hk (ix2 g u) = wv t x6 x7 G O := by
  unfold wPair
  have hu := u.isLt
  by_cases h : u.val < 128
  · rw [concatenate_pair_apply_left (s₁ := S128x128) (s₂ := S128x128) 1 _ _ _ (ix2 g u) rfl (ix2 g (⟨u.val, h⟩ : Fin 128))
      (fun b => match b with | ⟨0, _⟩ => rfl | ⟨1, _⟩ => rfl)]
    exact wBlock_wv t a8 h8 x6 a9 h9 x7 a (2 * k) ha _ g _ G O hG (by dsimp only; omega)
  · rw [concatenate_pair_apply_right (s₁ := S128x128) (s₂ := S128x128) 1 _ _ _ (ix2 g u) rfl rfl (ix2 g (⟨u.val - 128, by omega⟩ : Fin 128))
      (fun b => match b with | ⟨0, _⟩ => fun _ => rfl | ⟨1, _⟩ => fun h => absurd rfl h)
      (show u.val - 128 + 128 = u.val by omega)]
    exact wBlock_wv t a8 h8 x6 a9 h9 x7 a (2 * k + 1) ha _ g _ G O hG (by dsimp only; omega)

theorem product_apply (lhs rhs : FVec Ideal S512x256 .bf16) (r : Fin 512) (c : Fin 512) :
    matmul dot_S512x256_S512x256_S512x512_1_1_0_0_n_n none lhs rhs (constant S512x512 .f32 0x00000000#32) (ix2 r c)
      = ∑ u : Fin 256, (lhs (ix2 r u) : EReal) * rhs (ix2 c u) := by
  pointwise

end

end Cert.DgradIdeal.Dgrad

end
-- ==== Proof.DgVal2.lean ====
/-
  The product, the row factors, the row sums and the finished block, entry by entry over the extended reals.
-/
module

public import proofs.«01_k».proof.Proof.DgVal

@[expose] public section

set_option maxRecDepth 16384

noncomputable section

namespace Cert.DgradIdeal.Dgrad

open Cert.DgradIdeal Cert.DgradIdeal.Gen Idealize.ShloMosaic Idealize.ShloMosaic.TcCoe Idealize.SL.Sem
open scoped BigOperators

variable (t : Fin grid0.N)

section
variable (a2 : Memref sig .tc .vmem S128x5504 .bf16) (h2 : a2.IsWhole) (x0 : Vec Ideal S128x5504 .bf16)
variable (a8 : Memref sig .tc .vmem S512x11008 .fp8e4m3) (h8 : a8.IsWhole) (x6 : Vec Ideal S512x11008 .fp8e4m3)
  (a9 : Memref sig .tc .smem S32x86 .f32) (h9 : a9.IsWhole) (x7 : Vec Ideal S32x86 .f32)
  (a19 : Memref sig .tc .vmem S2x512x11008 .bf16) (h19 : a19.IsWhole) (xs0 : Vec Ideal S2x512x11008 .bf16)

theorem wChunk_apply (k : Nat) (hk : k < 43) (G : Fin 512) (u : Fin 256) (O : Fin 11008) (hO : O.val = 256 * k + u.val) :
    wChunk (grid0.coords t) (inb t) a8 h8 x6 a9 h9 x7 k hk (ix2 G u) = wv t x6 x7 G O := by
  unfold wChunk
  have hG := G.isLt
  have hoff : ∀ (g : Fin 128) (b : Fin S128x256.rank), b.cast (rfl : S128x256.rank = S512x256.rank) ≠ 0 →
      ((ix2 g u : S128x256.Idx) b).val = ((ix2 G u : S512x256.Idx) (b.cast rfl)).val := fun g b =>
    match b with
    | ⟨0, _⟩ => fun h => absurd rfl h
    | ⟨1, _⟩ => fun _ => rfl
  rcases (by omega : G.val < 128 ∨ 128 ≤ G.val ∧ G.val < 256 ∨ 256 ≤ G.val ∧ G.val < 384 ∨ 384 ≤ G.val) with h | h | h | h
  · rw [concatenate_apply_piece (t := S512x256) 0 _ _ (ix2 G u) 0 (by exact (show 0 < 4 by decide)) S128x256 _ rfl rfl 0 rfl (ix2 (⟨G.val - 0, by omega⟩ : Fin 128) u)
      (hoff _) (show 0 + (G.val - 0) = G.val by omega)]
    exact wPair_apply t a8 h8 x6 a9 h9 x7 0 k _ hk _ u G O (by dsimp only; omega) hO
  · rw [concatenate_apply_piece (t := S512x256) 0 _ _ (ix2 G u) 1 (by exact (show 1 < 4 by decide)) S128x256 _ rfl rfl 128 rfl (ix2 (⟨G.val - 128, by omega⟩ : Fin 128) u)
      (hoff _) (show 128 + (G.val - 128) = G.val by omega)]
    exact wPair_apply t a8 h8 x6 a9 h9 x7 1 k _ hk _ u G O (by dsimp only; omega) hO
  · rw [concatenate_apply_piece (t := S512x256) 0 _ _ (ix2 G u) 2 (by exact (show 2 < 4 by decide)) S128x256 _ rfl rfl 256 rfl (ix2 (⟨G.val - 256, by omega⟩ : Fin 128) u)
      (hoff _) (show 256 + (G.val - 256) = G.val by omega)]
    exact wPair_apply t a8 h8 x6 a9 h9 x7 2 k _ hk _ u G O (by dsimp only; omega) hO
  · rw [concatenate_apply_piece (t := S512x256) 0 _ _ (ix2 G u) 3 (by exact (show 3 < 4 by decide)) S128x256 _ rfl rfl 384 rfl (ix2 (⟨G.val - 384, by omega⟩ : Fin 128) u)
      (hoff _) (show 384 + (G.val - 384) = G.val by omega)]
    exact wPair_apply t a8 h8 x6 a9 h9 x7 3 k _ hk _ u G O (by dsimp only; omega) hO

theorem cast512 (x : Vec Ideal S1x512x256 .bf16) (r : Fin 512) (c : Fin 256) :
    (shapeCast S512x256 x shapeCasts_S1x512x256_S512x256 : Vec Ideal S512x256 .bf16) (ix2 r c) = x (ix3 0 r c) := by
  pointwise

/-- The slot the product reads. -/
def qs : Fin 2 := ⟨(t.val / 8 + 1) % 2, by omega⟩

theorem qChunk_apply (k : Nat) (hk : k < 43) (ρ : Fin 512) (u : Fin 256) (O : Fin 11008) (hO : O.val = 256 * k + u.val) :
    qChunk (grid0.coords t) (inb t) a2 h2 x0 a19 h19 xs0 k hk (ix2 ρ u) = xs0 (ix3 (qs t) ρ O) := by
  unfold qChunk
  rw [cast512]
  show a19.view.read (Elt Ideal) _ _ = _
  have h := qOff_eq t k
  have e : (Rect.unit (s := S2x512x11008) (qOff (grid0.coords t) k) S1x512x256.size ((inb t).q k hk)).toLoadRect.idx (ix3 0 ρ u)
      = (ix3 (qs t) ρ O : S2x512x11008.Idx) := funext fun x => by
    apply Fin.ext
    match x with
    | ⟨0, _⟩ => show qOff (grid0.coords t) k 0 + 1 * 0 = (t.val / 8 + 1) % 2; rw [h]; rfl
    | ⟨1, _⟩ => show qOff (grid0.coords t) k 1 + 1 * ρ.val = ρ.val; rw [h]; show 0 + 1 * ρ.val = ρ.val; omega
    | ⟨2, _⟩ => show qOff (grid0.coords t) k 2 + 1 * u.val = O.val; rw [h]; show 256 * k + 1 * u.val = O.val; omega
  refine (congrArg _ e).trans ?_
  rw [dy_read_miss t a2 h2 x0 a19 _ k (by omega) (qs t) ρ O (Or.inl (by show (t.val / 8 + 1) % 2 ≠ _; omega))]
  exact congrFun (h19.read_unread xs0) _

/-- A product's term, zero for a column that is not there. -/
def term (ρ G : Fin 512) (o : Nat) : EReal :=
  if h : o < 11008 then (xs0 (ix3 (qs t) ρ ⟨o, h⟩) : EReal) * wv t x6 x7 G ⟨o, h⟩ else 0

theorem prod_apply (k : Nat) (hk : k < 43) (ρ G : Fin 512) :
    prod (grid0.coords t) (inb t) a2 h2 x0 a8 h8 x6 a9 h9 x7 a19 h19 xs0 k hk (ix2 ρ G) = ∑ u ∈ Finset.range 256, term t x6 x7 xs0 ρ G (256 * k + u) := by
  unfold prod
  rw [product_apply, Finset.sum_range]
  refine Finset.sum_congr rfl fun u _ => ?_
  have hu := u.isLt
  have hq : 256 * k + u.val < 11008 := by omega
  rw [qChunk_apply t a2 h2 x0 a19 h19 xs0 k hk ρ u ⟨256 * k + u.val, hq⟩ rfl, wChunk_apply t a8 h8 x6 a9 h9 x7 k hk G u ⟨256 * k + u.val, hq⟩ rfl,
    term, dif_pos hq]

theorem acc_range (ρ G : Fin 512) (n : Nat) (hn : n < 43) :
    acc (grid0.coords t) (inb t) a2 h2 x0 a8 h8 x6 a9 h9 x7 a19 h19 xs0 n hn (ix2 ρ G) = ∑ o ∈ Finset.range (256 * (n + 1)), term t x6 x7 xs0 ρ G o := by
  induction n with
  | zero =>
    show prod (grid0.coords t) (inb t) a2 h2 x0 a8 h8 x6 a9 h9 x7 a19 h19 xs0 0 hn (ix2 ρ G) = _
    rw [prod_apply]
    simp
  | succ n ih =>
    show addf (acc (grid0.coords t) (inb t) a2 h2 x0 a8 h8 x6 a9 h9 x7 a19 h19 xs0 n _) (prod (grid0.coords t) (inb t) a2 h2 x0 a8 h8 x6 a9 h9 x7 a19 h19 xs0 (n + 1) hn) (ix2 ρ G) = _
    rw [addf_apply, ih, prod_apply, show 256 * (n + 1 + 1) = 256 * (n + 1) + 256 by ring, Finset.sum_range_add]
    rfl

theorem acc_apply (ρ G : Fin 512) :
    acc (grid0.coords t) (inb t) a2 h2 x0 a8 h8 x6 a9 h9 x7 a19 h19 xs0 42 (by omega) (ix2 ρ G)
      = ∑ o : Fin 11008, (xs0 (ix3 (qs t) ρ o) : EReal) * wv t x6 x7 G o := by
  rw [acc_range, Finset.sum_range]
  exact Finset.sum_congr rfl fun o _ => dif_pos o.isLt

end

/-! ### The row factors -/

section
variable (a3 : Memref sig .tc .vmem S128x4096 .bf16) (h3 : a3.IsWhole) (x1 : Vec Ideal S128x4096 .bf16)

/-- A square, zero for a column that is not there. -/
def sq (r : Fin 128) (q : Nat) : EReal := if h : q < 4096 then (x1 (ix2 r ⟨q, h⟩) : EReal) * x1 (ix2 r ⟨q, h⟩) else 0

theorem squares_apply (r l : Fin 128) (n : Nat) (hn : n ≤ 32) :
    squares a3 h3 x1 n hn (ix2 r l) = ∑ b ∈ Finset.range n, sq x1 r (128 * b + l.val) := by
  induction n with
  | zero =>
    show Ideal.ofBits .f32 0x00000000#32 = _
    rw [Finset.sum_range_zero]
    pointwise
  | succ n ih =>
    have hl : 128 * n + l.val < 4096 := by omega
    have e : View.readAt (Elt Ideal) a3.view (Rect.unit (s := S128x4096) ![0, 128 * n] S128x128.size (inbX n (by omega))).toLoadRect (h3.unread x1) (ix2 r l)
        = x1 (ix2 r ⟨128 * n + l.val, hl⟩) := by
      rw [h3.readAt_unread x1]
      refine congrArg x1 (funext fun x => ?_)
      match x with
      | ⟨0, _⟩ => apply Fin.ext; show 0 + 1 * r.val = r.val; omega
      | ⟨1, _⟩ => apply Fin.ext; show 128 * n + 1 * l.val = 128 * n + l.val; omega
    rw [squares, addf_apply, mulf_apply, extf_apply, ih, Finset.sum_range_succ, e, sq, dif_pos hl]
    rfl

/-- Lane by lane and then over the lanes is over all columns. -/
theorem sum_lanes (f : Nat → EReal) (n : Nat) : ∑ l : Fin 128, ∑ b ∈ Finset.range n, f (128 * b + l.val) = ∑ q ∈ Finset.range (128 * n), f q := by
  induction n with
  | zero => simp
  | succ n ih =>
    rw [show 128 * (n + 1) = 128 * n + 128 by ring, Finset.sum_range_add, ← ih, Finset.sum_range (fun x => f (128 * n + x)), ← Finset.sum_add_distrib]
    exact Finset.sum_congr rfl fun l _ => Finset.sum_range_succ _ _

theorem rowPay_apply (r l : Fin 128) : rowPay a3 h3 x1 (ix3 0 r l) = rms fun q => x1 (ix2 r q) := by
  have e : ∑ l : Fin 128, squares a3 h3 x1 32 (le_refl _) (ix2 r l) = ∑ q : Fin 4096, (x1 (ix2 r q) : EReal) * x1 (ix2 r q) := by
    rw [Finset.sum_congr rfl fun l _ => squares_apply a3 h3 x1 r l 32 (le_refl _), sum_lanes (sq x1 r) 32, Finset.sum_range]
    exact Finset.sum_congr rfl fun q _ => dif_pos q.isLt
  unfold rowPay k0_pay630 k0_pay629
  generalize squares a3 h3 x1 32 (le_refl _) = s at e ⊢
  rw [rms, ← e]
  pointwise

end

end Cert.DgradIdeal.Dgrad

end
-- ==== Proof.DgVal3.lean ====
/-
  The row slices of the product, of the row sums and of the finished block, entry by entry, and what is read back once all
  eight are written.
-/
module

public import proofs.«01_k».proof.Proof.DgVal2

@[expose] public section

set_option maxRecDepth 16384

noncomputable section

namespace Cert.DgradIdeal.Dgrad

open Cert.DgradIdeal Cert.DgradIdeal.Gen Idealize.ShloMosaic Idealize.ShloMosaic.TcCoe Idealize.SL.Sem
open scoped BigOperators

variable (t : Fin grid0.N)

/-! ### Indices of the slices -/

/-- Row `r` of slice `s`. -/
def row (s : Fin 8) (r : Fin 64) : Fin 512 := ⟨64 * s.val + r.val, by omega⟩

/-- Column `l` of group `b`. -/
def col (b : Fin 4) (l : Fin 128) : Fin 512 := ⟨128 * b.val + l.val, by omega⟩

/-- Slot `m + a` of the row factors. -/
def rs (a : Nat) : Fin 3 := ⟨(t.val / 8 + a) % 3, by omega⟩

/-- The slot of the row sums being read out. -/
def cs : Fin 2 := ⟨t.val / 8 % 2, by omega⟩

def jj : Fin 8 := ⟨t.val % 8, by omega⟩

theorem idx3 {A B C a b c : Nat} (o : Fin 3 → Nat) (o' : Fin 3 → Nat) (ho : o = o')
    (h : ∀ x, o x + (⟨3, ![a, b, c]⟩ : Shape).size x ≤ (⟨3, ![A, B, C]⟩ : Shape).size x) (p : Fin a) (q : Fin b) (r : Fin c)
    (P : Fin A) (Q : Fin B) (R : Fin C) (hP : o' 0 + p.val = P.val) (hQ : o' 1 + q.val = Q.val) (hR : o' 2 + r.val = R.val) :
    (Rect.unit (s := ⟨3, ![A, B, C]⟩) o (⟨3, ![a, b, c]⟩ : Shape).size h).toLoadRect.idx (ix3 p q r) = ix3 P Q R := by
  subst ho
  funext x
  apply Fin.ext
  match x with
  | ⟨0, _⟩ => show o 0 + 1 * p.val = P.val; omega
  | ⟨1, _⟩ => show o 1 + 1 * q.val = Q.val; omega
  | ⟨2, _⟩ => show o 2 + 1 * r.val = R.val; omega

theorem idxR (n : Fin 8) (r : Fin 64) (c : Fin 512) :
    (Rect.unit (s := S512x512) ![64 * n.val, 0] S64x512.size (inbR n.val n.isLt)).toLoadRect.idx (ix2 r c) = ix2 (row n r) c := by
  funext x
  apply Fin.ext
  match x with
  | ⟨0, _⟩ => show 64 * n.val + 1 * r.val = 64 * n.val + r.val; omega
  | ⟨1, _⟩ => show 0 + 1 * c.val = c.val; omega

theorem idxG (c : Fin 512) : (Rect.unit (s := S1x512) ![0, 0] S1x512.size inbG).toLoadRect.idx (ix2 0 c) = ix2 0 c := by
  funext x
  apply Fin.ext
  match x with
  | ⟨0, _⟩ => rfl
  | ⟨1, _⟩ => show 0 + 1 * c.val = c.val; omega

theorem idxr (a : Nat) (ha : a < 3) (n : Fin 8) (r : Fin 64) (l : Fin 128) :
    (Rect.unit (s := S3x512x128) (rOff (grid0.coords t) a n.val) S1x64x128.size ((inb t).r a ha n.val n.isLt)).toLoadRect.idx (ix3 0 r l)
      = ix3 (rs t a) (row n r) l :=
  idx3 _ _ (rOff_eq t a ha n.val) _ 0 r l (rs t a) (row n r) l rfl rfl (Nat.zero_add _)

theorem idxc (n : Fin 8) (r : Fin 64) (l : Fin 128) :
    (Rect.unit (s := S2x512x128) (cOff (grid0.coords t) n.val) S1x64x128.size ((inb t).c n.val n.isLt)).toLoadRect.idx (ix3 0 r l)
      = ix3 (cs t) (row n r) l :=
  idx3 _ _ (cOff_eq t n.val) _ 0 r l (cs t) (row n r) l rfl rfl (Nat.zero_add _)

theorem idxe (n : Fin 8) (r : Fin 64) (l : Fin 128) :
    (Rect.unit (s := S2x512x128) (eOff (grid0.coords t) n.val) S1x64x128.size ((inb t).e n.val n.isLt)).toLoadRect.idx (ix3 0 r l)
      = ix3 (qs t) (row n r) l :=
  idx3 _ _ (eOff_eq t n.val) _ 0 r l (qs t) (row n r) l rfl rfl (Nat.zero_add _)

theorem idxn (n : Fin 8) (r : Fin 64) (l : Fin 512) :
    (Rect.unit (s := S8x512x512) (nOff (grid0.coords t) n.val) S1x64x512.size ((inb t).n n.val n.isLt)).toLoadRect.idx (ix3 0 r l)
      = ix3 (jj t) (row n r) l :=
  idx3 _ _ (nOff_eq t n.val) _ 0 r l (jj t) (row n r) l rfl rfl (Nat.zero_add _)

/-! ### The payloads -/

theorem nPay_apply (p : FVec Ideal S512x512 .f32) (n : Fin 8) (r : Fin 64) (c : Fin 512) : nPay p n (ix3 0 r c) = p (ix2 (row n r) c) := by
  unfold nPay
  pointwise
  rfl

theorem share3_apply (v : FVec Ideal S64x512 .f32) (R : Vec Ideal S1x64x128 .f32) (x : Vec Ideal S64x512 .bf16) (g : Vec Ideal S1x512 .f32)
    (r : Fin 64) (c : Fin 512) : share3 v R x g (ix2 r c) = ((v (ix2 r c) : EReal) * ((x (ix2 r c) : EReal) * R (ix3 0 r 0))) * g (ix2 0 c) := by
  unfold share3
  pointwise

theorem sumPay_apply (v : FVec Ideal S64x512 .f32) (old : Vec Ideal S1x64x128 .f32) (r : Fin 64) (l : Fin 128) :
    sumPay (grid0.coords t) v old (ix3 0 r l)
      = (if t.val % 8 = 0 then (0 : EReal) else old (ix3 0 r l)) + ∑ b : Fin 4, (v (ix2 r (col b l)) : EReal) := by
  unfold sumPay
  rw [zero_iff t]
  rw [Fin.sum_univ_four, show col 0 l = ⟨l.val, by omega⟩ from Fin.ext (by show 128 * 0 + l.val = l.val; omega)]
  split
  · pointwise
    rfl
  · pointwise
    rfl

theorem pay3_apply (R : Vec Ideal S1x64x128 .f32) (C : Vec Ideal S1x64x128 .f32) (x : Vec Ideal S64x512 .bf16) (d : Vec Ideal S1x64x512 .f32)
    (g : Vec Ideal S1x512 .f32) (r : Fin 64) (c : Fin 512) :
    k0_pay3 R C x d g (ix2 r c) = (R (ix3 0 r 0) : EReal) * ((d (ix3 0 r c) : EReal) * g (ix2 0 c)
      - ((x (ix2 r c) : EReal) * R (ix3 0 r 0)) * ((∑ l : Fin 128, (C (ix3 0 r l) : EReal)) * Ideal.ofBits .f32 0x39800000#32)) := by
  unfold k0_pay3
  pointwise

section
variable (a4 : Memref sig .tc .vmem S512x512 .bf16) (h4 : a4.IsWhole) (x2 : Vec Ideal S512x512 .bf16)
  (a6 : Memref sig .tc .vmem S1x512 .f32) (h6 : a6.IsWhole) (x4 : Vec Ideal S1x512 .f32)
  (a21 : Memref sig .tc .vmem S3x512x128 .f32) (h21 : a21.IsWhole) (xs2 : Vec Ideal S3x512x128 .f32)
  (a22 : Memref sig .tc .vmem S2x512x128 .f32) (h22 : a22.IsWhole) (xs3 : Vec Ideal S2x512x128 .f32)
  (a5 : Memref sig .tc .vmem S512x512 .bf16) (h5 : a5.IsWhole) (x3 : Vec Ideal S512x512 .bf16)
  (a20 : Memref sig .tc .vmem S8x512x512 .f32) (h20 : a20.IsWhole) (xs1 : Vec Ideal S8x512x512 .f32)
  (a3 : Memref sig .tc .vmem S128x4096 .bf16) (h3 : a3.IsWhole) (x1 : Vec Ideal S128x4096 .bf16)

/-- The finished block's entry. -/
theorem oPay_apply (n : Fin 8) (r : Fin 64) (c : Fin 512) :
    oPay (grid0.coords t) (inb t) a6 h6 x4 a21 h21 xs2 a22 h22 xs3 a5 h5 x3 a20 h20 xs1 n (ix2 r c)
      = (xs2 (ix3 (rs t 1) (row n r) 0) : EReal) * ((xs1 (ix3 (jj t) (row n r) c) : EReal) * x4 (ix2 0 c)
        - ((x3 (ix2 (row n r) c) : EReal) * xs2 (ix3 (rs t 1) (row n r) 0))
          * ((∑ l : Fin 128, (xs3 (ix3 (cs t) (row n r) l) : EReal)) * Ideal.ofBits .f32 0x39800000#32)) := by
  unfold oPay
  rw [pay3_apply, h21.readAt_unread xs2, idxr t 1 (by omega) n r 0, h20.readAt_unread xs1, idxn t n r c, h6.readAt_unread x4, idxG,
    h5.readAt_unread x3, idxR]
  congr 4
  refine Finset.sum_congr rfl fun l _ => ?_
  rw [h22.readAt_unread xs3, idxc t n r l]

/-- The finished block. -/
theorem o_read (v : View sig .tc .vmem S512x512 .bf16) (B : v.ty.Contents (Elt Ideal)) (ρ c : Fin 512) :
    v.read (Elt Ideal) (v.writes (Elt Ideal) B (oPieces (grid0.coords t) (inb t) a6 h6 x4 a21 h21 xs2 a22 h22 xs3 a5 h5 x3 a20 h20 xs1)) (ix2 ρ c)
      = (xs2 (ix3 (rs t 1) ρ 0) : EReal) * ((xs1 (ix3 (jj t) ρ c) : EReal) * x4 (ix2 0 c)
        - ((x3 (ix2 ρ c) : EReal) * xs2 (ix3 (rs t 1) ρ 0))
          * ((∑ l : Fin 128, (xs3 (ix3 (cs t) ρ l) : EReal)) * Ideal.ofBits .f32 0x39800000#32)) := by
  unfold oPieces
  have hρ : ρ = row ⟨ρ.val / 64, by omega⟩ ⟨ρ.val % 64, by omega⟩ := Fin.ext (by show ρ.val = 64 * (ρ.val / 64) + ρ.val % 64; omega)
  rw [View.read_tilePieces v B S64x512.size _ _ _ 8 (le_refl _) (ix2 ρ c) ⟨ρ.val / 64, by omega⟩ (by show ρ.val / 64 < 8; omega)
    (ix2 (⟨ρ.val % 64, by omega⟩ : Fin 64) c) ?_ 0 ?_, oPay_apply, ← hρ]
  · intro a
    match a with
    | ⟨0, _⟩ => show ρ.val = 64 * (ρ.val / 64) + ρ.val % 64; omega
    | ⟨1, _⟩ => show c.val = 0 + c.val; omega
  · intro i' hne
    have hne' : i'.val ≠ ρ.val / 64 := fun h => hne (Fin.ext h)
    show ρ.val < 64 * i'.val ∨ 64 * i'.val + 64 ≤ ρ.val
    omega

/-- The product's block `j` reads the product, the others what was there. -/
theorem n_read (p : FVec Ideal S512x512 .f32) (j : Fin 8) (ρ c : Fin 512) :
    a20.view.read (Elt Ideal) (a20.view.writes (Elt Ideal) (h20.unread xs1) (nPieces (grid0.coords t) (inb t) p)) (ix3 j ρ c)
      = if j = jj t then p (ix2 ρ c) else xs1 (ix3 j ρ c) := by
  unfold nPieces
  split
  · next h =>
    subst h
    have hρ : ρ = row ⟨ρ.val / 64, by omega⟩ ⟨ρ.val % 64, by omega⟩ := Fin.ext (by show ρ.val = 64 * (ρ.val / 64) + ρ.val % 64; omega)
    rw [View.read_tilePieces a20.view _ S1x64x512.size _ _ _ 8 (le_refl _) (ix3 (jj t) ρ c) ⟨ρ.val / 64, by omega⟩
      (by show ρ.val / 64 < 8; omega) (ix3 0 (⟨ρ.val % 64, by omega⟩ : Fin 64) c) ?_ 1 ?_, nPay_apply, ← hρ]
    · intro a
      dsimp only
      rw [nOff_eq]
      match a with
      | ⟨0, _⟩ => rfl
      | ⟨1, _⟩ => show ρ.val = 64 * (ρ.val / 64) + ρ.val % 64; omega
      | ⟨2, _⟩ => show c.val = 0 + c.val; omega
    · intro i' hne
      have hne' : i'.val ≠ ρ.val / 64 := fun h => hne (Fin.ext h)
      dsimp only
      rw [nOff_eq]
      show ρ.val < 64 * i'.val ∨ 64 * i'.val + 64 ≤ ρ.val
      omega
  · next h =>
    have h' : j.val ≠ t.val % 8 := fun e => h (Fin.ext e)
    rw [View.read_tilePieces_miss a20.view _ S1x64x512.size _ _ _ 8 (le_refl _) (ix3 j ρ c) 0 fun i' _ => by
      dsimp only
      rw [nOff_eq]
      show j.val < t.val % 8 ∨ t.val % 8 + 1 ≤ j.val
      omega]
    exact congrFun (h20.read_unread xs1) _

/-- The group's row factors, the other rows what was there. -/
theorem r_read (s : Fin 3) (ρ : Fin 512) (l : Fin 128) :
    a21.view.read (Elt Ideal) (a21.view.writes (Elt Ideal) (h21.unread xs2) [rPiece (grid0.coords t) (inb t) a3 h3 x1]) (ix3 s ρ l)
      = if s.val = t.val / 8 % 3 ∧ ρ.val / 128 = qj t.val / 2 then rms fun q => x1 (ix2 (⟨ρ.val % 128, by omega⟩ : Fin 128) q)
        else xs2 (ix3 s ρ l) := by
  unfold rPiece
  split
  · next h =>
    rw [View.read_writes_cons_unit_of_mem a21.view _ (inb t).g _ [] (ix3 s ρ l) (ix3 0 (⟨ρ.val % 128, by omega⟩ : Fin 128) l) (gOff_eq t) fun a => ?_,
      rowPay_apply]
    match a with
    | ⟨0, _⟩ => exact h.1
    | ⟨1, _⟩ => show ρ.val = 128 * (qj t.val / 2) + ρ.val % 128; omega
    | ⟨2, _⟩ => show l.val = 0 + l.val; omega
  · next h =>
    by_cases hs : s.val = t.val / 8 % 3
    · have hρ : ρ.val / 128 ≠ qj t.val / 2 := fun e => h ⟨hs, e⟩
      rw [View.read_writes_cons_unit_of_not_mem a21.view _ (inb t).g _ [] (ix3 s ρ l) (gOff_eq t) 1
        (by show ρ.val < 128 * (qj t.val / 2) ∨ 128 * (qj t.val / 2) + 128 ≤ ρ.val; omega)]
      exact congrFun (h21.read_unread xs2) _
    · rw [View.read_writes_cons_unit_of_not_mem a21.view _ (inb t).g _ [] (ix3 s ρ l) (gOff_eq t) 0
        (by show s.val < t.val / 8 % 3 ∨ t.val / 8 % 3 + 1 ≤ s.val; omega)]
      exact congrFun (h21.read_unread xs2) _

/-- A slice of the row sums. -/
theorem sPay_apply (p : FVec Ideal S512x512 .f32) (n : Fin 8) (r : Fin 64) (l : Fin 128) :
    sPay (grid0.coords t) (inb t) a4 h4 x2 a6 h6 x4 a21 h21 xs2 a22 h22 xs3 (rPiece (grid0.coords t) (inb t) a3 h3 x1) p n (ix3 0 r l)
      = (if t.val % 8 = 0 then (0 : EReal) else xs3 (ix3 (qs t) (row n r) l))
        + ∑ b : Fin 4, ((p (ix2 (row n r) (col b l)) : EReal) * ((x2 (ix2 (row n r) (col b l)) : EReal) * xs2 (ix3 (rs t 2) (row n r) 0)))
          * x4 (ix2 0 (col b l)) := by
  unfold sPay
  have hr : View.readAt (Elt Ideal) a21.view (Rect.unit (s := S3x512x128) (rOff (grid0.coords t) 2 n.val) S1x64x128.size ((inb t).r 2 (by omega) n.val n.isLt)).toLoadRect
      (a21.view.writes (Elt Ideal) (h21.unread xs2) [rPiece (grid0.coords t) (inb t) a3 h3 x1]) (ix3 0 r 0) = xs2 (ix3 (rs t 2) (row n r) 0) := by
    rw [View.readAt_apply, idxr t 2 (by omega) n r 0, r_read, if_neg]
    rintro ⟨h, -⟩
    have h' : (t.val / 8 + 2) % 3 = t.val / 8 % 3 := h
    omega
  rw [sumPay_apply, h22.readAt_unread xs3, idxe t n r l]
  congr 1
  refine Finset.sum_congr rfl fun b _ => ?_
  rw [share3_apply, hr, h4.readAt_unread x2, idxR, h6.readAt_unread x4, idxG]
  congr 2
  pointwise
  rfl

/-- The row sums. -/
theorem s_read (p : FVec Ideal S512x512 .f32) (s : Fin 2) (ρ : Fin 512) (l : Fin 128) :
    a22.view.read (Elt Ideal) (a22.view.writes (Elt Ideal) (h22.unread xs3)
        (sPieces (grid0.coords t) (inb t) a4 h4 x2 a6 h6 x4 a21 h21 xs2 a22 h22 xs3 (rPiece (grid0.coords t) (inb t) a3 h3 x1) p)) (ix3 s ρ l)
      = if s = qs t then (if t.val % 8 = 0 then (0 : EReal) else xs3 (ix3 (qs t) ρ l))
          + ∑ b : Fin 4, ((p (ix2 ρ (col b l)) : EReal) * ((x2 (ix2 ρ (col b l)) : EReal) * xs2 (ix3 (rs t 2) ρ 0))) * x4 (ix2 0 (col b l))
        else xs3 (ix3 s ρ l) := by
  unfold sPieces
  split
  · next h =>
    subst h
    have hρ : ρ = row ⟨ρ.val / 64, by omega⟩ ⟨ρ.val % 64, by omega⟩ := Fin.ext (by show ρ.val = 64 * (ρ.val / 64) + ρ.val % 64; omega)
    rw [View.read_tilePieces a22.view _ S1x64x128.size _ _ _ 8 (le_refl _) (ix3 (qs t) ρ l) ⟨ρ.val / 64, by omega⟩
      (by show ρ.val / 64 < 8; omega) (ix3 0 (⟨ρ.val % 64, by omega⟩ : Fin 64) l) ?_ 1 ?_, sPay_apply, ← hρ]
    · intro a
      dsimp only
      rw [eOff_eq]
      match a with
      | ⟨0, _⟩ => rfl
      | ⟨1, _⟩ => show ρ.val = 64 * (ρ.val / 64) + ρ.val % 64; omega
      | ⟨2, _⟩ => show l.val = 0 + l.val; omega
    · intro i' hne
      have hne' : i'.val ≠ ρ.val / 64 := fun h => hne (Fin.ext h)
      dsimp only
      rw [eOff_eq]
      show ρ.val < 64 * i'.val ∨ 64 * i'.val + 64 ≤ ρ.val
      omega
  · next h =>
    have h' : s.val ≠ (t.val / 8 + 1) % 2 := fun e => h (Fin.ext e)
    rw [View.read_tilePieces_miss a22.view _ S1x64x128.size _ _ _ 8 (le_refl _) (ix3 s ρ l) 0 fun i' _ => by
      dsimp only
      rw [eOff_eq]
      show s.val < (t.val / 8 + 1) % 2 ∨ (t.val / 8 + 1) % 2 + 1 ≤ s.val
      omega]
    exact congrFun (h22.read_unread xs3) _

end

end Cert.DgradIdeal.Dgrad

end
-- ==== Proof.DgStep.lean ====
/-
  One grid point's step: what each carried array and the finished block hold after the point, from what they held before.
-/
module

public import proofs.«01_k».proof.Proof.DgFrame2
public import proofs.«01_k».proof.Proof.DgRun
public import proofs.«01_k».proof.Proof.DgVal3

@[expose] public section

set_option maxRecDepth 16384
set_option maxHeartbeats 1000000

noncomputable section

namespace Cert.DgradIdeal.Dgrad

open Cert.DgradIdeal Cert.DgradIdeal.Gen Idealize.ShloMosaic Idealize.ShloMosaic.TcCoe Idealize.SL Idealize.SL.Sem
open scoped BigOperators

variable (m : (ℓ : Loc nD τ sig) → Buf (Elt Ideal) ℓ) (c : Dev nD) (t : Fin grid0.N)

/-- The point before. -/
abbrev prev := outsAt0 m c (t.val - 1) (Nat.lt_of_le_of_lt (Nat.sub_le _ _) t.isLt)

abbrev now := outsAt0 m c t.val t.isLt

abbrev D0 : Vec Ideal S128x5504 .bf16 := iblk m c 0 t
abbrev X1 : Vec Ideal S128x4096 .bf16 := iblk m c 1 t
abbrev X2 : Vec Ideal S512x512 .bf16 := iblk m c 2 t
abbrev X3 : Vec Ideal S512x512 .bf16 := iblk m c 3 t
abbrev G4 : Vec Ideal S1x512 .f32 := iblk m c 4 t
abbrev W6 : Vec Ideal S512x11008 .fp8e4m3 := iblk m c 6 t
abbrev S7 : Vec Ideal S32x86 .f32 := iblk m c 7 t

section
variable {α β γ δ ε : Type} {x : α × β × γ × δ × ε} {a : α} {b : β} {g : γ} {d : δ} {e : ε} (h : x = (a, b, g, d, e))
include h
theorem pick8 : x.1 = a := by rw [h]
theorem pick0 : x.2.1 = b := by rw [h]
theorem pick1 : x.2.2.1 = g := by rw [h]
theorem pick2 : x.2.2.2.1 = d := by rw [h]
theorem pick3 : x.2.2.2.2 = e := by rw [h]
end

/-! ### The arrays after a point, as pieces over the arrays before it -/

theorem s0_first (h : t.val = 0) : ∃ B, (now m c t).2.1 = scM0_0.view.read (Elt Ideal) (scM0_0.view.writes (Elt Ideal) B
      (dyPieces (grid0.coords t) (inb t) (ms0_0 t) (hs0_0 t) (D0 m c t) 43 (le_refl _))) :=
  by rw [pick0 (outsAt0_A m c t (by omega) (by omega) (by omega) (by omega) (by omega) (by omega))]; exact (run_A (F := Ideal) (inb t)).1

theorem s0_next (h : t.val < 200) (z : t.val ≠ 0) : (now m c t).2.1 = scM0_0.view.read (Elt Ideal) (scM0_0.view.writes (Elt Ideal) ((Memref.isWhole_whole _ : scM0_0.IsWhole).unread (prev m c t).2.1)
      (dyPieces (grid0.coords t) (inb t) (ms0_0 t) (hs0_0 t) (D0 m c t) 43 (le_refl _))) := by
  by_cases h8 : t.val < 8
  · by_cases e : t.val % 2 = 0
    · exact (pick0 (outsAt0_C m c t (by omega) (by omega) (by omega) (by omega) (by omega) (by omega))).trans (run_C (xs2 := (prev m c t).2.2.2.1) (inb t)).1
    · exact (pick0 (outsAt0_B m c t (by omega) (by omega) (by omega) (by omega) (by omega) (by omega))).trans (run_B (xs2 := (prev m c t).2.2.2.1) (inb t)).1
  · by_cases h1 : t.val < 192
    · by_cases e : t.val % 2 = 0
      · exact (pick0 (outsAt0_D m c t (by omega) (by omega) (by omega) (by omega) (by omega) (by omega))).trans (run_D (inb t)).1
      · exact (pick0 (outsAt0_E m c t (by omega) (by omega) (by omega) (by omega) (by omega) (by omega))).trans (run_E (inb t)).1
    · exact (pick0 (outsAt0_F m c t (by omega) (by omega) (by omega) (by omega) (by omega))).trans (run_F (inb t)).1

theorem s2_first (h : t.val = 0) : ∃ B, (now m c t).2.2.2.1 = scM0_2.view.read (Elt Ideal) (scM0_2.view.writes (Elt Ideal) B
      [(rPiece (grid0.coords t) (inb t) (ms0_1 t) (hs0_1 t) (X1 m c t))]) :=
  by rw [pick2 (outsAt0_A m c t (by omega) (by omega) (by omega) (by omega) (by omega) (by omega))]; exact (run_A (F := Ideal) (inb t)).2

theorem s2_next (h : t.val < 200) (z : t.val ≠ 0) : (now m c t).2.2.2.1 = scM0_2.view.read (Elt Ideal) (scM0_2.view.writes (Elt Ideal) ((Memref.isWhole_whole _ : scM0_2.IsWhole).unread (prev m c t).2.2.2.1)
      [(rPiece (grid0.coords t) (inb t) (ms0_1 t) (hs0_1 t) (X1 m c t))]) := by
  by_cases h8 : t.val < 8
  · by_cases e : t.val % 2 = 0
    · exact (pick2 (outsAt0_C m c t (by omega) (by omega) (by omega) (by omega) (by omega) (by omega))).trans (run_C (xs0 := (prev m c t).2.1) (inb t)).2
    · exact (pick2 (outsAt0_B m c t (by omega) (by omega) (by omega) (by omega) (by omega) (by omega))).trans (run_B (xs0 := (prev m c t).2.1) (inb t)).2
  · by_cases h1 : t.val < 192
    · by_cases e : t.val % 2 = 0
      · exact (pick2 (outsAt0_D m c t (by omega) (by omega) (by omega) (by omega) (by omega) (by omega))).trans (run_D (inb t)).2.2.1
      · exact (pick2 (outsAt0_E m c t (by omega) (by omega) (by omega) (by omega) (by omega) (by omega))).trans (run_E (inb t)).2.2.1
    · exact (pick2 (outsAt0_F m c t (by omega) (by omega) (by omega) (by omega) (by omega))).trans (run_F (inb t)).2.2.1

theorem s1_next (h8 : 8 ≤ t.val) (h : t.val < 200) : (now m c t).2.2.1 = scM0_1.view.read (Elt Ideal) (scM0_1.view.writes (Elt Ideal) ((Memref.isWhole_whole _ : scM0_1.IsWhole).unread (prev m c t).2.2.1)
      (nPieces (grid0.coords t) (inb t)
        (acc (grid0.coords t) (inb t) (ms0_0 t) (hs0_0 t) (D0 m c t) (ms0_6 t) (hs0_6 t) (W6 m c t) (ms0_7 t) (hs0_7 t) (S7 m c t) scM0_0 (Memref.isWhole_whole _) (prev m c t).2.1 42 (by omega)))) := by
  by_cases h1 : t.val < 192
  · by_cases e : t.val % 2 = 0
    · exact (pick1 (outsAt0_D m c t (by omega) (by omega) (by omega) (by omega) (by omega) (by omega))).trans (run_D (inb t)).2.1
    · exact (pick1 (outsAt0_E m c t (by omega) (by omega) (by omega) (by omega) (by omega) (by omega))).trans (run_E (inb t)).2.1
  · exact (pick1 (outsAt0_F m c t (by omega) (by omega) (by omega) (by omega) (by omega))).trans (run_F (inb t)).2.1

theorem s3_next (h8 : 8 ≤ t.val) (h : t.val < 200) : (now m c t).2.2.2.2 = scM0_3.view.read (Elt Ideal) (scM0_3.view.writes (Elt Ideal) ((Memref.isWhole_whole _ : scM0_3.IsWhole).unread (prev m c t).2.2.2.2)
      (sPieces (grid0.coords t) (inb t) (ms0_2 t) (hs0_2 t) (X2 m c t) (ms0_4 t) (hs0_4 t) (G4 m c t) scM0_2 (Memref.isWhole_whole _) (prev m c t).2.2.2.1
      scM0_3 (Memref.isWhole_whole _) (prev m c t).2.2.2.2 (rPiece (grid0.coords t) (inb t) (ms0_1 t) (hs0_1 t) (X1 m c t))
      (acc (grid0.coords t) (inb t) (ms0_0 t) (hs0_0 t) (D0 m c t) (ms0_6 t) (hs0_6 t) (W6 m c t) (ms0_7 t) (hs0_7 t) (S7 m c t) scM0_0 (Memref.isWhole_whole _) (prev m c t).2.1 42 (by omega)))) := by
  by_cases h1 : t.val < 192
  · by_cases e : t.val % 2 = 0
    · exact (pick3 (outsAt0_D m c t (by omega) (by omega) (by omega) (by omega) (by omega) (by omega))).trans (run_D (inb t)).2.2.2.1
    · exact (pick3 (outsAt0_E m c t (by omega) (by omega) (by omega) (by omega) (by omega) (by omega))).trans (run_E (inb t)).2.2.2.1
  · exact (pick3 (outsAt0_F m c t (by omega) (by omega) (by omega) (by omega) (by omega))).trans (run_F (inb t)).2.2.2.1

theorem out_next (h8 : 8 ≤ t.val) : ∃ B, (now m c t).1 = VO0_8.read (Elt Ideal) (VO0_8.writes (Elt Ideal) B
      (oPieces (grid0.coords t) (inb t) (ms0_4 t) (hs0_4 t) (G4 m c t) scM0_2 (Memref.isWhole_whole _) (prev m c t).2.2.2.1 scM0_3 (Memref.isWhole_whole _) (prev m c t).2.2.2.2
      (ms0_3 t) (hs0_3 t) (X3 m c t) scM0_1 (Memref.isWhole_whole _) (prev m c t).2.2.1)) := by
  have hN : t.val < 208 := t.isLt
  refine ⟨VO0_8.junk, ?_⟩
  by_cases h2 : t.val < 200
  · by_cases h1 : t.val < 192
    · by_cases e : t.val % 2 = 0
      · exact (pick8 (outsAt0_D m c t (by omega) (by omega) (by omega) (by omega) (by omega) (by omega))).trans (run_D (inb t)).2.2.2.2
      · exact (pick8 (outsAt0_E m c t (by omega) (by omega) (by omega) (by omega) (by omega) (by omega))).trans (run_E (inb t)).2.2.2.2
    · exact (pick8 (outsAt0_F m c t (by omega) (by omega) (by omega) (by omega) (by omega))).trans (run_F (inb t)).2.2.2.2
  · exact (pick8 (outsAt0_G m c t (by omega) (by omega) (by omega) (by omega) (by omega))).trans (run_G (inb t))

/-- The last eight points leave the carried arrays as they are. -/
theorem last_same (h : 200 ≤ t.val) : (now m c t).2.1 = (prev m c t).2.1 ∧ (now m c t).2.2.1 = (prev m c t).2.2.1
    ∧ (now m c t).2.2.2.1 = (prev m c t).2.2.2.1 ∧ (now m c t).2.2.2.2 = (prev m c t).2.2.2.2 := by
  have hN : t.val < 208 := t.isLt
  have e := outsAt0_G m c t (by omega) (by omega) (by omega) (by omega) (by omega)
  exact ⟨pick0 e, pick1 e, pick2 e, pick3 e⟩

end Cert.DgradIdeal.Dgrad

end
-- ==== Proof.DgBlocks.lean ====
/-
  The blocks a grid point reads, as parts of the argument arrays.
-/
module

public import proofs.«01_k».proof.Proof.DgStep

@[expose] public section

set_option maxRecDepth 16384
set_option maxHeartbeats 1000000

noncomputable section

namespace Cert.DgradIdeal.Dgrad

open Cert.DgradIdeal Cert.DgradIdeal.Gen Idealize.ShloMosaic Idealize.ShloMosaic.TcCoe Idealize.SL Idealize.SL.Sem
open scoped BigOperators

/-! ### Where the blocks lie -/

theorem at0 : ∀ t : Fin grid0.N, win0_0.index t (0 : Fin 2) = 4 * min (t.val / 8) 23 + qj t.val / 2 ∧ win0_0.index t (1 : Fin 2) = qj t.val % 2 := by
  decide +kernel
theorem at1 : ∀ t : Fin grid0.N, win0_1.index t (0 : Fin 2) = 4 * min (t.val / 8) 23 + qj t.val / 2 ∧ win0_1.index t (1 : Fin 2) = 0 := by
  decide +kernel
theorem at2 : ∀ t : Fin grid0.N, 8 ≤ t.val → t.val < 200 → win0_2.index t (0 : Fin 2) = t.val / 8 - 1 ∧ win0_2.index t (1 : Fin 2) = t.val % 8 := by
  decide +kernel
theorem at3 : ∀ t : Fin grid0.N, 16 ≤ t.val → win0_3.index t (0 : Fin 2) = t.val / 8 - 2 ∧ win0_3.index t (1 : Fin 2) = t.val % 8 := by
  decide +kernel
theorem at4 : ∀ t : Fin grid0.N, win0_4.index t (0 : Fin 2) = 0 ∧ win0_4.index t (1 : Fin 2) = t.val % 8 := by
  decide +kernel
theorem at6 : ∀ t : Fin grid0.N, 8 ≤ t.val → t.val < 200 → win0_6.index t (0 : Fin 2) = t.val % 8 ∧ win0_6.index t (1 : Fin 2) = 0 := by
  decide +kernel
theorem at7 : ∀ t : Fin grid0.N, win0_7.index t (0 : Fin 2) = 0 ∧ win0_7.index t (1 : Fin 2) = 0 := by
  decide +kernel
theorem at8 : ∀ t : Fin grid0.N, 16 ≤ t.val → win0_8.index t (0 : Fin 2) = t.val / 8 - 2 ∧ win0_8.index t (1 : Fin 2) = t.val % 8 := by
  decide +kernel
/-- The first two rows of points write nothing back; every later point does. -/
theorem flush8 : ∀ t : Fin grid0.N, win0_8.flush t = true ↔ 16 ≤ t.val := by
  decide +kernel

variable (m : (ℓ : Loc nD τ sig) → Buf (Elt Ideal) ℓ) (c : Dev nD) (t : Fin grid0.N)

/-! ### The arguments -/

abbrev Xa : Vec Ideal S12288x4096 .bf16 := m ((c : Thread nD τ).loc main_arg0)
abbrev Γa : Vec Ideal S1x4096 .f32 := m ((c : Thread nD τ).loc main_arg1)
abbrev Wa : Vec Ideal S4096x11008 .fp8e4m3 := m ((c : Thread nD τ).loc main_arg2)
abbrev Sa : Vec Ideal S32x86 .f32 := m ((c : Thread nD τ).loc main_arg3)
abbrev Da : Vec Ideal S12288x11008 .bf16 := m ((c : Thread nD τ).loc main_arg4)

/-! ### The blocks -/

theorem D0_eq (r : Fin 128) (κ : Fin 5504) (R : Fin 12288) (O : Fin 11008) (hR : R.val = 512 * min (t.val / 8) 23 + 128 * (qj t.val / 2) + r.val)
    (hO : O.val = 5504 * (qj t.val % 2) + κ.val) : D0 m c t (ix2 r κ) = Da m c (ix2 R O) := by
  obtain ⟨e0, e1⟩ := at0 t
  refine congrArg (m ((c : Thread nD τ).loc main_arg4)) (funext fun a => Fin.ext ?_)
  match a with
  | ⟨0, _⟩ => show win0_0.index t (0 : Fin 2) * 128 + 1 * r.val = R.val; omega
  | ⟨1, _⟩ => show win0_0.index t (1 : Fin 2) * 5504 + 1 * κ.val = O.val; omega

theorem X1_eq (r : Fin 128) (q : Fin 4096) (R : Fin 12288) (hR : R.val = 512 * min (t.val / 8) 23 + 128 * (qj t.val / 2) + r.val) :
    X1 m c t (ix2 r q) = Xa m c (ix2 R q) := by
  obtain ⟨e0, e1⟩ := at1 t
  refine congrArg (m ((c : Thread nD τ).loc main_arg0)) (funext fun a => Fin.ext ?_)
  match a with
  | ⟨0, _⟩ => show win0_1.index t (0 : Fin 2) * 128 + 1 * r.val = R.val; omega
  | ⟨1, _⟩ => show win0_1.index t (1 : Fin 2) * 4096 + 1 * q.val = q.val; omega

theorem X2_eq (h8 : 8 ≤ t.val) (h2 : t.val < 200) (ρ γ : Fin 512) (R : Fin 12288) (C : Fin 4096) (hR : R.val + 512 = 512 * (t.val / 8) + ρ.val)
    (hC : C.val = 512 * (t.val % 8) + γ.val) : X2 m c t (ix2 ρ γ) = Xa m c (ix2 R C) := by
  obtain ⟨e0, e1⟩ := at2 t h8 h2
  refine congrArg (m ((c : Thread nD τ).loc main_arg0)) (funext fun a => Fin.ext ?_)
  match a with
  | ⟨0, _⟩ => show win0_2.index t (0 : Fin 2) * 512 + 1 * ρ.val = R.val; omega
  | ⟨1, _⟩ => show win0_2.index t (1 : Fin 2) * 512 + 1 * γ.val = C.val; omega

theorem X3_eq (h16 : 16 ≤ t.val) (ρ γ : Fin 512) (R : Fin 12288) (C : Fin 4096) (hR : R.val + 1024 = 512 * (t.val / 8) + ρ.val)
    (hC : C.val = 512 * (t.val % 8) + γ.val) : X3 m c t (ix2 ρ γ) = Xa m c (ix2 R C) := by
  obtain ⟨e0, e1⟩ := at3 t h16
  refine congrArg (m ((c : Thread nD τ).loc main_arg0)) (funext fun a => Fin.ext ?_)
  match a with
  | ⟨0, _⟩ => show win0_3.index t (0 : Fin 2) * 512 + 1 * ρ.val = R.val; omega
  | ⟨1, _⟩ => show win0_3.index t (1 : Fin 2) * 512 + 1 * γ.val = C.val; omega

theorem G4_eq (γ : Fin 512) (C : Fin 4096) (hC : C.val = 512 * (t.val % 8) + γ.val) : G4 m c t (ix2 0 γ) = Γa m c (ix2 0 C) := by
  obtain ⟨e0, e1⟩ := at4 t
  refine congrArg (m ((c : Thread nD τ).loc main_arg1)) (funext fun a => Fin.ext ?_)
  match a with
  | ⟨0, _⟩ => show win0_4.index t (0 : Fin 2) * 1 + 1 * 0 = 0; omega
  | ⟨1, _⟩ => show win0_4.index t (1 : Fin 2) * 512 + 1 * γ.val = C.val; omega

theorem W6_eq (h8 : 8 ≤ t.val) (h2 : t.val < 200) (γ : Fin 512) (o : Fin 11008) (C : Fin 4096) (hC : C.val = 512 * (t.val % 8) + γ.val) :
    W6 m c t (ix2 γ o) = Wa m c (ix2 C o) := by
  obtain ⟨e0, e1⟩ := at6 t h8 h2
  refine congrArg (m ((c : Thread nD τ).loc main_arg2)) (funext fun a => Fin.ext ?_)
  match a with
  | ⟨0, _⟩ => show win0_6.index t (0 : Fin 2) * 512 + 1 * γ.val = C.val; omega
  | ⟨1, _⟩ => show win0_6.index t (1 : Fin 2) * 11008 + 1 * o.val = o.val; omega

theorem S7_eq (a : Fin 32) (b : Fin 86) : S7 m c t (ix2 a b) = Sa m c (ix2 a b) := by
  obtain ⟨e0, e1⟩ := at7 t
  refine congrArg (m ((c : Thread nD τ).loc main_arg3)) (funext fun x => Fin.ext ?_)
  match x with
  | ⟨0, _⟩ => show win0_7.index t (0 : Fin 2) * 32 + 1 * a.val = a.val; omega
  | ⟨1, _⟩ => show win0_7.index t (1 : Fin 2) * 86 + 1 * b.val = b.val; omega

/-- The point's widened weights are the array's. -/
theorem wv_eq (h8 : 8 ≤ t.val) (h2 : t.val < 200) (γ : Fin 512) (o : Fin 11008) (C : Fin 4096) (hC : C.val = 512 * (t.val % 8) + γ.val) :
    wv t (W6 m c t) (S7 m c t) γ o = wide (Wa m c) (Sa m c) C o := by
  unfold wv wide
  rw [W6_eq m c t h8 h2 γ o C hC, S7_eq]
  refine congrArg (fun a : Fin 32 => (Wa m c (ix2 C o) : EReal) * Sa m c (ix2 a _)) (Fin.ext ?_)
  show 4 * (t.val % 8) + γ.val / 128 = C.val / 128
  omega

/-- A quantised value of the point is the array's. -/
theorem dyq_at (h : t.val < 192) (r : Fin 128) (b : Nat) (hb : b < 43) (l : Fin 128) (R : Fin 12288) (O : Fin 11008)
    (hR : R.val = 512 * (t.val / 8) + 128 * (qj t.val / 2) + r.val) (hO : O.val = 5504 * (qj t.val % 2) + 128 * b + l.val) :
    quant (fun u : Fin 128 => D0 m c t (ix2 r ⟨128 * b + u.val, by omega⟩)) l = dyq (Da m c) R O := by
  unfold dyq
  have e : l = ⟨O.val % 128, by omega⟩ := Fin.ext (by show l.val = O.val % 128; omega)
  rw [e]
  refine congrArg (fun f => quant f _) (funext fun u => ?_)
  refine D0_eq m c t r _ R _ (by omega) ?_
  show 128 * (O.val / 128) + u.val = 5504 * (qj t.val % 2) + (128 * b + u.val)
  omega

theorem rms_at (h : t.val < 192) (r : Fin 128) (R : Fin 12288) (hR : R.val = 512 * (t.val / 8) + 128 * (qj t.val / 2) + r.val) :
    rms (fun q => X1 m c t (ix2 r q)) = rr (Xa m c) R :=
  congrArg rms (funext fun q => X1_eq m c t r q R (by omega))

end Cert.DgradIdeal.Dgrad

end
-- ==== Proof.DgInv.lean ====
/-
  What the carried arrays hold point by point, and with it what the finished blocks hold: the input gradient.
-/
module

public import proofs.«01_k».proof.Proof.DgBlocks

@[expose] public section

set_option maxRecDepth 16384
set_option maxHeartbeats 1000000

noncomputable section

namespace Cert.DgradIdeal.Dgrad

open Cert.DgradIdeal Cert.DgradIdeal.Gen Idealize.ShloMosaic Idealize.ShloMosaic.TcCoe Idealize.SL Idealize.SL.Sem
open scoped BigOperators

section
variable (X : Vec Ideal S12288x4096 .bf16) (Γ : Vec Ideal S1x4096 .f32) (W : Vec Ideal S4096x11008 .fp8e4m3)
  (S : Vec Ideal S32x86 .f32) (D : Vec Ideal S12288x11008 .bf16)

/-- A column's share, zero for a column that is not there. -/
def shareN (R : Fin 12288) (n : Nat) : EReal := if h : n < 4096 then share X Γ W S D R ⟨n, h⟩ else 0

/-- Lane `l`'s shares over the first `n` column blocks. -/
def part (R : Fin 12288) (l : Fin 128) (n : Nat) : EReal :=
  ∑ j ∈ Finset.range n, ∑ b : Fin 4, shareN X Γ W S D R (512 * j + (128 * b.val + l.val))

theorem part_zero (R : Fin 12288) (l : Fin 128) : part X Γ W S D R l 0 = 0 := Finset.sum_range_zero _

theorem part_succ (R : Fin 12288) (l : Fin 128) (n : Nat) :
    part X Γ W S D R l (n + 1) = part X Γ W S D R l n + ∑ b : Fin 4, shareN X Γ W S D R (512 * n + (128 * b.val + l.val)) :=
  Finset.sum_range_succ _ _

/-- The carried arrays with `k` column blocks of row block `m` done: the quantised gradient of this block and the one before, the
    row factors of this block and the two before, the product and the row sums of the block before and of the one before that. -/
structure Inv (S0 : Vec Ideal S2x512x11008 .bf16) (S1 : Vec Ideal S8x512x512 .f32) (S2 : Vec Ideal S3x512x128 .f32)
    (S3 : Vec Ideal S2x512x128 .f32) (m k : Nat) : Prop where
  qnow : m ≤ 23 → ∀ (s : Fin 2) (ρ : Fin 512) (κ : Fin 11008) (R : Fin 12288), s.val = m % 2 → R.val = 512 * m + ρ.val →
    2 * (ρ.val / 128) + κ.val / 5504 < k → S0 (ix3 s ρ κ) = dyq D R κ
  qold : 1 ≤ m → m ≤ 24 → ∀ (s : Fin 2) (ρ : Fin 512) (κ : Fin 11008) (R : Fin 12288), s.val = (m + 1) % 2 → R.val + 512 = 512 * m + ρ.val →
    S0 (ix3 s ρ κ) = dyq D R κ
  rnow : m ≤ 23 → ∀ (s : Fin 3) (ρ : Fin 512) (l : Fin 128) (R : Fin 12288), s.val = m % 3 → R.val = 512 * m + ρ.val →
    2 * (ρ.val / 128) < k → S2 (ix3 s ρ l) = rr X R
  r1 : 1 ≤ m → m ≤ 24 → ∀ (s : Fin 3) (ρ : Fin 512) (l : Fin 128) (R : Fin 12288), s.val = (m + 2) % 3 → R.val + 512 = 512 * m + ρ.val →
    S2 (ix3 s ρ l) = rr X R
  r2 : 2 ≤ m → m ≤ 25 → ∀ (s : Fin 3) (ρ : Fin 512) (l : Fin 128) (R : Fin 12288), s.val = (m + 1) % 3 → R.val + 1024 = 512 * m + ρ.val →
    S2 (ix3 s ρ l) = rr X R
  nnow : 1 ≤ m → m ≤ 24 → ∀ (j : Fin 8) (ρ γ : Fin 512) (R : Fin 12288) (C : Fin 4096), j.val < k → R.val + 512 = 512 * m + ρ.val →
    C.val = 512 * j.val + γ.val → S1 (ix3 j ρ γ) = dxn W S D R C
  nold : 2 ≤ m → m ≤ 25 → ∀ (j : Fin 8) (ρ γ : Fin 512) (R : Fin 12288) (C : Fin 4096), k ≤ j.val ∨ m = 25 → R.val + 1024 = 512 * m + ρ.val →
    C.val = 512 * j.val + γ.val → S1 (ix3 j ρ γ) = dxn W S D R C
  cnow : 1 ≤ m → m ≤ 24 → 0 < k → ∀ (s : Fin 2) (ρ : Fin 512) (l : Fin 128) (R : Fin 12288), s.val = (m + 1) % 2 → R.val + 512 = 512 * m + ρ.val →
    S3 (ix3 s ρ l) = part X Γ W S D R l k
  cold : 2 ≤ m → m ≤ 25 → ∀ (s : Fin 2) (ρ : Fin 512) (l : Fin 128) (R : Fin 12288), s.val = m % 2 → R.val + 1024 = 512 * m + ρ.val →
    S3 (ix3 s ρ l) = part X Γ W S D R l 8

variable {X Γ W S D}

/-- A finished row block is the block before the next one. -/
theorem Inv.roll {S0 S1 S2 S3} {m : Nat} (h : Inv X Γ W S D S0 S1 S2 S3 m 8) : Inv X Γ W S D S0 S1 S2 S3 (m + 1) 0 where
  qnow _ _ _ _ _ _ _ hk := absurd hk (Nat.not_lt_zero _)
  qold _ _ s ρ κ R hs hR := h.qnow (by omega) s ρ κ R (by omega) (by omega) (by omega)
  rnow _ _ _ _ _ _ _ hk := absurd hk (Nat.not_lt_zero _)
  r1 _ _ s ρ l R hs hR := h.rnow (by omega) s ρ l R (by omega) (by omega) (by omega)
  r2 _ _ s ρ l R hs hR := h.r1 (by omega) (by omega) s ρ l R (by omega) (by omega)
  nnow _ _ _ _ _ _ _ hk := absurd hk (Nat.not_lt_zero _)
  nold _ _ j ρ γ R C _ hR hC := h.nnow (by omega) (by omega) j ρ γ R C j.isLt (by omega) hC
  cnow _ _ hk := absurd hk (Nat.not_lt_zero _)
  cold _ _ s ρ l R hs hR := h.cnow (by omega) (by omega) (by omega) s ρ l R (by omega) (by omega)

end

variable (m : (ℓ : Loc nD τ sig) → Buf (Elt Ideal) ℓ) (c : Dev nD) (t : Fin grid0.N)

/-! ### One entry after a point -/

theorem qj_live (h : t.val < 192) : qj t.val = t.val % 8 := if_pos h

/-- An entry of the quantised gradient whose block and half the point writes. -/
theorem s0_mem (B) (h : t.val < 192) (s : Fin 2) (ρ : Fin 512) (κ : Fin 11008) (R : Fin 12288) (hs : s.val = t.val / 8 % 2)
    (hR : R.val = 512 * (t.val / 8) + ρ.val) (hu : 2 * (ρ.val / 128) + κ.val / 5504 = t.val % 8) :
    scM0_0.view.read (Elt Ideal) (scM0_0.view.writes (Elt Ideal) B
      (dyPieces (grid0.coords t) (inb t) (ms0_0 t) (hs0_0 t) (D0 m c t) 43 (le_refl _))) (ix3 s ρ κ) = dyq (Da m c) R κ := by
  have e := qj_live t h
  refine (dy_read_mem t _ _ _ _ _ 43 (le_refl _) s ρ κ hs ⟨ρ.val % 128, by omega⟩ ?_ (κ.val % 5504 / 128) (by omega) ⟨κ.val % 128, by omega⟩ ?_).trans
    (dyq_at m c t h _ _ (by omega) _ R κ ?_ ?_)
  · show ρ.val = 128 * (qj t.val / 2) + ρ.val % 128; omega
  · show κ.val = 5504 * (qj t.val % 2) + 128 * (κ.val % 5504 / 128) + κ.val % 128; omega
  · show R.val = 512 * (t.val / 8) + 128 * (qj t.val / 2) + ρ.val % 128; omega
  · show κ.val = 5504 * (qj t.val % 2) + 128 * (κ.val % 5504 / 128) + κ.val % 128; omega

/-- Any other entry of it. -/
theorem s0_miss (h : t.val < 200) (z : t.val ≠ 0) (s : Fin 2) (ρ : Fin 512) (κ : Fin 11008)
    (hm : s.val ≠ t.val / 8 % 2 ∨ ρ.val / 128 ≠ qj t.val / 2 ∨ κ.val / 5504 ≠ qj t.val % 2) :
    (now m c t).2.1 (ix3 s ρ κ) = (prev m c t).2.1 (ix3 s ρ κ) :=
  (congrFun (s0_next m c t h z) _).trans ((dy_read_miss t _ _ _ _ _ 43 (le_refl _) s ρ κ hm).trans
    (congrFun (Memref.IsWhole.read_unread _ _) _))

theorem s2_at (h : t.val < 200) (z : t.val ≠ 0) (s : Fin 3) (ρ : Fin 512) (l : Fin 128) :
    (now m c t).2.2.2.1 (ix3 s ρ l) = if s.val = t.val / 8 % 3 ∧ ρ.val / 128 = qj t.val / 2
      then rms fun q => X1 m c t (ix2 (⟨ρ.val % 128, by omega⟩ : Fin 128) q) else (prev m c t).2.2.2.1 (ix3 s ρ l) :=
  (congrFun (s2_next m c t h z) _).trans (r_read ..)

/-- The point's product is the gradient of the normalised input times gamma. -/
theorem acc_at (h8 : 8 ≤ t.val) (h : t.val < 200) (ρ γ : Fin 512) (R : Fin 12288) (C : Fin 4096) (hC : C.val = 512 * (t.val % 8) + γ.val)
    (hq : ∀ o, (prev m c t).2.1 (ix3 (qs t) ρ o) = dyq (Da m c) R o) :
    acc (grid0.coords t) (inb t) (ms0_0 t) (hs0_0 t) (D0 m c t) (ms0_6 t) (hs0_6 t) (W6 m c t) (ms0_7 t) (hs0_7 t) (S7 m c t) scM0_0 (Memref.isWhole_whole _) (prev m c t).2.1 42 (by omega) (ix2 ρ γ)
      = dxn (Wa m c) (Sa m c) (Da m c) R C := by
  refine (acc_apply t _ _ _ _ _ _ _ _ _ _ _ _ ρ γ).trans (Finset.sum_congr rfl fun o _ => ?_)
  rw [hq o, wv_eq m c t h8 h γ o C hC]

/-! ### The step -/

theorem step (I : Inv (Xa m c) (Γa m c) (Wa m c) (Sa m c) (Da m c) (prev m c t).2.1 (prev m c t).2.2.1 (prev m c t).2.2.2.1 (prev m c t).2.2.2.2
      (t.val / 8) (t.val % 8)) (z : t.val ≠ 0) :
    Inv (Xa m c) (Γa m c) (Wa m c) (Sa m c) (Da m c) (now m c t).2.1 (now m c t).2.2.1 (now m c t).2.2.2.1 (now m c t).2.2.2.2
      (t.val / 8) (t.val % 8 + 1) := by
  have hN : t.val < 208 := t.isLt
  by_cases h : t.val < 200
  · have q (h8 : 8 ≤ t.val) (ρ : Fin 512) (R : Fin 12288) (hR : R.val + 512 = 512 * (t.val / 8) + ρ.val) (o : Fin 11008) :
        (prev m c t).2.1 (ix3 (qs t) ρ o) = dyq (Da m c) R o := I.qold (by omega) (by omega) (qs t) ρ o R rfl hR
    refine ⟨?_, ?_, ?_, ?_, ?_, ?_, ?_, ?_, ?_⟩
    · intro hm s ρ κ R hs hR hk
      have e := qj_live t (by omega)
      by_cases hu : 2 * (ρ.val / 128) + κ.val / 5504 = t.val % 8
      · exact (congrFun (s0_next m c t h z) _).trans (s0_mem m c t _ (by omega) s ρ κ R hs hR hu)
      · exact (s0_miss m c t h z s ρ κ (by omega)).trans (I.qnow hm s ρ κ R hs hR (by omega))
    · intro h1 hm s ρ κ R hs hR
      exact (s0_miss m c t h z s ρ κ (by omega)).trans (I.qold h1 hm s ρ κ R hs hR)
    · intro hm s ρ l R hs hR hk
      have e := qj_live t (by omega)
      rw [s2_at m c t h z]
      split
      · exact rms_at m c t (by omega) _ R (by show R.val = 512 * (t.val / 8) + 128 * (qj t.val / 2) + ρ.val % 128; omega)
      · exact I.rnow hm s ρ l R hs hR (by omega)
    · intro h1 hm s ρ l R hs hR
      rw [s2_at m c t h z, if_neg (by omega)]
      exact I.r1 h1 hm s ρ l R hs hR
    · intro h1 hm s ρ l R hs hR
      rw [s2_at m c t h z, if_neg (by omega)]
      exact I.r2 h1 hm s ρ l R hs hR
    · intro h1 hm j ρ γ R C hj hR hC
      refine (congrFun (s1_next m c t (by omega) h) _).trans ((n_read ..).trans ?_)
      split
      · next hjj =>
        subst hjj
        exact acc_at m c t (by omega) h ρ γ R C hC (q (by omega) ρ R hR)
      · next hjj =>
        have : j.val ≠ t.val % 8 := fun e => hjj (Fin.ext e)
        exact I.nnow h1 hm j ρ γ R C (by omega) hR hC
    · intro h1 hm j ρ γ R C hj hR hC
      refine (congrFun (s1_next m c t (by omega) h) _).trans ((n_read ..).trans ?_)
      rw [if_neg (fun e : j = jj t => by have := congrArg Fin.val e; change j.val = t.val % 8 at this; omega)]
      exact I.nold h1 hm j ρ γ R C (by omega) hR hC
    · intro h1 hm _ s ρ l R hs hR
      refine (congrFun (s3_next m c t (by omega) h) _).trans ((s_read ..).trans ?_)
      rw [if_pos (Fin.ext hs), part_succ]
      congr 1
      · split
        · next hz => rw [hz, part_zero]
        · exact I.cnow h1 hm (by omega) _ ρ l R rfl hR
      · refine Finset.sum_congr rfl fun b _ => ?_
        have hb : 512 * (t.val % 8) + (128 * b.val + l.val) < 4096 := by omega
        rw [acc_at m c t (by omega) h ρ (col b l) R ⟨_, hb⟩ rfl (q (by omega) ρ R hR), X2_eq m c t (by omega) h ρ (col b l) R ⟨_, hb⟩ hR rfl,
          I.r1 h1 hm (rs t 2) ρ 0 R rfl hR, G4_eq m c t (col b l) ⟨_, hb⟩ rfl, shareN, dif_pos hb]
        rfl
    · intro h1 hm s ρ l R hs hR
      refine (congrFun (s3_next m c t (by omega) h) _).trans ((s_read ..).trans ?_)
      rw [if_neg (fun e : s = qs t => by have := congrArg Fin.val e; change s.val = (t.val / 8 + 1) % 2 at this; omega)]
      exact I.cold h1 hm s ρ l R hs hR
  · obtain ⟨e0, e1, e2, e3⟩ := last_same m c t (by omega)
    rw [e0, e1, e2, e3]
    exact ⟨fun hm => absurd hm (by omega), fun _ hm => absurd hm (by omega), fun hm => absurd hm (by omega), fun _ hm => absurd hm (by omega), I.r2,
      fun _ hm => absurd hm (by omega), fun h1 hm j ρ γ R C _ => I.nold h1 hm j ρ γ R C (by omega), fun _ hm => absurd hm (by omega), I.cold⟩

theorem first (z : t.val = 0) :
    Inv (Xa m c) (Γa m c) (Wa m c) (Sa m c) (Da m c) (now m c t).2.1 (now m c t).2.2.1 (now m c t).2.2.2.1 (now m c t).2.2.2.2 0 1 := by
  refine ⟨?_, fun h => absurd h (by omega), ?_, fun h => absurd h (by omega), fun h => absurd h (by omega), fun h => absurd h (by omega),
    fun h => absurd h (by omega), fun h => absurd h (by omega), fun h => absurd h (by omega)⟩
  · intro _ s ρ κ R hs hR hk
    obtain ⟨B, e⟩ := s0_first m c t z
    exact (congrFun e _).trans (s0_mem m c t B (by omega) s ρ κ R (by omega) (by omega) (by omega))
  · intro _ s ρ l R hs hR hk
    obtain ⟨B, e⟩ := s2_first m c t z
    have eq := qj_live t (by omega)
    rw [← (Memref.isWhole_whole _ : scM0_2.IsWhole).unread_read B] at e
    refine (congrFun e _).trans ((r_read ..).trans ?_)
    rw [if_pos (by omega)]
    exact rms_at m c t (by omega) _ R (by show R.val = 512 * (t.val / 8) + 128 * (qj t.val / 2) + ρ.val % 128; omega)

/-- The carried arrays after any point. -/
theorem inv (n : Nat) : ∀ t : Fin grid0.N, t.val = n →
    Inv (Xa m c) (Γa m c) (Wa m c) (Sa m c) (Da m c) (now m c t).2.1 (now m c t).2.2.1 (now m c t).2.2.2.1 (now m c t).2.2.2.2
      (t.val / 8) (t.val % 8 + 1) := by
  induction n with
  | zero =>
    intro t ht
    rw [show t.val / 8 = 0 by omega, show t.val % 8 + 1 = 1 by omega]
    exact first m c t ht
  | succ n ih =>
    intro t ht
    refine step m c t ?_ (by omega)
    have hlt : t.val - 1 < grid0.N := Nat.lt_of_le_of_lt (Nat.sub_le _ _) t.isLt
    have I := ih ⟨t.val - 1, hlt⟩ (by show t.val - 1 = n; omega)
    change Inv _ _ _ _ _ (prev m c t).2.1 (prev m c t).2.2.1 (prev m c t).2.2.2.1 (prev m c t).2.2.2.2 ((t.val - 1) / 8) ((t.val - 1) % 8 + 1) at I
    by_cases h : t.val % 8 = 0
    · rw [show (t.val - 1) % 8 + 1 = 8 by omega] at I
      have := I.roll
      rwa [show (t.val - 1) / 8 + 1 = t.val / 8 by omega, ← h] at this
    · rwa [show (t.val - 1) / 8 = t.val / 8 by omega, show (t.val - 1) % 8 + 1 = t.val % 8 by omega] at I

/-- The carried arrays before a point. -/
theorem before (z : t.val ≠ 0) : Inv (Xa m c) (Γa m c) (Wa m c) (Sa m c) (Da m c) (prev m c t).2.1 (prev m c t).2.2.1 (prev m c t).2.2.2.1 (prev m c t).2.2.2.2
      (t.val / 8) (t.val % 8) := by
  have hlt : t.val - 1 < grid0.N := Nat.lt_of_le_of_lt (Nat.sub_le _ _) t.isLt
  have I := inv m c (t.val - 1) ⟨t.val - 1, hlt⟩ rfl
  change Inv _ _ _ _ _ (prev m c t).2.1 (prev m c t).2.2.1 (prev m c t).2.2.2.1 (prev m c t).2.2.2.2 ((t.val - 1) / 8) ((t.val - 1) % 8 + 1) at I
  by_cases h : t.val % 8 = 0
  · rw [show (t.val - 1) % 8 + 1 = 8 by omega] at I
    have := I.roll
    rwa [show (t.val - 1) / 8 + 1 = t.val / 8 by omega, ← h] at this
  · rwa [show (t.val - 1) / 8 = t.val / 8 by omega, show (t.val - 1) % 8 + 1 = t.val % 8 by omega] at I

/-! ### The finished block -/

section
variable (X : Vec Ideal S12288x4096 .bf16) (Γ : Vec Ideal S1x4096 .f32) (W : Vec Ideal S4096x11008 .fp8e4m3)
  (S : Vec Ideal S32x86 .f32) (D : Vec Ideal S12288x11008 .bf16)

/-- The lanes' shares over all column blocks are the row's. -/
theorem part_all (R : Fin 12288) : ∑ l : Fin 128, part X Γ W S D R l 8 = ∑ C : Fin 4096, share X Γ W S D R C := by
  have e : ∑ C : Fin 4096, share X Γ W S D R C = ∑ n ∈ Finset.range (8 * 4 * 128), shareN X Γ W S D R n := by
    rw [Finset.sum_range]
    exact Finset.sum_congr rfl fun C _ => by rw [shareN, dif_pos C.isLt]
  have blocks (f : Nat → EReal) (a b : Nat) : ∑ n ∈ Finset.range (a * b), f n = ∑ i ∈ Finset.range a, ∑ k ∈ Finset.range b, f (b * i + k) := by
    induction a with
    | zero => simp
    | succ a ih => rw [Nat.succ_mul, Finset.sum_range_add, ih, Finset.sum_range_succ, Nat.mul_comm a b]
  rw [e, blocks, blocks]
  unfold part
  rw [Finset.sum_comm]
  refine Finset.sum_congr rfl fun j _ => ?_
  rw [Finset.sum_comm, Finset.sum_range]
  refine Finset.sum_congr rfl fun b _ => ?_
  rw [Finset.sum_range]
  refine Finset.sum_congr rfl fun l _ => ?_
  congr 1
  omega
end

/-- A finished block is its block of the input gradient. -/
theorem out_at (h : 16 ≤ t.val) (ρ γ : Fin 512) (R : Fin 12288) (C : Fin 4096) (hR : R.val + 1024 = 512 * (t.val / 8) + ρ.val)
    (hC : C.val = 512 * (t.val % 8) + γ.val) :
    (now m c t).1 (ix2 ρ γ) = dx (Xa m c) (Γa m c) (Wa m c) (Sa m c) (Da m c) (ix2 R C) := by
  have hN : t.val < 208 := t.isLt
  obtain ⟨B, e⟩ := out_next m c t (by omega)
  have I := before m c t (by omega)
  refine (congrFun e _).trans ((o_read ..).trans ?_)
  rw [I.r2 (by omega) (by omega) (rs t 1) ρ 0 R rfl hR, I.nold (by omega) (by omega) (jj t) ρ γ R C (Or.inl (le_refl _)) hR hC,
    G4_eq m c t γ C hC, X3_eq m c t h ρ γ R C hR hC,
    Finset.sum_congr rfl fun l _ => I.cold (by omega) (by omega) (cs t) ρ l R rfl hR, part_all]
  rfl

end Cert.DgradIdeal.Dgrad

end
-- ==== Proof.DgFinal.lean ====
/-
  The input gradient's blocks put together: what the kernel's array holds after the run.
-/
module

public import proofs.«01_k».proof.Proof.DgFrame3
public import proofs.«01_k».proof.Proof.DgInv

@[expose] public section

set_option maxRecDepth 16384
set_option maxHeartbeats 1000000

noncomputable section

namespace Cert.DgradIdeal.Dgrad

open Cert.DgradIdeal Cert.DgradIdeal.Gen Idealize.ShloMosaic Idealize.ShloMosaic.TcCoe Idealize.SL Idealize.SL.Sem
open Idealize.ShloMosaic.Pipeline (Dat)

variable (m : (ℓ : Loc nD τ sig) → Buf (Elt Ideal) ℓ) (ρ : Dev nD → PrngReg)

/-- The input gradient of device `c`'s arguments. -/
abbrev dxOf (c : Dev nD) : Buf (Elt Ideal) ((c : Thread nD τ).loc main_v0_0) := dx (Xa m c) (Γa m c) (Wa m c) (Sa m c) (Da m c)

/-- What a point writes back is its block of the input gradient. -/
theorem flushed_eq (c : Dev nD) (t : Fin cfg0.N) (hf : (cfg0.win 8).flush t = true) :
    (dats m 0 c).flushed 8 t = ((cfg0.win 8).blk t).view.read (Elt Ideal) (dxOf m c) := by
  show (cfg0.win 8).cut (grid0.coords t) ((dats m 0 c).after 8 t) = _
  rw [after0_8]
  funext j
  have h16 : 16 ≤ t.val := (flush8 t).mp hf
  obtain ⟨e0, e1⟩ := at8 t h16
  have ht : t.val < 208 := t.isLt
  have hj0 : (j 0).val < 512 := (j 0).isLt
  have hj1 : (j 1).val < 512 := (j 1).isLt
  have hR : 512 * (t.val / 8 - 2) + (j 0).val < 12288 := by omega
  have hC : 512 * (t.val % 8) + (j 1).val < 4096 := by omega
  have hemb : ((cfg0.win 8).blk t).view.emb j = ix2 (⟨512 * (t.val / 8 - 2) + (j 0).val, hR⟩ : Fin 12288) (⟨512 * (t.val % 8) + (j 1).val, hC⟩ : Fin 4096) := by
    funext a; apply Fin.ext
    match a with
    | ⟨0, _⟩ => show win0_8.index t (0 : Fin 2) * 512 + 1 * (j 0).val = 512 * (t.val / 8 - 2) + (j 0).val; omega
    | ⟨1, _⟩ => show win0_8.index t (1 : Fin 2) * 512 + 1 * (j 1).val = 512 * (t.val % 8) + (j 1).val; omega
  show (now m c t).1 j = dxOf m c (((cfg0.win 8).blk t).view.emb j)
  rw [hemb]
  refine (congrArg (now m c t).1 (eq_ix2 j)).trans (out_at m c t h16 _ _ _ _ ?_ rfl)
  show 512 * (t.val / 8 - 2) + (j 0).val + 1024 = 512 * (t.val / 8) + (j 0).val
  omega

/-- The blocks tile the result. -/
theorem cover (i : S12288x4096.Idx) :
    ∃ t : Fin cfg0.N, (cfg0.win 8).flush t = true ∧ i ∈ ((cfg0.win 8).blk t).view.set := by
  have h0 : (i 0).val < 12288 := (i 0).isLt
  have h1 : (i 1).val < 4096 := (i 1).isLt
  have hb : 8 * ((i 0).val / 512 + 2) + (i 1).val / 512 < grid0.N := by rw [N_0]; omega
  refine ⟨⟨8 * ((i 0).val / 512 + 2) + (i 1).val / 512, hb⟩, (flush8 _).mpr (by show 16 ≤ 8 * ((i 0).val / 512 + 2) + (i 1).val / 512; omega), ?_⟩
  generalize ht : (⟨8 * ((i 0).val / 512 + 2) + (i 1).val / 512, hb⟩ : Fin cfg0.N) = t
  have hv : t.val = 8 * ((i 0).val / 512 + 2) + (i 1).val / 512 := by rw [← ht]
  obtain ⟨e0, e1⟩ := at8 t (by omega)
  show i ∈ ((View.whole main_v0_0).slice (win0_8.rect t)).set
  rw [View.set_slice_whole, Rect.mem_set_unit]
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 512 ≤ (i 1).val ∧ (i 1).val < win0_8.index t (1 : Fin 2) * 512 + 512
    omega

/-- The kernel's result array ends holding the input gradient. -/
theorem final (c : Dev nD) : (dats m 0 c).arrAt 8 cfg0.N = dxOf m c :=
  (dats m 0 c).arrAt_eq_of_cover 8 (dxOf m c) (fun t hf => flushed_eq m c t hf) cover

theorem run : θ_run defs (onTc (τ := τ) (main (F := Ideal))) ⟨m, fun _ => 0, ρ⟩ fun r => ∀ c : Dev nD,
      r.2.mem ((c : Thread nD τ).loc main_v0_0) = dxOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(((dats m 0 c).toRForget_arrAt_iff forgets0_8 cfg0.N _).mp ((h c).1 8)).trans (final m c),
      (Pipeline.RDat.FramePost.arr_in h c 3 rfl).trans ((A_eq m c 3).trans (V_main_arg0 m c)),
      (Pipeline.RDat.FramePost.arr_in h c 5 rfl).trans ((A_eq m c 5).trans (V_main_arg1 m c)),
      (Pipeline.RDat.FramePost.arr_in h c 6 rfl).trans ((A_eq m c 6).trans (V_main_arg2 m c)),
      (Pipeline.RDat.FramePost.arr_in h c 7 rfl).trans ((A_eq m c 7).trans (V_main_arg3 m c)),
      (Pipeline.RDat.FramePost.arr_in h c 0 rfl).trans ((A_eq m c 0).trans (V_main_arg4 m c))⟩)
    (run_main m ρ)

end Cert.DgradIdeal.Dgrad

end
-- ==== Proof.DgSame.lean ====
/-
  No rule rewrites the input gradient's program, so the program at the machine's formats is the same
  text as the ideal one: its body, its table and its main are equal to the ideal program's, and what
  is proved of the ideal program in any format holds of it.
-/
module

public import proofs.«01_k».proof.Defs
public import proofs.«01_k».proof.Proof.DgFinal
public import proofs.«01_k».proof.Proof.Gen.Dgrad

@[expose] public section

set_option maxRecDepth 100000
set_option maxHeartbeats 20000000

namespace Cert.Dgrad.Same

open Idealize.ShloMosaic Idealize.SL.Sem

variable {F : FTy → Type} [FloatOps F]

/-- The two bodies. -/
theorem body : Cert.Dgrad.cc0_dgrad (F := F) = Cert.DgradIdeal.cc0_dgrad (F := F) := rfl

/-- The two tables of bodies. -/
theorem table : Cert.Dgrad.defs₀ (F := F) = Cert.DgradIdeal.defs₀ (F := F) := by
  unfold Cert.Dgrad.defs₀ Cert.DgradIdeal.defs₀
  refine congrArg Defs.onTc (funext fun l => funext fun a => ?_)
  match l, a with
  | 0, (t, s) => rw [body]; rfl
  | ⟨n + 1, hn⟩, _ => exact absurd hn (Nat.not_lt.2 (Nat.le_add_left _ _))

/-- The two tables with the pipeline's labels. -/
theorem defs : Cert.Dgrad.defs (F := F) = Cert.DgradIdeal.defs (F := F) := by
  unfold Cert.Dgrad.defs
  rw [table]
  rfl

/-- The two mains. -/
theorem main : Cert.Dgrad.main (F := F) = Cert.DgradIdeal.main (F := F) := rfl

/-- The program runs, keeps its arguments and leaves every counter at zero. -/
theorem quiescent : Cert.quiescent_Dgrad := by
  intro m ρ _
  rw [defs, main]
  exact Cert.DgradIdeal.Gen.frame (F := Bits) m ρ

end Cert.Dgrad.Same
-- ==== Proof.DgRef.lean ====
/-
  The reference read at an index: the input gradient.
-/
module

public import proofs.«01_k».proof.Proof.DgSpec
public import proofs.«01_k».proof.Proof.Gen.DgradReferenceIdeal.Value

@[expose] public section

set_option maxRecDepth 16384
set_option maxHeartbeats 1000000

noncomputable section

namespace Cert.DgradReferenceIdeal.Dgrad

open Cert.DgradReferenceIdeal Cert.DgradReferenceIdeal.Gen Idealize.ShloMosaic Idealize.ShloMosaic.TcCoe Idealize.SL.Sem
open Cert.DgradIdeal.Dgrad (expo quant rms dyq wide dxn rr share mean dx)
open scoped BigOperators

variable (X : Vec Ideal S12288x4096 .bf16) (Γ : Vec Ideal S1x4096 .f32) (W : Vec Ideal S4096x11008 .fp8e4m3)
  (S : Vec Ideal S32x86 .f32) (D : Vec Ideal S12288x11008 .bf16)

/-- A mean over 4096 entries, divided or multiplied out. -/
theorem mean_eq (x : EReal) : Ideal.div x (Ideal.ofBits .f32 0x45800000#32) = x * Ideal.ofBits .f32 0x39800000#32 := by
  have h : Ideal.ofBits .f32 0x45800000#32 = ((4096 : ℝ) : EReal) := by
    simp [Ideal.ofBits, Ideal.ieee, -EReal.coe_mul]; norm_num
  have h' : Ideal.ofBits .f32 0x39800000#32 = (((4096 : ℝ)⁻¹ : ℝ) : EReal) := by
    simp [Ideal.ofBits, Ideal.ieee, -EReal.coe_mul]; norm_num
  rw [h, h', Ideal.div_coe (by norm_num : (4096 : ℝ) ≠ 0), one_div]

/-- The largest magnitude of each group. -/
def big (v : FVec Ideal S12288x86x128 .f32) : FVec Ideal S12288x86x1 .f32 :=
  shapeCast S12288x86x1 (multiReduction .maximumf [2] S12288x86 (absf v) 0xFF800000#32 reduces_S12288x86x128_S12288x86 (.inl rfl) rfl) shapeCasts_S12288x86_S12288x86x1

/-- A group's exponent, of its largest magnitude. -/
def power (v17 : FVec Ideal S12288x86x1 .f32) : FVec Ideal S12288x86x1 .f32 :=
  have cst_6 : Ideal .f32 := Scalar.ofBits .f32 0x37924925#32
  have v18 : FVec Ideal S12288x86x1 .f32 := broadcast S12288x86x1 cst_6
  have v19 : FVec Ideal S12288x86x1 .f32 := mulf v17 v18
  have cst_7 : Ideal .f32 := Scalar.ofBits .f32 0x00000000#32
  have v20 : FVec Ideal S12288x86x1 .f32 := broadcast S12288x86x1 cst_7
  have v21 : IVec S12288x86x1 1 := cmpf .oeq v19 v20
  have v22 : FVec Ideal S12288x86x1 .f32 := log v19
  have cst_8 : Ideal .f32 := Scalar.ofBits .f32 0x40000000#32
  have v23 : FVec Ideal S12288x86x1 .f32 := broadcast S12288x86x1 cst_8
  have v24 : FVec Ideal S12288x86x1 .f32 := log v23
  have v25 : FVec Ideal S12288x86x1 .f32 := divf v22 v24
  have v26 : FVec Ideal S12288x86x1 .f32 := floor v25
  have cst_9 : Ideal .f32 := Scalar.ofBits .f32 0x3F800000#32
  have v27 : FVec Ideal S12288x86x1 .f32 := broadcast S12288x86x1 cst_9
  have v28 : FVec Ideal S12288x86x1 .f32 := addf v26 v27
  have cst_10 : Ideal .f32 := Scalar.ofBits .f32 0x00000000#32
  have v29 : FVec Ideal S12288x86x1 .f32 := broadcast S12288x86x1 cst_10
  have v30 : FVec Ideal S12288x86x1 .f32 := select v21 v29 v28
  v30

/-- The clipped codes, of the groups and their exponents. -/
def cod (v : FVec Ideal S12288x86x128 .f32) (e : FVec Ideal S12288x86x1 .f32) : FVec Ideal S12288x86x128 .bf16 :=
  have cst_11 : Ideal .f32 := Scalar.ofBits .f32 0x00000000#32
  have v31 : FVec Ideal S12288x86x1 .f32 := broadcast S12288x86x1 cst_11
  have v32 : FVec Ideal S12288x86x1 .f32 := subf v31 e
  have v33 : FVec Ideal S12288x86x1 .f32 := exp2 v32
  have v34 : FVec Ideal S12288x86x128 .f32 := broadcastTo S12288x86x128 v33 broadcasts_S12288x86x1_S12288x86x128
  have v35 : FVec Ideal S12288x86x128 .f32 := mulf v v34
  have cst_12 : Ideal .f32 := Scalar.ofBits .f32 0xC7600000#32
  have cst_13 : Ideal .f32 := Scalar.ofBits .f32 0x47600000#32
  have v36 : FVec Ideal S12288x86x128 .f32 := broadcast S12288x86x128 cst_12
  have v37 : FVec Ideal S12288x86x128 .f32 := maximumf v36 v35
  have v38 : FVec Ideal S12288x86x128 .f32 := broadcast S12288x86x128 cst_13
  have v39 : FVec Ideal S12288x86x128 .f32 := minimumf v38 v37
  have v40 : FVec Ideal S12288x86x128 .fp8e5m2 := truncf .fp8e5m2 v39 bitsLt_fp8e5m2_f32
  have v41 : FVec Ideal S12288x86x128 .bf16 := extf .bf16 v40 bitsLt_fp8e5m2_bf16
  v41

theorem power_eq : k0_pay6 D = power (big (k0_pay5 D)) := rfl
theorem cod_eq : k0_pay7 D = cod (k0_pay5 D) (k0_pay6 D) := rfl
theorem scale_eq : k0_pay8 D = truncf .bf16 (exp2 (k0_pay6 D)) bitsLt_bf16_f32 := rfl

theorem big_apply (v : FVec Ideal S12288x86x128 .f32) (R : Fin 12288) (g : Fin 86) :
    (big v (ix3 R g 0) : EReal) = Finset.fold max (Ideal.ofBits .f32 0xFF800000#32) (fun u => FloatOps.absf (F := Ideal) (φ := .f32) (v (ix3 R g u))) Finset.univ := by
  unfold big
  pointwise

theorem power_apply (v : FVec Ideal S12288x86x1 .f32) (i : S12288x86x1.Idx) :
    power v i = if (v i * Ideal.ofBits .f32 0x37924925#32 : EReal) = 0 then (0 : EReal) else
      Ideal.liftRound Int.floor (Ideal.div (Ideal.log (v i * Ideal.ofBits .f32 0x37924925#32)) (Ideal.log (Ideal.ofBits .f32 0x40000000#32))) + 1 := by
  unfold power
  pointwise

theorem cod_apply (v : FVec Ideal S12288x86x128 .f32) (e : FVec Ideal S12288x86x1 .f32) (R : Fin 12288) (g : Fin 86) (l : Fin 128) :
    cod v e (ix3 R g l) = min (Ideal.ofBits .f32 0x47600000#32) (max (Ideal.ofBits .f32 0xC7600000#32)
      ((v (ix3 R g l) : EReal) * FloatOps.exp2 (F := Ideal) (φ := .f32) (0 - e (ix3 R g 0)))) := by
  unfold cod
  pointwise

theorem scale_apply (v : FVec Ideal S12288x86x1 .f32) (i : S12288x86x1.Idx) :
    (truncf .bf16 (exp2 v) bitsLt_bf16_f32 : FVec Ideal S12288x86x1 .bf16) i = FloatOps.exp2 (F := Ideal) (φ := .f32) (v i) := rfl

theorem pay5_apply (R : Fin 12288) (g : Fin 86) (u : Fin 128) :
    k0_pay5 D (ix3 R g u) = D (ix2 R (⟨128 * g.val + u.val, by omega⟩ : Fin 11008)) := by
  unfold k0_pay5
  pointwise
  congr 2
  apply Fin.ext
  show g.val * 128 + u.val = 128 * g.val + u.val
  omega

theorem pay3_apply (R : Fin 12288) : k0_pay3 X (ix2 R 0) = rr X R := by
  unfold k0_pay3 k0_pay2
  pointwise
  rw [mean_eq]
  rfl

theorem pay4_apply (R : Fin 12288) (C : Fin 4096) : k0_pay4 X (ix2 R C) = (X (ix2 R C) : EReal) * rr X R := by
  unfold k0_pay4 k0_pay2
  pointwise
  rw [pay3_apply]

theorem pay1_apply (v9 : FVec Ideal S12288x1 .f32) (v11 : FVec Ideal S12288x4096 .f32) (v41 : FVec Ideal S12288x86x128 .bf16)
    (v43 : FVec Ideal S12288x86x1 .bf16) (R : Fin 12288) (C : Fin 4096)
    (q : Fin 11008 → EReal) (hq : ∀ o : Fin 11008, (v41 (ix3 R (⟨o.val / 128, by omega⟩ : Fin 86) (⟨o.val % 128, by omega⟩ : Fin 128)) : EReal)
      * v43 (ix3 R (⟨o.val / 128, by omega⟩ : Fin 86) 0) = q o) :
    k0_pay1 v9 v11 v41 v43 W S Γ (ix2 R C) = (v9 (ix2 R 0) : EReal) * ((∑ o, q o * wide W S C o) * Γ (ix2 0 C)
      - (v11 (ix2 R C) : EReal) * ((∑ K : Fin 4096, ((∑ o, q o * wide W S K o) * Γ (ix2 0 K)) * (v11 (ix2 R K) : EReal)) * Ideal.ofBits .f32 0x39800000#32)) := by
  unfold k0_pay1
  pointwise
  simp only [hq, mean_eq]
  rfl

theorem pay6_apply (R : Fin 12288) (g : Fin 86) :
    k0_pay6 D (ix3 R g 0) = expo fun u => D (ix2 R (⟨128 * g.val + u.val, by omega⟩ : Fin 11008)) := by
  rw [power_eq, power_apply, big_apply]
  simp only [pay5_apply]
  rfl

theorem pay8_apply (R : Fin 12288) (g : Fin 86) :
    k0_pay8 D (ix3 R g 0) = FloatOps.exp2 (F := Ideal) (φ := .f32) (expo fun u => D (ix2 R (⟨128 * g.val + u.val, by omega⟩ : Fin 11008))) := by
  rw [scale_eq, scale_apply, pay6_apply]

theorem pay7_apply (R : Fin 12288) (g : Fin 86) (l : Fin 128) :
    k0_pay7 D (ix3 R g l) = min (Ideal.ofBits .f32 0x47600000#32) (max (Ideal.ofBits .f32 0xC7600000#32)
      ((D (ix2 R (⟨128 * g.val + l.val, by omega⟩ : Fin 11008)) : EReal) * FloatOps.exp2 (F := Ideal) (φ := .f32)
        (0 - expo fun u => D (ix2 R (⟨128 * g.val + u.val, by omega⟩ : Fin 11008))))) := by
  rw [cod_eq, cod_apply, pay6_apply, pay5_apply]

theorem value_eq : Value.G5 X Γ W S D = dx X Γ W S D := by
  funext i
  obtain ⟨R, C, rfl⟩ : ∃ R C, i = ix2 R C := ⟨i 0, i 1, by funext k; match k with | ⟨0, _⟩ => rfl | ⟨1, _⟩ => rfl⟩
  refine (pay1_apply Γ W S _ _ _ _ R C (fun o => dyq D R o) fun o => ?_).trans ?_
  · rw [pay7_apply, pay8_apply]
    rfl
  · rw [pay3_apply, pay4_apply]
    simp only [pay4_apply]
    refine congrArg (fun z : EReal => rr X R * (dxn W S D R C * Γ (ix2 0 C) - ((X (ix2 R C) : EReal) * rr X R) * (z * Ideal.ofBits .f32 0x39800000#32))) ?_
    exact Finset.sum_congr rfl fun K _ => mul_right_comm (dxn W S D R K) (Γ (ix2 0 K)) ((X (ix2 R K) : EReal) * rr X R)

end Cert.DgradReferenceIdeal.Dgrad

end
-- ==== Proof.lean ====
module

public import proofs.«01_k».proof.Defs
public import proofs.«01_k».proof.Proof.Gen.Dgrad
public import proofs.«01_k».proof.Proof.Gen.DgradReferenceIdeal
public import proofs.«01_k».proof.Proof.Gen.DgradReferenceIdeal.Value
public import proofs.«01_k».proof.Proof.Gen.DgradReferenceIdeal.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Wgrad
public import proofs.«01_k».proof.Proof.DgSame
public import proofs.«01_k».proof.Proof.DgRef
public import Idealize.ShloMosaic.Adequacy
public import Idealize.ShloMosaic.Init

@[expose] public section

noncomputable section

namespace Cert.Proof

open Idealize.ShloMosaic Idealize.SL.Sem Cert.Kernel

/-- The two weight gradients are one function of the arguments. -/
theorem algebraic : @Cert.algebraic_KernelIdeal_ReferenceIdeal Cert.KernelIdeal.Gen.facts Cert.ReferenceIdeal.Gen.facts :=
  fun m ρ m' ρ' _ hag =>
    ⟨fun c => Cert.KernelIdeal.Wgrad.dwOf m c, Cert.KernelIdeal.Wgrad.run m ρ,
      (θ_run _ _ _).mono (fun _ h c => ⟨(h c).1.trans (by
        rw [Cert.ReferenceIdeal.Wgrad.value_eq, (hag c).1, (hag c).2.1, (hag c).2.2]), (h c).2⟩)
        (Cert.ReferenceIdeal.Value.run m' ρ')⟩

/-- The two input gradients are one function of the arguments. -/
theorem dgrad_algebraic : @Cert.algebraic_DgradIdeal_DgradReferenceIdeal Cert.DgradIdeal.Gen.facts Cert.DgradReferenceIdeal.Gen.facts :=
  fun m ρ m' ρ' _ hag =>
    ⟨fun c => Cert.DgradIdeal.Dgrad.dxOf m c, Cert.DgradIdeal.Dgrad.run m ρ,
      (θ_run _ _ _).mono (fun _ h c => ⟨(h c).1.trans (by
        rw [Cert.DgradReferenceIdeal.Dgrad.value_eq, (hag c).1, (hag c).2.1, (hag c).2.2.1, (hag c).2.2.2.1, (hag c).2.2.2.2]), (h c).2⟩)
        (Cert.DgradReferenceIdeal.Value.run m' ρ')⟩

theorem claim : Cert.Claim := ⟨Cert.Dgrad.Gen.facts, Cert.DgradIdeal.Gen.facts, Cert.DgradReferenceIdeal.Gen.facts,
  Cert.Kernel.Gen.facts, Cert.KernelIdeal.Gen.facts, Cert.ReferenceIdeal.Gen.facts,
  Cert.Dgrad.Same.quiescent, fun m ρ _ => Cert.DgradIdeal.Gen.frame m ρ,
  fun m ρ _ => Cert.DgradReferenceIdeal.Gen.frame m ρ,
  fun m ρ _ => Cert.Kernel.Gen.frame m ρ, fun m ρ _ => Cert.KernelIdeal.Gen.frame m ρ,
  fun m ρ _ => Cert.ReferenceIdeal.Gen.frame m ρ, trivial, dgrad_algebraic, trivial, algebraic⟩

end Cert.Proof

end
